-- ==== Defs.lean ====
def Pre_Moe [hPre_group_ends : Cert.Pre_group_ends.Facts] (m : (ℓ : Loc Cert.Moe.nD Cert.Moe.τ Cert.Moe.sig) → Buf (Elt Bits) ℓ) : Prop :=
  ∀ c : Dev Cert.Moe.nD,
    (Cert.Pre_group_ends.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4))) = (fun _ => 1#1)

def Pre_MoeIdeal [hPre_group_ends : Cert.Pre_group_ends.Facts] (m : (ℓ : Loc Cert.MoeIdeal.nD Cert.MoeIdeal.τ Cert.MoeIdeal.sig) → Buf (Elt Ideal) ℓ) : Prop :=
  ∀ c : Dev Cert.MoeIdeal.nD,
    (Cert.Pre_group_ends.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4))) = (fun _ => 1#1)

def Pre_MoeRefIdeal [hPre_group_ends : Cert.Pre_group_ends.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_group_ends.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Comb [hPre_rows_exist : Cert.Pre_rows_exist.Facts] (m : (ℓ : Loc Cert.Comb.nD Cert.Comb.τ Cert.Comb.sig) → Buf (Elt Bits) ℓ) : Prop :=
  ∀ c : Dev Cert.Comb.nD,
    (Cert.Pre_rows_exist.fn (F := Bits) (m ((c.tc : Thread Cert.Comb.nD Cert.Comb.τ).loc Cert.Comb.main_arg0)) (m ((c.tc : Thread Cert.Comb.nD Cert.Comb.τ).loc Cert.Comb.main_arg1)) (m ((c.tc : Thread Cert.Comb.nD Cert.Comb.τ).loc Cert.Comb.main_arg2)) (m ((c.tc : Thread Cert.Comb.nD Cert.Comb.τ).loc Cert.Comb.main_arg3)) (m ((c.tc : Thread Cert.Comb.nD Cert.Comb.τ).loc Cert.Comb.main_arg4))) = (fun _ => 1#1)

def Pre_CombIdeal [hPre_rows_exist : Cert.Pre_rows_exist.Facts] (m : (ℓ : Loc Cert.CombIdeal.nD Cert.CombIdeal.τ Cert.CombIdeal.sig) → Buf (Elt Ideal) ℓ) : Prop :=
  ∀ c : Dev Cert.CombIdeal.nD,
    (Cert.Pre_rows_exist.fn (F := Ideal) (m ((c.tc : Thread Cert.CombIdeal.nD Cert.CombIdeal.τ).loc Cert.CombIdeal.main_arg0)) (m ((c.tc : Thread Cert.CombIdeal.nD Cert.CombIdeal.τ).loc Cert.CombIdeal.main_arg1)) (m ((c.tc : Thread Cert.CombIdeal.nD Cert.CombIdeal.τ).loc Cert.CombIdeal.main_arg2)) (m ((c.tc : Thread Cert.CombIdeal.nD Cert.CombIdeal.τ).loc Cert.CombIdeal.main_arg3)) (m ((c.tc : Thread Cert.CombIdeal.nD Cert.CombIdeal.τ).loc Cert.CombIdeal.main_arg4))) = (fun _ => 1#1)

def Pre_CombRefIdeal [hPre_rows_exist : Cert.Pre_rows_exist.Facts] (m : (ℓ : Loc Cert.CombRefIdeal.nD Cert.CombRefIdeal.τ Cert.CombRefIdeal.sig) → Buf (Elt Ideal) ℓ) : Prop :=
  ∀ c : Dev Cert.CombRefIdeal.nD,
    (Cert.Pre_rows_exist.fn (F := Ideal) (m ((c.tc : Thread Cert.CombRefIdeal.nD Cert.CombRefIdeal.τ).loc Cert.CombRefIdeal.main_arg0)) (m ((c.tc : Thread Cert.CombRefIdeal.nD Cert.CombRefIdeal.τ).loc Cert.CombRefIdeal.main_arg1)) (m ((c.tc : Thread Cert.CombRefIdeal.nD Cert.CombRefIdeal.τ).loc Cert.CombRefIdeal.main_arg2)) (m ((c.tc : Thread Cert.CombRefIdeal.nD Cert.CombRefIdeal.τ).loc Cert.CombRefIdeal.main_arg3)) (m ((c.tc : Thread Cert.CombRefIdeal.nD Cert.CombRefIdeal.τ).loc Cert.CombRefIdeal.main_arg4))) = (fun _ => 1#1)

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def quiescent_Moe [hMoe : Cert.Moe.Facts] [hPre_group_ends : Cert.Pre_group_ends.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4))
      ∧ r.2.sem = fun _ => 0)

def quiescent_MoeIdeal [hMoeIdeal : Cert.MoeIdeal.Facts] [hPre_group_ends : Cert.Pre_group_ends.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4))
      ∧ r.2.sem = fun _ => 0)

def quiescent_MoeRefIdeal [hMoeRefIdeal : Cert.MoeRefIdeal.Facts] [hPre_group_ends : Cert.Pre_group_ends.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Comb [hComb : Cert.Comb.Facts] [hPre_rows_exist : Cert.Pre_rows_exist.Facts] : Prop :=
  ∀ (m : (ℓ : Loc Cert.Comb.nD Cert.Comb.τ Cert.Comb.sig) → Buf (Elt Bits) ℓ) (g : Dev Cert.Comb.nD → PrngReg), Pre_Comb m →
    θ_run (Cert.Comb.defs (F := Bits)) (onTc (τ := Cert.Comb.τ) (Cert.Comb.main (F := Bits))) ⟨m, fun _ => 0, g⟩ (fun r => (∀ c : Dev Cert.Comb.nD,
      r.2.mem ((c.tc : Thread Cert.Comb.nD Cert.Comb.τ).loc Cert.Comb.main_arg0) = m ((c.tc : Thread Cert.Comb.nD Cert.Comb.τ).loc Cert.Comb.main_arg0)
      ∧ r.2.mem ((c.tc : Thread Cert.Comb.nD Cert.Comb.τ).loc Cert.Comb.main_arg1) = m ((c.tc : Thread Cert.Comb.nD Cert.Comb.τ).loc Cert.Comb.main_arg1)
      ∧ r.2.mem ((c.tc : Thread Cert.Comb.nD Cert.Comb.τ).loc Cert.Comb.main_arg2) = m ((c.tc : Thread Cert.Comb.nD Cert.Comb.τ).loc Cert.Comb.main_arg2)
      ∧ r.2.mem ((c.tc : Thread Cert.Comb.nD Cert.Comb.τ).loc Cert.Comb.main_arg3) = m ((c.tc : Thread Cert.Comb.nD Cert.Comb.τ).loc Cert.Comb.main_arg3)
      ∧ r.2.mem ((c.tc : Thread Cert.Comb.nD Cert.Comb.τ).loc Cert.Comb.main_arg4) = m ((c.tc : Thread Cert.Comb.nD Cert.Comb.τ).loc Cert.Comb.main_arg4))
      ∧ r.2.sem = fun _ => 0)

def quiescent_CombIdeal [hCombIdeal : Cert.CombIdeal.Facts] [hPre_rows_exist : Cert.Pre_rows_exist.Facts] : Prop :=
  ∀ (m : (ℓ : Loc Cert.CombIdeal.nD Cert.CombIdeal.τ Cert.CombIdeal.sig) → Buf (Elt Ideal) ℓ) (g : Dev Cert.CombIdeal.nD → PrngReg), Pre_CombIdeal m →
    θ_run (Cert.CombIdeal.defs (F := Ideal)) (onTc (τ := Cert.CombIdeal.τ) (Cert.CombIdeal.main (F := Ideal))) ⟨m, fun _ => 0, g⟩ (fun r => (∀ c : Dev Cert.CombIdeal.nD,
      r.2.mem ((c.tc : Thread Cert.CombIdeal.nD Cert.CombIdeal.τ).loc Cert.CombIdeal.main_arg0) = m ((c.tc : Thread Cert.CombIdeal.nD Cert.CombIdeal.τ).loc Cert.CombIdeal.main_arg0)
      ∧ r.2.mem ((c.tc : Thread Cert.CombIdeal.nD Cert.CombIdeal.τ).loc Cert.CombIdeal.main_arg1) = m ((c.tc : Thread Cert.CombIdeal.nD Cert.CombIdeal.τ).loc Cert.CombIdeal.main_arg1)
      ∧ r.2.mem ((c.tc : Thread Cert.CombIdeal.nD Cert.CombIdeal.τ).loc Cert.CombIdeal.main_arg2) = m ((c.tc : Thread Cert.CombIdeal.nD Cert.CombIdeal.τ).loc Cert.CombIdeal.main_arg2)
      ∧ r.2.mem ((c.tc : Thread Cert.CombIdeal.nD Cert.CombIdeal.τ).loc Cert.CombIdeal.main_arg3) = m ((c.tc : Thread Cert.CombIdeal.nD Cert.CombIdeal.τ).loc Cert.CombIdeal.main_arg3)
      ∧ r.2.mem ((c.tc : Thread Cert.CombIdeal.nD Cert.CombIdeal.τ).loc Cert.CombIdeal.main_arg4) = m ((c.tc : Thread Cert.CombIdeal.nD Cert.CombIdeal.τ).loc Cert.CombIdeal.main_arg4))
      ∧ r.2.sem = fun _ => 0)

def quiescent_CombRefIdeal [hCombRefIdeal : Cert.CombRefIdeal.Facts] [hPre_rows_exist : Cert.Pre_rows_exist.Facts] : Prop :=
  ∀ (m : (ℓ : Loc Cert.CombRefIdeal.nD Cert.CombRefIdeal.τ Cert.CombRefIdeal.sig) → Buf (Elt Ideal) ℓ) (g : Dev Cert.CombRefIdeal.nD → PrngReg), Pre_CombRefIdeal m →
    θ_run (Cert.CombRefIdeal.defs (F := Ideal)) (onTc (τ := Cert.CombRefIdeal.τ) (Cert.CombRefIdeal.main (F := Ideal))) ⟨m, fun _ => 0, g⟩ (fun r => (∀ c : Dev Cert.CombRefIdeal.nD,
      r.2.mem ((c.tc : Thread Cert.CombRefIdeal.nD Cert.CombRefIdeal.τ).loc Cert.CombRefIdeal.main_arg0) = m ((c.tc : Thread Cert.CombRefIdeal.nD Cert.CombRefIdeal.τ).loc Cert.CombRefIdeal.main_arg0)
      ∧ r.2.mem ((c.tc : Thread Cert.CombRefIdeal.nD Cert.CombRefIdeal.τ).loc Cert.CombRefIdeal.main_arg1) = m ((c.tc : Thread Cert.CombRefIdeal.nD Cert.CombRefIdeal.τ).loc Cert.CombRefIdeal.main_arg1)
      ∧ r.2.mem ((c.tc : Thread Cert.CombRefIdeal.nD Cert.CombRefIdeal.τ).loc Cert.CombRefIdeal.main_arg2) = m ((c.tc : Thread Cert.CombRefIdeal.nD Cert.CombRefIdeal.τ).loc Cert.CombRefIdeal.main_arg2)
      ∧ r.2.mem ((c.tc : Thread Cert.CombRefIdeal.nD Cert.CombRefIdeal.τ).loc Cert.CombRefIdeal.main_arg3) = m ((c.tc : Thread Cert.CombRefIdeal.nD Cert.CombRefIdeal.τ).loc Cert.CombRefIdeal.main_arg3)
      ∧ r.2.mem ((c.tc : Thread Cert.CombRefIdeal.nD Cert.CombRefIdeal.τ).loc Cert.CombRefIdeal.main_arg4) = m ((c.tc : Thread Cert.CombRefIdeal.nD Cert.CombRefIdeal.τ).loc Cert.CombRefIdeal.main_arg4))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11)
      ∧ r.2.mem ((c.tc : Thread Cert.Mix.nD Cert.Mix.τ).loc Cert.Mix.main_arg12) = m ((c.tc : Thread Cert.Mix.nD Cert.Mix.τ).loc Cert.Mix.main_arg12)
      ∧ r.2.mem ((c.tc : Thread Cert.Mix.nD Cert.Mix.τ).loc Cert.Mix.main_arg13) = m ((c.tc : Thread Cert.Mix.nD Cert.Mix.τ).loc Cert.Mix.main_arg13)
      ∧ r.2.mem ((c.tc : Thread Cert.Mix.nD Cert.Mix.τ).loc Cert.Mix.main_arg14) = m ((c.tc : Thread Cert.Mix.nD Cert.Mix.τ).loc Cert.Mix.main_arg14)
      ∧ r.2.mem ((c.tc : Thread Cert.Mix.nD Cert.Mix.τ).loc Cert.Mix.main_arg15) = m ((c.tc : Thread Cert.Mix.nD Cert.Mix.τ).loc Cert.Mix.main_arg15))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
      ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
      ∧ r.2.mem ((c.tc : Thread Cert.MixIdeal.nD Cert.MixIdeal.τ).loc Cert.MixIdeal.main_arg14) = m ((c.tc : Thread Cert.MixIdeal.nD Cert.MixIdeal.τ).loc Cert.MixIdeal.main_arg14)
      ∧ r.2.mem ((c.tc : Thread Cert.MixIdeal.nD Cert.MixIdeal.τ).loc Cert.MixIdeal.main_arg15) = m ((c.tc : Thread Cert.MixIdeal.nD Cert.MixIdeal.τ).loc Cert.MixIdeal.main_arg15))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11)
      ∧ r.2.mem ((c.tc : Thread Cert.MixRefIdeal.nD Cert.MixRefIdeal.τ).loc Cert.MixRefIdeal.main_arg12) = m ((c.tc : Thread Cert.MixRefIdeal.nD Cert.MixRefIdeal.τ).loc Cert.MixRefIdeal.main_arg12)
      ∧ r.2.mem ((c.tc : Thread Cert.MixRefIdeal.nD Cert.MixRefIdeal.τ).loc Cert.MixRefIdeal.main_arg13) = m ((c.tc : Thread Cert.MixRefIdeal.nD Cert.MixRefIdeal.τ).loc Cert.MixRefIdeal.main_arg13)
      ∧ r.2.mem ((c.tc : Thread Cert.MixRefIdeal.nD Cert.MixRefIdeal.τ).loc Cert.MixRefIdeal.main_arg14) = m ((c.tc : Thread Cert.MixRefIdeal.nD Cert.MixRefIdeal.τ).loc Cert.MixRefIdeal.main_arg14)
      ∧ r.2.mem ((c.tc : Thread Cert.MixRefIdeal.nD Cert.MixRefIdeal.τ).loc Cert.MixRefIdeal.main_arg15) = m ((c.tc : Thread Cert.MixRefIdeal.nD Cert.MixRefIdeal.τ).loc Cert.MixRefIdeal.main_arg15))
      ∧ r.2.sem = fun _ => 0)

def preserves_Moe_MoeIdeal : Prop :=
  True

def algebraic_MoeIdeal_MoeRefIdeal [hMoeIdeal : Cert.MoeIdeal.Facts] [hMoeRefIdeal : Cert.MoeRefIdeal.Facts] [hPre_group_ends : Cert.Pre_group_ends.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)) →
    ∃ (v0 : (c : Dev Cert.MoeIdeal.nD) → Buf (Elt Ideal) ((c.tc : Thread Cert.MoeIdeal.nD Cert.MoeIdeal.τ).loc Cert.MoeIdeal.main_v25)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v25) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v129) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v7)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v7) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v21) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Comb_CombIdeal : Prop :=
  True

def algebraic_CombIdeal_CombRefIdeal [hCombIdeal : Cert.CombIdeal.Facts] [hCombRefIdeal : Cert.CombRefIdeal.Facts] [hPre_rows_exist : Cert.Pre_rows_exist.Facts] : Prop :=
  ∀ (m : (ℓ : Loc Cert.CombIdeal.nD Cert.CombIdeal.τ Cert.CombIdeal.sig) → Buf (Elt Ideal) ℓ) (g : Dev Cert.CombIdeal.nD → PrngReg)
    (m' : (ℓ : Loc Cert.CombRefIdeal.nD Cert.CombRefIdeal.τ Cert.CombRefIdeal.sig) → Buf (Elt Ideal) ℓ) (g' : Dev Cert.CombRefIdeal.nD → PrngReg), Pre_CombIdeal m →
    (∀ c : Dev Cert.CombIdeal.nD,
      m' ((c.tc : Thread Cert.CombRefIdeal.nD Cert.CombRefIdeal.τ).loc Cert.CombRefIdeal.main_arg0) = m ((c.tc : Thread Cert.CombIdeal.nD Cert.CombIdeal.τ).loc Cert.CombIdeal.main_arg0)
      ∧ m' ((c.tc : Thread Cert.CombRefIdeal.nD Cert.CombRefIdeal.τ).loc Cert.CombRefIdeal.main_arg1) = m ((c.tc : Thread Cert.CombIdeal.nD Cert.CombIdeal.τ).loc Cert.CombIdeal.main_arg1)
      ∧ m' ((c.tc : Thread Cert.CombRefIdeal.nD Cert.CombRefIdeal.τ).loc Cert.CombRefIdeal.main_arg2) = m ((c.tc : Thread Cert.CombIdeal.nD Cert.CombIdeal.τ).loc Cert.CombIdeal.main_arg2)
      ∧ m' ((c.tc : Thread Cert.CombRefIdeal.nD Cert.CombRefIdeal.τ).loc Cert.CombRefIdeal.main_arg3) = m ((c.tc : Thread Cert.CombIdeal.nD Cert.CombIdeal.τ).loc Cert.CombIdeal.main_arg3)
      ∧ m' ((c.tc : Thread Cert.CombRefIdeal.nD Cert.CombRefIdeal.τ).loc Cert.CombRefIdeal.main_arg4) = m ((c.tc : Thread Cert.CombIdeal.nD Cert.CombIdeal.τ).loc Cert.CombIdeal.main_arg4)) →
    ∃ (v0 : (c : Dev Cert.CombIdeal.nD) → Buf (Elt Ideal) ((c.tc : Thread Cert.CombIdeal.nD Cert.CombIdeal.τ).loc Cert.CombIdeal.main_v0)),
      θ_run (Cert.CombIdeal.defs (F := Ideal)) (onTc (τ := Cert.CombIdeal.τ) (Cert.CombIdeal.main (F := Ideal))) ⟨m, fun _ => 0, g⟩ (fun r => ∀ c : Dev Cert.CombIdeal.nD,
          r.2.mem ((c.tc : Thread Cert.CombIdeal.nD Cert.CombIdeal.τ).loc Cert.CombIdeal.main_v0) = v0 c
          ∧ r.2.mem ((c.tc : Thread Cert.CombIdeal.nD Cert.CombIdeal.τ).loc Cert.CombIdeal.main_arg0) = m ((c.tc : Thread Cert.CombIdeal.nD Cert.CombIdeal.τ).loc Cert.CombIdeal.main_arg0)
          ∧ r.2.mem ((c.tc : Thread Cert.CombIdeal.nD Cert.CombIdeal.τ).loc Cert.CombIdeal.main_arg1) = m ((c.tc : Thread Cert.CombIdeal.nD Cert.CombIdeal.τ).loc Cert.CombIdeal.main_arg1)
          ∧ r.2.mem ((c.tc : Thread Cert.CombIdeal.nD Cert.CombIdeal.τ).loc Cert.CombIdeal.main_arg2) = m ((c.tc : Thread Cert.CombIdeal.nD Cert.CombIdeal.τ).loc Cert.CombIdeal.main_arg2)
          ∧ r.2.mem ((c.tc : Thread Cert.CombIdeal.nD Cert.CombIdeal.τ).loc Cert.CombIdeal.main_arg3) = m ((c.tc : Thread Cert.CombIdeal.nD Cert.CombIdeal.τ).loc Cert.CombIdeal.main_arg3)
          ∧ r.2.mem ((c.tc : Thread Cert.CombIdeal.nD Cert.CombIdeal.τ).loc Cert.CombIdeal.main_arg4) = m ((c.tc : Thread Cert.CombIdeal.nD Cert.CombIdeal.τ).loc Cert.CombIdeal.main_arg4))
      ∧ θ_run (Cert.CombRefIdeal.defs (F := Ideal)) (onTc (τ := Cert.CombRefIdeal.τ) (Cert.CombRefIdeal.main (F := Ideal))) ⟨m', fun _ => 0, g'⟩ (fun r => ∀ c : Dev Cert.CombRefIdeal.nD,
          r.2.mem ((c.tc : Thread Cert.CombRefIdeal.nD Cert.CombRefIdeal.τ).loc Cert.CombRefIdeal.main_v26) = v0 c
          ∧ r.2.mem ((c.tc : Thread Cert.CombRefIdeal.nD Cert.CombRefIdeal.τ).loc Cert.CombRefIdeal.main_arg0) = m' ((c.tc : Thread Cert.CombRefIdeal.nD Cert.CombRefIdeal.τ).loc Cert.CombRefIdeal.main_arg0)
          ∧ r.2.mem ((c.tc : Thread Cert.CombRefIdeal.nD Cert.CombRefIdeal.τ).loc Cert.CombRefIdeal.main_arg1) = m' ((c.tc : Thread Cert.CombRefIdeal.nD Cert.CombRefIdeal.τ).loc Cert.CombRefIdeal.main_arg1)
          ∧ r.2.mem ((c.tc : Thread Cert.CombRefIdeal.nD Cert.CombRefIdeal.τ).loc Cert.CombRefIdeal.main_arg2) = m' ((c.tc : Thread Cert.CombRefIdeal.nD Cert.CombRefIdeal.τ).loc Cert.CombRefIdeal.main_arg2)
          ∧ r.2.mem ((c.tc : Thread Cert.CombRefIdeal.nD Cert.CombRefIdeal.τ).loc Cert.CombRefIdeal.main_arg3) = m' ((c.tc : Thread Cert.CombRefIdeal.nD Cert.CombRefIdeal.τ).loc Cert.CombRefIdeal.main_arg3)
          ∧ r.2.mem ((c.tc : Thread Cert.CombRefIdeal.nD Cert.CombRefIdeal.τ).loc Cert.CombRefIdeal.main_arg4) = m' ((c.tc : Thread Cert.CombRefIdeal.nD Cert.CombRefIdeal.τ).loc Cert.CombRefIdeal.main_arg4))

def preserves_Post_PostIdeal : Prop :=
  True

def algebraic_PostIdeal_PostRefIdeal [hPostIdeal : Cert.PostIdeal.Facts] [hPostRefIdeal : Cert.PostRefIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)) →
    ∃ (v0 : (c : Dev Cert.PostIdeal.nD) → Buf (Elt Ideal) ((c.tc : Thread Cert.PostIdeal.nD Cert.PostIdeal.τ).loc Cert.PostIdeal.main_v2)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v2) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v3) = v0 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v13_0)) (v1 : (c : Dev Cert.ProjIdeal.nD) → Buf (Elt Ideal) ((c.tc : Thread Cert.ProjIdeal.nD Cert.ProjIdeal.τ).loc Cert.ProjIdeal.main_v13_1)) (v2 : (c : Dev Cert.ProjIdeal.nD) → Buf (Elt Ideal) ((c.tc : Thread Cert.ProjIdeal.nD Cert.ProjIdeal.τ).loc Cert.ProjIdeal.main_v13_2)) (v3 : (c : Dev Cert.ProjIdeal.nD) → Buf (Elt Ideal) ((c.tc : Thread Cert.ProjIdeal.nD Cert.ProjIdeal.τ).loc Cert.ProjIdeal.main_v13_3)) (v4 : (c : Dev Cert.ProjIdeal.nD) → Buf (Elt Ideal) ((c.tc : Thread Cert.ProjIdeal.nD Cert.ProjIdeal.τ).loc Cert.ProjIdeal.main_v13_4)) (v5 : (c : Dev Cert.ProjIdeal.nD) → Buf (Elt Ideal) ((c.tc : Thread Cert.ProjIdeal.nD Cert.ProjIdeal.τ).loc Cert.ProjIdeal.main_v13_5)) (v6 : (c : Dev Cert.ProjIdeal.nD) → Buf (Elt Ideal) ((c.tc : Thread Cert.ProjIdeal.nD Cert.ProjIdeal.τ).loc Cert.ProjIdeal.main_v13_6)) (v7 : (c : Dev Cert.ProjIdeal.nD) → Buf (Elt Ideal) ((c.tc : Thread Cert.ProjIdeal.nD Cert.ProjIdeal.τ).loc Cert.ProjIdeal.main_v13_7)) (v8 : (c : Dev Cert.ProjIdeal.nD) → Buf (Elt Ideal) ((c.tc : Thread Cert.ProjIdeal.nD Cert.ProjIdeal.τ).loc Cert.ProjIdeal.main_v13_8)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v13_0) = v0 c
          ∧ r.2.mem ((c.tc : Thread Cert.ProjIdeal.nD Cert.ProjIdeal.τ).loc Cert.ProjIdeal.main_v13_1) = v1 c
          ∧ r.2.mem ((c.tc : Thread Cert.ProjIdeal.nD Cert.ProjIdeal.τ).loc Cert.ProjIdeal.main_v13_2) = v2 c
          ∧ r.2.mem ((c.tc : Thread Cert.ProjIdeal.nD Cert.ProjIdeal.τ).loc Cert.ProjIdeal.main_v13_3) = v3 c
          ∧ r.2.mem ((c.tc : Thread Cert.ProjIdeal.nD Cert.ProjIdeal.τ).loc Cert.ProjIdeal.main_v13_4) = v4 c
          ∧ r.2.mem ((c.tc : Thread Cert.ProjIdeal.nD Cert.ProjIdeal.τ).loc Cert.ProjIdeal.main_v13_5) = v5 c
          ∧ r.2.mem ((c.tc : Thread Cert.ProjIdeal.nD Cert.ProjIdeal.τ).loc Cert.ProjIdeal.main_v13_6) = v6 c
          ∧ r.2.mem ((c.tc : Thread Cert.ProjIdeal.nD Cert.ProjIdeal.τ).loc Cert.ProjIdeal.main_v13_7) = v7 c
          ∧ r.2.mem ((c.tc : Thread Cert.ProjIdeal.nD Cert.ProjIdeal.τ).loc Cert.ProjIdeal.main_v13_8) = v8 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v41) = v0 c
          ∧ r.2.mem ((c.tc : Thread Cert.ProjRefIdeal.nD Cert.ProjRefIdeal.τ).loc Cert.ProjRefIdeal.main_v44) = v1 c
          ∧ r.2.mem ((c.tc : Thread Cert.ProjRefIdeal.nD Cert.ProjRefIdeal.τ).loc Cert.ProjRefIdeal.main_v47) = v2 c
          ∧ r.2.mem ((c.tc : Thread Cert.ProjRefIdeal.nD Cert.ProjRefIdeal.τ).loc Cert.ProjRefIdeal.main_v56) = v3 c
          ∧ r.2.mem ((c.tc : Thread Cert.ProjRefIdeal.nD Cert.ProjRefIdeal.τ).loc Cert.ProjRefIdeal.main_v59) = v4 c
          ∧ r.2.mem ((c.tc : Thread Cert.ProjRefIdeal.nD Cert.ProjRefIdeal.τ).loc Cert.ProjRefIdeal.main_v62) = v5 c
          ∧ r.2.mem ((c.tc : Thread Cert.ProjRefIdeal.nD Cert.ProjRefIdeal.τ).loc Cert.ProjRefIdeal.main_v71) = v6 c
          ∧ r.2.mem ((c.tc : Thread Cert.ProjRefIdeal.nD Cert.ProjRefIdeal.τ).loc Cert.ProjRefIdeal.main_v74) = v7 c
          ∧ r.2.mem ((c.tc : Thread Cert.ProjRefIdeal.nD Cert.ProjRefIdeal.τ).loc Cert.ProjRefIdeal.main_v77) = v8 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)
      ∧ m' ((c.tc : Thread Cert.MixRefIdeal.nD Cert.MixRefIdeal.τ).loc Cert.MixRefIdeal.main_arg10) = m ((c.tc : Thread Cert.MixIdeal.nD Cert.MixIdeal.τ).loc Cert.MixIdeal.main_arg10)
      ∧ m' ((c.tc : Thread Cert.MixRefIdeal.nD Cert.MixRefIdeal.τ).loc Cert.MixRefIdeal.main_arg11) = m ((c.tc : Thread Cert.MixIdeal.nD Cert.MixIdeal.τ).loc Cert.MixIdeal.main_arg11)
      ∧ m' ((c.tc : Thread Cert.MixRefIdeal.nD Cert.MixRefIdeal.τ).loc Cert.MixRefIdeal.main_arg12) = m ((c.tc : Thread Cert.MixIdeal.nD Cert.MixIdeal.τ).loc Cert.MixIdeal.main_arg12)
      ∧ m' ((c.tc : Thread Cert.MixRefIdeal.nD Cert.MixRefIdeal.τ).loc Cert.MixRefIdeal.main_arg13) = m ((c.tc : Thread Cert.MixIdeal.nD Cert.MixIdeal.τ).loc Cert.MixIdeal.main_arg13)
      ∧ m' ((c.tc : Thread Cert.MixRefIdeal.nD Cert.MixRefIdeal.τ).loc Cert.MixRefIdeal.main_arg14) = m ((c.tc : Thread Cert.MixIdeal.nD Cert.MixIdeal.τ).loc Cert.MixIdeal.main_arg14)
      ∧ m' ((c.tc : Thread Cert.MixRefIdeal.nD Cert.MixRefIdeal.τ).loc Cert.MixRefIdeal.main_arg15) = m ((c.tc : Thread Cert.MixIdeal.nD Cert.MixIdeal.τ).loc Cert.MixIdeal.main_arg15)) →
    ∃ (v0 : (c : Dev Cert.MixIdeal.nD) → Buf (Elt Ideal) ((c.tc : Thread Cert.MixIdeal.nD Cert.MixIdeal.τ).loc Cert.MixIdeal.main_v37_0)) (v1 : (c : Dev Cert.MixIdeal.nD) → Buf (Elt Ideal) ((c.tc : Thread Cert.MixIdeal.nD Cert.MixIdeal.τ).loc Cert.MixIdeal.main_v37_1)) (v2 : (c : Dev Cert.MixIdeal.nD) → Buf (Elt Ideal) ((c.tc : Thread Cert.MixIdeal.nD Cert.MixIdeal.τ).loc Cert.MixIdeal.main_v37_2)) (v3 : (c : Dev Cert.MixIdeal.nD) → Buf (Elt Ideal) ((c.tc : Thread Cert.MixIdeal.nD Cert.MixIdeal.τ).loc Cert.MixIdeal.main_v37_3)) (v4 : (c : Dev Cert.MixIdeal.nD) → Buf (Elt Ideal) ((c.tc : Thread Cert.MixIdeal.nD Cert.MixIdeal.τ).loc Cert.MixIdeal.main_v37_4)) (v5 : (c : Dev Cert.MixIdeal.nD) → Buf (Elt Ideal) ((c.tc : Thread Cert.MixIdeal.nD Cert.MixIdeal.τ).loc Cert.MixIdeal.main_v37_5)) (v6 : (c : Dev Cert.MixIdeal.nD) → Buf (Elt Ideal) ((c.tc : Thread Cert.MixIdeal.nD Cert.MixIdeal.τ).loc Cert.MixIdeal.main_v37_6)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v37_0) = v0 c
          ∧ r.2.mem ((c.tc : Thread Cert.MixIdeal.nD Cert.MixIdeal.τ).loc Cert.MixIdeal.main_v37_1) = v1 c
          ∧ r.2.mem ((c.tc : Thread Cert.MixIdeal.nD Cert.MixIdeal.τ).loc Cert.MixIdeal.main_v37_2) = v2 c
          ∧ r.2.mem ((c.tc : Thread Cert.MixIdeal.nD Cert.MixIdeal.τ).loc Cert.MixIdeal.main_v37_3) = v3 c
          ∧ r.2.mem ((c.tc : Thread Cert.MixIdeal.nD Cert.MixIdeal.τ).loc Cert.MixIdeal.main_v37_4) = v4 c
          ∧ r.2.mem ((c.tc : Thread Cert.MixIdeal.nD Cert.MixIdeal.τ).loc Cert.MixIdeal.main_v37_5) = v5 c
          ∧ r.2.mem ((c.tc : Thread Cert.MixIdeal.nD Cert.MixIdeal.τ).loc Cert.MixIdeal.main_v37_6) = v6 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
          ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
          ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
          ∧ r.2.mem ((c.tc : Thread Cert.MixIdeal.nD Cert.MixIdeal.τ).loc Cert.MixIdeal.main_arg14) = m ((c.tc : Thread Cert.MixIdeal.nD Cert.MixIdeal.τ).loc Cert.MixIdeal.main_arg14)
          ∧ r.2.mem ((c.tc : Thread Cert.MixIdeal.nD Cert.MixIdeal.τ).loc Cert.MixIdeal.main_arg15) = m ((c.tc : Thread Cert.MixIdeal.nD Cert.MixIdeal.τ).loc Cert.MixIdeal.main_arg15))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v92) = v0 c
          ∧ r.2.mem ((c.tc : Thread Cert.MixRefIdeal.nD Cert.MixRefIdeal.τ).loc Cert.MixRefIdeal.main_v75) = v1 c
          ∧ r.2.mem ((c.tc : Thread Cert.MixRefIdeal.nD Cert.MixRefIdeal.τ).loc Cert.MixRefIdeal.main_v102) = v2 c
          ∧ r.2.mem ((c.tc : Thread Cert.MixRefIdeal.nD Cert.MixRefIdeal.τ).loc Cert.MixRefIdeal.main_v105) = v3 c
          ∧ r.2.mem ((c.tc : Thread Cert.MixRefIdeal.nD Cert.MixRefIdeal.τ).loc Cert.MixRefIdeal.main_v110) = v4 c
          ∧ r.2.mem ((c.tc : Thread Cert.MixRefIdeal.nD Cert.MixRefIdeal.τ).loc Cert.MixRefIdeal.main_v111) = v5 c
          ∧ r.2.mem ((c.tc : Thread Cert.MixRefIdeal.nD Cert.MixRefIdeal.τ).loc Cert.MixRefIdeal.main_v122) = v6 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9)
          ∧ r.2.mem ((c.tc : Thread Cert.MixRefIdeal.nD Cert.MixRefIdeal.τ).loc Cert.MixRefIdeal.main_arg10) = m' ((c.tc : Thread Cert.MixRefIdeal.nD Cert.MixRefIdeal.τ).loc Cert.MixRefIdeal.main_arg10)
          ∧ r.2.mem ((c.tc : Thread Cert.MixRefIdeal.nD Cert.MixRefIdeal.τ).loc Cert.MixRefIdeal.main_arg11) = m' ((c.tc : Thread Cert.MixRefIdeal.nD Cert.MixRefIdeal.τ).loc Cert.MixRefIdeal.main_arg11)
          ∧ r.2.mem ((c.tc : Thread Cert.MixRefIdeal.nD Cert.MixRefIdeal.τ).loc Cert.MixRefIdeal.main_arg12) = m' ((c.tc : Thread Cert.MixRefIdeal.nD Cert.MixRefIdeal.τ).loc Cert.MixRefIdeal.main_arg12)
          ∧ r.2.mem ((c.tc : Thread Cert.MixRefIdeal.nD Cert.MixRefIdeal.τ).loc Cert.MixRefIdeal.main_arg13) = m' ((c.tc : Thread Cert.MixRefIdeal.nD Cert.MixRefIdeal.τ).loc Cert.MixRefIdeal.main_arg13)
          ∧ r.2.mem ((c.tc : Thread Cert.MixRefIdeal.nD Cert.MixRefIdeal.τ).loc Cert.MixRefIdeal.main_arg14) = m' ((c.tc : Thread Cert.MixRefIdeal.nD Cert.MixRefIdeal.τ).loc Cert.MixRefIdeal.main_arg14)
          ∧ r.2.mem ((c.tc : Thread Cert.MixRefIdeal.nD Cert.MixRefIdeal.τ).loc Cert.MixRefIdeal.main_arg15) = m' ((c.tc : Thread Cert.MixRefIdeal.nD Cert.MixRefIdeal.τ).loc Cert.MixRefIdeal.main_arg15))

def Claim : Prop :=
  ∃ (hMoe : Cert.Moe.Facts) (hMoeIdeal : Cert.MoeIdeal.Facts) (hMoeRefIdeal : Cert.MoeRefIdeal.Facts) (hFfn : Cert.Ffn.Facts) (hFfnIdeal : Cert.FfnIdeal.Facts) (hFfnRefIdeal : Cert.FfnRefIdeal.Facts) (hComb : Cert.Comb.Facts) (hCombIdeal : Cert.CombIdeal.Facts) (hCombRefIdeal : Cert.CombRefIdeal.Facts) (hPost : Cert.Post.Facts) (hPostIdeal : Cert.PostIdeal.Facts) (hPostRefIdeal : Cert.PostRefIdeal.Facts) (hProj : Cert.Proj.Facts) (hProjIdeal : Cert.ProjIdeal.Facts) (hProjRefIdeal : Cert.ProjRefIdeal.Facts) (hMix : Cert.Mix.Facts) (hMixIdeal : Cert.MixIdeal.Facts) (hMixRefIdeal : Cert.MixRefIdeal.Facts) (hPre_group_ends : Cert.Pre_group_ends.Facts) (hPre_rows_exist : Cert.Pre_rows_exist.Facts),
    quiescent_Moe (hMoe := hMoe) (hPre_group_ends := hPre_group_ends)
    ∧ quiescent_MoeIdeal (hMoeIdeal := hMoeIdeal) (hPre_group_ends := hPre_group_ends)
    ∧ quiescent_MoeRefIdeal (hMoeRefIdeal := hMoeRefIdeal) (hPre_group_ends := hPre_group_ends)
    ∧ quiescent_Ffn (hFfn := hFfn)
    ∧ quiescent_FfnIdeal (hFfnIdeal := hFfnIdeal)
    ∧ quiescent_FfnRefIdeal (hFfnRefIdeal := hFfnRefIdeal)
    ∧ quiescent_Comb (hComb := hComb) (hPre_rows_exist := hPre_rows_exist)
    ∧ quiescent_CombIdeal (hCombIdeal := hCombIdeal) (hPre_rows_exist := hPre_rows_exist)
    ∧ quiescent_CombRefIdeal (hCombRefIdeal := hCombRefIdeal) (hPre_rows_exist := hPre_rows_exist)
    ∧ quiescent_Post (hPost := hPost)
    ∧ quiescent_PostIdeal (hPostIdeal := hPostIdeal)
    ∧ quiescent_PostRefIdeal (hPostRefIdeal := hPostRefIdeal)
    ∧ quiescent_Proj (hProj := hProj)
    ∧ quiescent_ProjIdeal (hProjIdeal := hProjIdeal)
    ∧ quiescent_ProjRefIdeal (hProjRefIdeal := hProjRefIdeal)
    ∧ quiescent_Mix (hMix := hMix)
    ∧ quiescent_MixIdeal (hMixIdeal := hMixIdeal)
    ∧ quiescent_MixRefIdeal (hMixRefIdeal := hMixRefIdeal)
    ∧ preserves_Moe_MoeIdeal
    ∧ algebraic_MoeIdeal_MoeRefIdeal (hMoeIdeal := hMoeIdeal) (hMoeRefIdeal := hMoeRefIdeal) (hPre_group_ends := hPre_group_ends)
    ∧ preserves_Ffn_FfnIdeal
    ∧ algebraic_FfnIdeal_FfnRefIdeal (hFfnIdeal := hFfnIdeal) (hFfnRefIdeal := hFfnRefIdeal)
    ∧ preserves_Comb_CombIdeal
    ∧ algebraic_CombIdeal_CombRefIdeal (hCombIdeal := hCombIdeal) (hCombRefIdeal := hCombRefIdeal) (hPre_rows_exist := hPre_rows_exist)
    ∧ preserves_Post_PostIdeal
    ∧ algebraic_PostIdeal_PostRefIdeal (hPostIdeal := hPostIdeal) (hPostRefIdeal := hPostRefIdeal)
    ∧ preserves_Proj_ProjIdeal
    ∧ algebraic_ProjIdeal_ProjRefIdeal (hProjIdeal := hProjIdeal) (hProjRefIdeal := hProjRefIdeal)
    ∧ preserves_Mix_MixIdeal
    ∧ algebraic_MixIdeal_MixRefIdeal (hMixIdeal := hMixIdeal) (hMixRefIdeal := hMixRefIdeal)
-- ==== Pre_group_ends.lean ====
abbrev S8 : Shape := ⟨1, ![8]⟩
abbrev S36864x1024 : Shape := ⟨2, ![36864, 1024]⟩
abbrev S1x8x1024x3584 : Shape := ⟨4, ![1, 8, 1024, 3584]⟩
abbrev S1x8x3584x1024 : Shape := ⟨4, ![1, 8, 3584, 1024]⟩
abbrev S1 : Shape := ⟨1, ![1]⟩
abbrev S_ : Shape := ⟨0, ![]⟩

class Facts : Prop where
  slices_S8_S1_7 : S8.Slices ![7] S1
  shapeCasts_S1_S_ : S1.ShapeCasts S_
  bcast_S_S8 : S_.BroadcastsInDim S8 (![] : Fin 0 → Fin S8.rank)
  reducesTo_S8_S_d0 : S8.ReducesTo [0] S_
  h_S_ : 0 < S_.numel

variable [Facts]

def fn {F : FTy → Type} [FloatOps F] (main_arg0 : IVec S8 32) (main_arg1 : FVec F S36864x1024 .f32) (main_arg2 : FVec F S1x8x1024x3584 .f32) (main_arg3 : FVec F S1x8x1024x3584 .f32) (main_arg4 : FVec F S1x8x3584x1024 .f32) : IVec S_ 1 :=
  let main_v0 : IVec S1 32 := (extractStridedSlice S1 ![7] · slices_S8_S1_7) main_arg0
  let main_v1 : IVec S_ 32 := shapeCast S_ main_v0 shapeCasts_S1_S_
  let main_v2 : IVec S8 32 := broadcastInDim S8 ![] bcast_S_S8 main_v1
  let main_v3 : IVec S8 1 := cmpi .sle main_arg0 main_v2
  let main_c : IVec S_ 32 := constantI S_ 32 511#32
  let main_v4 : IVec S8 32 := broadcastInDim S8 ![] bcast_S_S8 main_c
  let main_v5 : IVec S8 32 := andi main_arg0 main_v4
  let main_c_0 : IVec S_ 32 := constantI S_ 32 0#32
  let main_v6 : IVec S8 32 := broadcastInDim S8 ![] bcast_S_S8 main_c_0
  let main_v7 : IVec S8 1 := cmpi .eq main_v5 main_v6
  let main_v8 : IVec S8 1 := andi main_v3 main_v7
  let main_c_1 : IVec S_ 1 := constantI S_ 1 1#1
  let main_v9 : IVec S_ 1 := (fun x v => Host.reduce IntOp.andi x v reducesTo_S8_S_d0 h_S_) main_v8 main_c_1
  let main_v10 : IVec S1 32 := (extractStridedSlice S1 ![7] · slices_S8_S1_7) main_arg0
  let main_v11 : IVec S_ 32 := shapeCast S_ main_v10 shapeCasts_S1_S_
  let main_c_2 : IVec S_ 32 := constantI S_ 32 0#32
  let main_v12 : IVec S_ 1 := cmpi .sgt main_v11 main_c_2
  let main_v13 : IVec S_ 1 := andi main_v9 main_v12
  main_v13
-- ==== Pre_rows_exist.lean ====
abbrev S32768 : Shape := ⟨1, ![32768]⟩
abbrev S16384x1024 : Shape := ⟨2, ![16384, 1024]⟩
abbrev S16384x128 : Shape := ⟨2, ![16384, 128]⟩
abbrev S1x1024 : Shape := ⟨2, ![1, 1024]⟩
abbrev S36864x1024 : Shape := ⟨2, ![36864, 1024]⟩
abbrev S_ : Shape := ⟨0, ![]⟩

class Facts : Prop where
  bcast_S_S32768 : S_.BroadcastsInDim S32768 (![] : Fin 0 → Fin S32768.rank)
  reducesTo_S32768_S_d0 : S32768.ReducesTo [0] S_
  h_S_ : 0 < S_.numel

variable [Facts]

def fn {F : FTy → Type} [FloatOps F] (main_arg0 : IVec S32768 32) (main_arg1 : FVec F S16384x1024 .f32) (main_arg2 : FVec F S16384x128 .f32) (main_arg3 : FVec F S1x1024 .f32) (main_arg4 : FVec F S36864x1024 .f32) : IVec S_ 1 :=
  let main_c : IVec S_ 32 := constantI S_ 32 0#32
  let main_v0 : IVec S32768 32 := broadcastInDim S32768 ![] bcast_S_S32768 main_c
  let main_v1 : IVec S32768 1 := cmpi .sge main_arg0 main_v0
  let main_c_0 : IVec S_ 32 := constantI S_ 32 36864#32
  let main_v2 : IVec S32768 32 := broadcastInDim S32768 ![] bcast_S_S32768 main_c_0
  let main_v3 : IVec S32768 1 := cmpi .slt main_arg0 main_v2
  let main_v4 : IVec S32768 1 := andi main_v1 main_v3
  let main_c_1 : IVec S_ 1 := constantI S_ 1 1#1
  let main_v5 : IVec S_ 1 := (fun x v => Host.reduce IntOp.andi x v reducesTo_S32768_S_d0 h_S_) main_v4 main_c_1
  main_v5
-- ==== Moe.lean ====
abbrev S8 : Shape := ⟨1, ![8]⟩
abbrev S36864x1024 : Shape := ⟨2, ![36864, 1024]⟩
abbrev S1x8x1024x3584 : Shape := ⟨4, ![1, 8, 1024, 3584]⟩
abbrev S1x8x3584x1024 : Shape := ⟨4, ![1, 8, 3584, 1024]⟩
abbrev S1 : Shape := ⟨1, ![1]⟩
abbrev S_ : Shape := ⟨0, ![]⟩
abbrev S72 : Shape := ⟨1, ![72]⟩
abbrev S72x1 : Shape := ⟨2, ![72, 1]⟩
abbrev S1x8 : Shape := ⟨2, ![1, 8]⟩
abbrev S72x8 : Shape := ⟨2, ![72, 8]⟩
abbrev S8x1024x3584 : Shape := ⟨3, ![8, 1024, 3584]⟩
abbrev S8x3584x1024 : Shape := ⟨3, ![8, 3584, 1024]⟩
abbrev S512x1024 : Shape := ⟨2, ![512, 1024]⟩
abbrev S1x1024x1792 : Shape := ⟨3, ![1, 1024, 1792]⟩
abbrev S1x1792x1024 : Shape := ⟨3, ![1, 1792, 1024]⟩
abbrev S1024x1792 : Shape := ⟨2, ![1024, 1792]⟩
abbrev S512x1792 : Shape := ⟨2, ![512, 1792]⟩
abbrev S1792x1024 : Shape := ⟨2, ![1792, 1024]⟩

abbrev nBuf : Space → Nat
  | .hbm => 44
  | .vmem => 10
  | .smem => 3
  | _ => 0

abbrev bufTy : (tb : Table) → Fin (tcTables nBuf tb) → BufTy
  | .hbm, ⟨0, _⟩ => ⟨S8, .i32⟩
  | .hbm, ⟨1, _⟩ => ⟨S36864x1024, .f32⟩
  | .hbm, ⟨2, _⟩ => ⟨S1x8x1024x3584, .f32⟩
  | .hbm, ⟨3, _⟩ => ⟨S1x8x1024x3584, .f32⟩
  | .hbm, ⟨4, _⟩ => ⟨S1x8x3584x1024, .f32⟩
  | .hbm, ⟨5, _⟩ => ⟨S1, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S72, .i32⟩
  | .hbm, ⟨21, _⟩ => ⟨S_, .i32⟩
  | .hbm, ⟨22, _⟩ => ⟨S_, .i32⟩
  | .hbm, ⟨23, _⟩ => ⟨S72, .i32⟩
  | .hbm, ⟨24, _⟩ => ⟨S72x1, .i32⟩
  | .hbm, ⟨25, _⟩ => ⟨S_, .i32⟩
  | .hbm, ⟨26, _⟩ => ⟨S72x1, .i32⟩
  | .hbm, ⟨27, _⟩ => ⟨S72x1, .i32⟩
  | .hbm, ⟨28, _⟩ => ⟨S1x8, .i32⟩
  | .hbm, ⟨29, _⟩ => ⟨S72x8, .i32⟩
  | .hbm, ⟨30, _⟩ => ⟨S72x8, .i32⟩
  | .hbm, ⟨31, _⟩ => ⟨S72x8, .i1⟩
  | .hbm, ⟨32, _⟩ => ⟨S72x8, .i32⟩
  | .hbm, ⟨33, _⟩ => ⟨S_, .i32⟩
  | .hbm, ⟨34, _⟩ => ⟨S72, .i32⟩
  | .hbm, ⟨35, _⟩ => ⟨S_, .i32⟩
  | .hbm, ⟨36, _⟩ => ⟨S72, .i32⟩
  | .hbm, ⟨37, _⟩ => ⟨S8x1024x3584, .f32⟩
  | .hbm, ⟨38, _⟩ => ⟨S8x1024x3584, .bf16⟩
  | .hbm, ⟨39, _⟩ => ⟨S8x1024x3584, .f32⟩
  | .hbm, ⟨40, _⟩ => ⟨S8x1024x3584, .bf16⟩
  | .hbm, ⟨41, _⟩ => ⟨S8x3584x1024, .f32⟩
  | .hbm, ⟨42, _⟩ => ⟨S8x3584x1024, .bf16⟩
  | .hbm, ⟨43, _⟩ => ⟨S36864x1024, .f32⟩
  | .local _ .vmem, ⟨0, _⟩ => ⟨S512x1024, .f32⟩
  | .local _ .vmem, ⟨1, _⟩ => ⟨S512x1024, .f32⟩
  | .local _ .vmem, ⟨2, _⟩ => ⟨S1x1024x1792, .bf16⟩
  | .local _ .vmem, ⟨3, _⟩ => ⟨S1x1024x1792, .bf16⟩
  | .local _ .vmem, ⟨4, _⟩ => ⟨S1x1024x1792, .bf16⟩
  | .local _ .vmem, ⟨5, _⟩ => ⟨S1x1024x1792, .bf16⟩
  | .local _ .vmem, ⟨6, _⟩ => ⟨S1x1792x1024, .bf16⟩
  | .local _ .vmem, ⟨7, _⟩ => ⟨S1x1792x1024, .bf16⟩
  | .local _ .vmem, ⟨8, _⟩ => ⟨S512x1024, .f32⟩
  | .local _ .vmem, ⟨9, _⟩ => ⟨S512x1024, .f32⟩
  | .local _ .smem, ⟨0, _⟩ => ⟨S72, .i32⟩
  | .local _ .smem, ⟨1, _⟩ => ⟨S72, .i32⟩
  | .local _ .smem, ⟨2, _⟩ => ⟨S1, .i32⟩
  | _, _ => ⟨S8, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c : Ref sig .tc := ⟨.hbm, 14, rfl⟩
abbrev main_call0_v6 : Ref sig .tc := ⟨.hbm, 15, rfl⟩
abbrev main_call0_v7 : Ref sig .tc := ⟨.hbm, 16, rfl⟩
abbrev main_call0_c_0 : Ref sig .tc := ⟨.hbm, 17, rfl⟩
abbrev main_call0_v8 : Ref sig .tc := ⟨.hbm, 18, rfl⟩
abbrev main_v2 : Ref sig .tc := ⟨.hbm, 19, rfl⟩
abbrev main_v3 : Ref sig .tc := ⟨.hbm, 20, rfl⟩
abbrev main_c_0 : Ref sig .tc := ⟨.hbm, 21, rfl⟩
abbrev main_v4 : Ref sig .tc := ⟨.hbm, 22, rfl⟩
abbrev main_v5 : Ref sig .tc := ⟨.hbm, 23, rfl⟩
abbrev main_v7 : Ref sig .tc := ⟨.hbm, 24, rfl⟩
abbrev main_c_1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_c_2 : Ref sig .tc := ⟨.hbm, 33, rfl⟩
abbrev main_v15 : Ref sig .tc := ⟨.hbm, 34, rfl⟩
abbrev main_c_3 : Ref sig .tc := ⟨.hbm, 35, rfl⟩
abbrev main_v16 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v6 : Ref sig .tc := ⟨.smem, 0, rfl⟩
abbrev main_v17 : Ref sig .tc := ⟨.smem, 1, rfl⟩
abbrev main_v18 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![72, 2], ![false, false]⟩

abbrev pre0 : Pipeline.Prefetch sig := ⟨3, ![main_v6.idx, main_v17.idx, main_v18.idx], fun | 0 => main_v6.names | 1 => main_v17.names | 2 => main_v18.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) (v3 : BitVec 32) : BitVec 1 :=
  let arg0 : BitVec 32 := BitVec.ofNat 32 (i 0).val
  let v4 : BitVec 1 := Scalar.cmpi .slt arg0 v3
  let v5 : BitVec 32 := Scalar.extui v4
  let c0_i32_1 : BitVec 32 := 0#32
  let v6 : BitVec 1 := Scalar.cmpi .ne v5 c0_i32_1
  v6

def cc0_transform_0 (k0_off1_inb : ∀ i : grid0.Coords, ∀ a, (k0_off1 i) a + S1.size a ≤ S72.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S72) ![v0.toNat] S1.size (k0_off1_inb i)) numel1_S1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_0 : BitVec 32 := 0#32
  let v5 : BitVec 1 := Scalar.cmpi .ne v4 c0_i32_0
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let v9 : BitVec 1 := Scalar.andi v8 v5
  let v10 : BitVec 32 := Scalar.addi v4 v3
  let v11 : BitVec 32 := Scalar.select v9 v10 v4
  let c0_i32_3 : BitVec 32 := 0#32
  let v12 : BitVec 1 := Scalar.cmpi .eq v11 c0_i32_3
  let c1_i32_4 : BitVec 32 := 1#32
  let v13 : BitVec 32 := Scalar.subi c1_i32_4 arg1
  let v14 : BitVec 32 := Scalar.select v12 arg1 v13
  let c0_i32_5 : BitVec 32 := 0#32
  let c0_i32_6 : BitVec 32 := 0#32
  ![v1.toNat, c0_i32_5.toNat, v14.toNat]

def cc0_transform_2 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S72) ![v0.toNat] S1.size (k0_off1_inb i)) numel1_S1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_0 : BitVec 32 := 0#32
  let v5 : BitVec 1 := Scalar.cmpi .ne v4 c0_i32_0
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let v9 : BitVec 1 := Scalar.andi v8 v5
  let v10 : BitVec 32 := Scalar.addi v4 v3
  let v11 : BitVec 32 := Scalar.select v9 v10 v4
  let c0_i32_3 : BitVec 32 := 0#32
  let v12 : BitVec 1 := Scalar.cmpi .eq v11 c0_i32_3
  let c1_i32_4 : BitVec 32 := 1#32
  let v13 : BitVec 32 := Scalar.subi c1_i32_4 arg1
  let v14 : BitVec 32 := Scalar.select v12 arg1 v13
  let c0_i32_5 : BitVec 32 := 0#32
  let c0_i32_6 : BitVec 32 := 0#32
  ![v1.toNat, c0_i32_5.toNat, v14.toNat]

def cc0_transform_3 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S72) ![v0.toNat] S1.size (k0_off1_inb i)) numel1_S1
  let c2_i32 : BitVec 32 := 2#32
  let c0_i32 : BitVec 32 := 0#32
  let v2 : BitVec 1 := Scalar.cmpi .eq c2_i32 c0_i32
  let c1_i32 : BitVec 32 := 1#32
  let v3 : BitVec 32 := Scalar.select v2 c1_i32 c2_i32
  let v4 : BitVec 32 := Scalar.remsi arg0 v3
  let c0_i32_0 : BitVec 32 := 0#32
  let v5 : BitVec 1 := Scalar.cmpi .ne v4 c0_i32_0
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let v9 : BitVec 1 := Scalar.andi v8 v5
  let v10 : BitVec 32 := Scalar.addi v4 v3
  let v11 : BitVec 32 := Scalar.select v9 v10 v4
  let c0_i32_3 : BitVec 32 := 0#32
  let v12 : BitVec 1 := Scalar.cmpi .eq v11 c0_i32_3
  let c1_i32_4 : BitVec 32 := 1#32
  let v13 : BitVec 32 := Scalar.subi c1_i32_4 arg1
  let v14 : BitVec 32 := Scalar.select v12 arg1 v13
  let c0_i32_5 : BitVec 32 := 0#32
  let c0_i32_6 : BitVec 32 := 0#32
  ![v1.toNat, v14.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1792x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== MoeRefIdeal.lean ====
abbrev S8 : Shape := ⟨1, ![8]⟩
abbrev S36864x1024 : Shape := ⟨2, ![36864, 1024]⟩
abbrev S1x8x1024x3584 : Shape := ⟨4, ![1, 8, 1024, 3584]⟩
abbrev S1x8x3584x1024 : Shape := ⟨4, ![1, 8, 3584, 1024]⟩
abbrev S36864 : Shape := ⟨1, ![36864]⟩
abbrev S36864x1 : Shape := ⟨2, ![36864, 1]⟩
abbrev S1x8 : Shape := ⟨2, ![1, 8]⟩
abbrev S36864x8 : Shape := ⟨2, ![36864, 8]⟩
abbrev S_ : Shape := ⟨0, ![]⟩
abbrev S1x1x1024x3584 : Shape := ⟨4, ![1, 1, 1024, 3584]⟩
abbrev S1024x3584 : Shape := ⟨2, ![1024, 3584]⟩
abbrev S1x1x3584x1024 : Shape := ⟨4, ![1, 1, 3584, 1024]⟩
abbrev S3584x1024 : Shape := ⟨2, ![3584, 1024]⟩
abbrev S36864x3584 : Shape := ⟨2, ![36864, 3584]⟩

abbrev nBuf : Space → Nat
  | .hbm => 206
  | .vmem => 0
  | .smem => 0
  | _ => 0

abbrev hbmTy0_0 (i : Nat) : BufTy := match i % 128 with
  | 0 => ⟨S8, .i32⟩
  | 1 => ⟨S36864x1024, .f32⟩
  | 2 => ⟨S1x8x1024x3584, .f32⟩
  | 3 => ⟨S1x8x1024x3584, .f32⟩
  | 4 => ⟨S1x8x3584x1024, .f32⟩
  | 5 => ⟨S36864, .i32⟩
  | 6 => ⟨S36864x1, .i32⟩
  | 7 => ⟨S1x8, .i32⟩
  | 8 => ⟨S36864x8, .i32⟩
  | 9 => ⟨S36864x8, .i32⟩
  | 10 => ⟨S36864x8, .i1⟩
  | 11 => ⟨S36864x8, .i32⟩
  | 12 => ⟨S_, .i32⟩
  | 13 => ⟨S36864, .i32⟩
  | 14 => ⟨S36864x1, .i32⟩
  | 15 => ⟨S1x8, .i32⟩
  | 16 => ⟨S36864x8, .i32⟩
  | 17 => ⟨S36864x8, .i32⟩
  | 18 => ⟨S36864x8, .i1⟩
  | 19 => ⟨S36864x8, .f32⟩
  | 20 => ⟨S_, .f32⟩
  | 21 => ⟨S36864x1024, .f32⟩
  | 22 => ⟨S36864x1, .f32⟩
  | 23 => ⟨S1x1x1024x3584, .f32⟩
  | 24 => ⟨S1024x3584, .f32⟩
  | 25 => ⟨S1x1x1024x3584, .f32⟩
  | 26 => ⟨S1024x3584, .f32⟩
  | 27 => ⟨S1x1x3584x1024, .f32⟩
  | 28 => ⟨S3584x1024, .f32⟩
  | 29 => ⟨S36864x3584, .f32⟩
  | 30 => ⟨S36864x3584, .f32⟩
  | 31 => ⟨S36864x3584, .f32⟩
  | 32 => ⟨S_, .f32⟩
  | 33 => ⟨S36864x3584, .f32⟩
  | 34 => ⟨S36864x3584, .f32⟩
  | 35 => ⟨S_, .f32⟩
  | 36 => ⟨S36864x3584, .f32⟩
  | 37 => ⟨S36864x3584, .f32⟩
  | 38 => ⟨S36864x3584, .f32⟩
  | 39 => ⟨S36864x3584, .f32⟩
  | 40 => ⟨S36864x3584, .f32⟩
  | 41 => ⟨S36864x1024, .f32⟩
  | 42 => ⟨S36864x1024, .f32⟩
  | 43 => ⟨S36864x1024, .f32⟩
  | 44 => ⟨S36864x1024, .f32⟩
  | 45 => ⟨S36864x1, .f32⟩
  | 46 => ⟨S1x1x1024x3584, .f32⟩
  | 47 => ⟨S1024x3584, .f32⟩
  | 48 => ⟨S1x1x1024x3584, .f32⟩
  | 49 => ⟨S1024x3584, .f32⟩
  | 50 => ⟨S1x1x3584x1024, .f32⟩
  | 51 => ⟨S3584x1024, .f32⟩
  | 52 => ⟨S36864x3584, .f32⟩
  | 53 => ⟨S36864x3584, .f32⟩
  | 54 => ⟨S36864x3584, .f32⟩
  | 55 => ⟨S_, .f32⟩
  | 56 => ⟨S36864x3584, .f32⟩
  | 57 => ⟨S36864x3584, .f32⟩
  | 58 => ⟨S_, .f32⟩
  | 59 => ⟨S36864x3584, .f32⟩
  | 60 => ⟨S36864x3584, .f32⟩
  | 61 => ⟨S36864x3584, .f32⟩
  | 62 => ⟨S36864x3584, .f32⟩
  | 63 => ⟨S36864x3584, .f32⟩
  | 64 => ⟨S36864x1024, .f32⟩
  | 65 => ⟨S36864x1024, .f32⟩
  | 66 => ⟨S36864x1024, .f32⟩
  | 67 => ⟨S36864x1024, .f32⟩
  | 68 => ⟨S36864x1, .f32⟩
  | 69 => ⟨S1x1x1024x3584, .f32⟩
  | 70 => ⟨S1024x3584, .f32⟩
  | 71 => ⟨S1x1x1024x3584, .f32⟩
  | 72 => ⟨S1024x3584, .f32⟩
  | 73 => ⟨S1x1x3584x1024, .f32⟩
  | 74 => ⟨S3584x1024, .f32⟩
  | 75 => ⟨S36864x3584, .f32⟩
  | 76 => ⟨S36864x3584, .f32⟩
  | 77 => ⟨S36864x3584, .f32⟩
  | 78 => ⟨S_, .f32⟩
  | 79 => ⟨S36864x3584, .f32⟩
  | 80 => ⟨S36864x3584, .f32⟩
  | 81 => ⟨S_, .f32⟩
  | 82 => ⟨S36864x3584, .f32⟩
  | 83 => ⟨S36864x3584, .f32⟩
  | 84 => ⟨S36864x3584, .f32⟩
  | 85 => ⟨S36864x3584, .f32⟩
  | 86 => ⟨S36864x3584, .f32⟩
  | 87 => ⟨S36864x1024, .f32⟩
  | 88 => ⟨S36864x1024, .f32⟩
  | 89 => ⟨S36864x1024, .f32⟩
  | 90 => ⟨S36864x1024, .f32⟩
  | 91 => ⟨S36864x1, .f32⟩
  | 92 => ⟨S1x1x1024x3584, .f32⟩
  | 93 => ⟨S1024x3584, .f32⟩
  | 94 => ⟨S1x1x1024x3584, .f32⟩
  | 95 => ⟨S1024x3584, .f32⟩
  | 96 => ⟨S1x1x3584x1024, .f32⟩
  | 97 => ⟨S3584x1024, .f32⟩
  | 98 => ⟨S36864x3584, .f32⟩
  | 99 => ⟨S36864x3584, .f32⟩
  | 100 => ⟨S36864x3584, .f32⟩
  | 101 => ⟨S_, .f32⟩
  | 102 => ⟨S36864x3584, .f32⟩
  | 103 => ⟨S36864x3584, .f32⟩
  | 104 => ⟨S_, .f32⟩
  | 105 => ⟨S36864x3584, .f32⟩
  | 106 => ⟨S36864x3584, .f32⟩
  | 107 => ⟨S36864x3584, .f32⟩
  | 108 => ⟨S36864x3584, .f32⟩
  | 109 => ⟨S36864x3584, .f32⟩
  | 110 => ⟨S36864x1024, .f32⟩
  | 111 => ⟨S36864x1024, .f32⟩
  | 112 => ⟨S36864x1024, .f32⟩
  | 113 => ⟨S36864x1024, .f32⟩
  | 114 => ⟨S36864x1, .f32⟩
  | 115 => ⟨S1x1x1024x3584, .f32⟩
  | 116 => ⟨S1024x3584, .f32⟩
  | 117 => ⟨S1x1x1024x3584, .f32⟩
  | 118 => ⟨S1024x3584, .f32⟩
  | 119 => ⟨S1x1x3584x1024, .f32⟩
  | 120 => ⟨S3584x1024, .f32⟩
  | 121 => ⟨S36864x3584, .f32⟩
  | 122 => ⟨S36864x3584, .f32⟩
  | 123 => ⟨S36864x3584, .f32⟩
  | 124 => ⟨S_, .f32⟩
  | 125 => ⟨S36864x3584, .f32⟩
  | 126 => ⟨S36864x3584, .f32⟩
  | 127 => ⟨S_, .f32⟩
  | _ => ⟨S8, .i32⟩

abbrev hbmTy0_1 (i : Nat) : BufTy := match i % 128 with
  | 0 => ⟨S36864x3584, .f32⟩
  | 1 => ⟨S36864x3584, .f32⟩
  | 2 => ⟨S36864x3584, .f32⟩
  | 3 => ⟨S36864x3584, .f32⟩
  | 4 => ⟨S36864x3584, .f32⟩
  | 5 => ⟨S36864x1024, .f32⟩
  | 6 => ⟨S36864x1024, .f32⟩
  | 7 => ⟨S36864x1024, .f32⟩
  | 8 => ⟨S36864x1024, .f32⟩
  | 9 => ⟨S36864x1, .f32⟩
  | 10 => ⟨S1x1x1024x3584, .f32⟩
  | 11 => ⟨S1024x3584, .f32⟩
  | 12 => ⟨S1x1x1024x3584, .f32⟩
  | 13 => ⟨S1024x3584, .f32⟩
  | 14 => ⟨S1x1x3584x1024, .f32⟩
  | 15 => ⟨S3584x1024, .f32⟩
  | 16 => ⟨S36864x3584, .f32⟩
  | 17 => ⟨S36864x3584, .f32⟩
  | 18 => ⟨S36864x3584, .f32⟩
  | 19 => ⟨S_, .f32⟩
  | 20 => ⟨S36864x3584, .f32⟩
  | 21 => ⟨S36864x3584, .f32⟩
  | 22 => ⟨S_, .f32⟩
  | 23 => ⟨S36864x3584, .f32⟩
  | 24 => ⟨S36864x3584, .f32⟩
  | 25 => ⟨S36864x3584, .f32⟩
  | 26 => ⟨S36864x3584, .f32⟩
  | 27 => ⟨S36864x3584, .f32⟩
  | 28 => ⟨S36864x1024, .f32⟩
  | 29 => ⟨S36864x1024, .f32⟩
  | 30 => ⟨S36864x1024, .f32⟩
  | 31 => ⟨S36864x1024, .f32⟩
  | 32 => ⟨S36864x1, .f32⟩
  | 33 => ⟨S1x1x1024x3584, .f32⟩
  | 34 => ⟨S1024x3584, .f32⟩
  | 35 => ⟨S1x1x1024x3584, .f32⟩
  | 36 => ⟨S1024x3584, .f32⟩
  | 37 => ⟨S1x1x3584x1024, .f32⟩
  | 38 => ⟨S3584x1024, .f32⟩
  | 39 => ⟨S36864x3584, .f32⟩
  | 40 => ⟨S36864x3584, .f32⟩
  | 41 => ⟨S36864x3584, .f32⟩
  | 42 => ⟨S_, .f32⟩
  | 43 => ⟨S36864x3584, .f32⟩
  | 44 => ⟨S36864x3584, .f32⟩
  | 45 => ⟨S_, .f32⟩
  | 46 => ⟨S36864x3584, .f32⟩
  | 47 => ⟨S36864x3584, .f32⟩
  | 48 => ⟨S36864x3584, .f32⟩
  | 49 => ⟨S36864x3584, .f32⟩
  | 50 => ⟨S36864x3584, .f32⟩
  | 51 => ⟨S36864x1024, .f32⟩
  | 52 => ⟨S36864x1024, .f32⟩
  | 53 => ⟨S36864x1024, .f32⟩
  | 54 => ⟨S36864x1024, .f32⟩
  | 55 => ⟨S36864x1, .f32⟩
  | 56 => ⟨S1x1x1024x3584, .f32⟩
  | 57 => ⟨S1024x3584, .f32⟩
  | 58 => ⟨S1x1x1024x3584, .f32⟩
  | 59 => ⟨S1024x3584, .f32⟩
  | 60 => ⟨S1x1x3584x1024, .f32⟩
  | 61 => ⟨S3584x1024, .f32⟩
  | 62 => ⟨S36864x3584, .f32⟩
  | 63 => ⟨S36864x3584, .f32⟩
  | 64 => ⟨S36864x3584, .f32⟩
  | 65 => ⟨S_, .f32⟩
  | 66 => ⟨S36864x3584, .f32⟩
  | 67 => ⟨S36864x3584, .f32⟩
  | 68 => ⟨S_, .f32⟩
  | 69 => ⟨S36864x3584, .f32⟩
  | 70 => ⟨S36864x3584, .f32⟩
  | 71 => ⟨S36864x3584, .f32⟩
  | 72 => ⟨S36864x3584, .f32⟩
  | 73 => ⟨S36864x3584, .f32⟩
  | 74 => ⟨S36864x1024, .f32⟩
  | 75 => ⟨S36864x1024, .f32⟩
  | 76 => ⟨S36864x1024, .f32⟩
  | 77 => ⟨S36864x1024, .f32⟩
  | _ => ⟨S8, .i32⟩

abbrev hbmTy (i : Nat) : BufTy := match i / 128 with
  | 0 => hbmTy0_0 i
  | 1 => hbmTy0_1 i
  | _ => ⟨S8, .i32⟩

abbrev bufTy : (tb : Table) → Fin (tcTables nBuf tb) → BufTy
  | .hbm, ⟨i, _⟩ => hbmTy i
  | _, _ => ⟨S8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_call1_v0 : Ref sig .tc := ⟨.hbm, 30, rfl⟩
abbrev main_call1_v1 : Ref sig .tc := ⟨.hbm, 31, rfl⟩
abbrev main_call1_cst : Ref sig .tc := ⟨.hbm, 32, rfl⟩
abbrev main_call1_v2 : Ref sig .tc := ⟨.hbm, 33, rfl⟩
abbrev main_call1_v3 : Ref sig .tc := ⟨.hbm, 34, rfl⟩
abbrev main_call1_cst_0 : Ref sig .tc := ⟨.hbm, 35, rfl⟩
abbrev main_call1_v4 : Ref sig .tc := ⟨.hbm, 36, rfl⟩
abbrev main_call1_v5 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_call2_v0 : Ref sig .tc := ⟨.hbm, 53, rfl⟩
abbrev main_call2_v1 : Ref sig .tc := ⟨.hbm, 54, rfl⟩
abbrev main_call2_cst : Ref sig .tc := ⟨.hbm, 55, rfl⟩
abbrev main_call2_v2 : Ref sig .tc := ⟨.hbm, 56, rfl⟩
abbrev main_call2_v3 : Ref sig .tc := ⟨.hbm, 57, rfl⟩
abbrev main_call2_cst_0 : Ref sig .tc := ⟨.hbm, 58, rfl⟩
abbrev main_call2_v4 : Ref sig .tc := ⟨.hbm, 59, rfl⟩
abbrev main_call2_v5 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_call3_v0 : Ref sig .tc := ⟨.hbm, 76, rfl⟩
abbrev main_call3_v1 : Ref sig .tc := ⟨.hbm, 77, rfl⟩
abbrev main_call3_cst : Ref sig .tc := ⟨.hbm, 78, rfl⟩
abbrev main_call3_v2 : Ref sig .tc := ⟨.hbm, 79, rfl⟩
abbrev main_call3_v3 : Ref sig .tc := ⟨.hbm, 80, rfl⟩
abbrev main_call3_cst_0 : Ref sig .tc := ⟨.hbm, 81, rfl⟩
abbrev main_call3_v4 : Ref sig .tc := ⟨.hbm, 82, rfl⟩
abbrev main_call3_v5 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_call4_v0 : Ref sig .tc := ⟨.hbm, 99, rfl⟩
abbrev main_call4_v1 : Ref sig .tc := ⟨.hbm, 100, rfl⟩
abbrev main_call4_cst : Ref sig .tc := ⟨.hbm, 101, rfl⟩
abbrev main_call4_v2 : Ref sig .tc := ⟨.hbm, 102, rfl⟩
abbrev main_call4_v3 : Ref sig .tc := ⟨.hbm, 103, rfl⟩
abbrev main_call4_cst_0 : Ref sig .tc := ⟨.hbm, 104, rfl⟩
abbrev main_call4_v4 : Ref sig .tc := ⟨.hbm, 105, rfl⟩
abbrev main_call4_v5 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_call5_v0 : Ref sig .tc := ⟨.hbm, 122, rfl⟩
abbrev main_call5_v1 : Ref sig .tc := ⟨.hbm, 123, rfl⟩
abbrev main_call5_cst : Ref sig .tc := ⟨.hbm, 124, rfl⟩
abbrev main_call5_v2 : Ref sig .tc := ⟨.hbm, 125, rfl⟩
abbrev main_call5_v3 : Ref sig .tc := ⟨.hbm, 126, rfl⟩
abbrev main_call5_cst_0 : Ref sig .tc := ⟨.hbm, 127, rfl⟩
abbrev main_call5_v4 : Ref sig .tc := ⟨.hbm, 128, rfl⟩
abbrev main_call5_v5 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_call6_v0 : Ref sig .tc := ⟨.hbm, 145, rfl⟩
abbrev main_call6_v1 : Ref sig .tc := ⟨.hbm, 146, rfl⟩
abbrev main_call6_cst : Ref sig .tc := ⟨.hbm, 147, rfl⟩
abbrev main_call6_v2 : Ref sig .tc := ⟨.hbm, 148, rfl⟩
abbrev main_call6_v3 : Ref sig .tc := ⟨.hbm, 149, rfl⟩
abbrev main_call6_cst_0 : Ref sig .tc := ⟨.hbm, 150, rfl⟩
abbrev main_call6_v4 : Ref sig .tc := ⟨.hbm, 151, rfl⟩
abbrev main_call6_v5 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_call7_v0 : Ref sig .tc := ⟨.hbm, 168, rfl⟩
abbrev main_call7_v1 : Ref sig .tc := ⟨.hbm, 169, rfl⟩
abbrev main_call7_cst : Ref sig .tc := ⟨.hbm, 170, rfl⟩
abbrev main_call7_v2 : Ref sig .tc := ⟨.hbm, 171, rfl⟩
abbrev main_call7_v3 : Ref sig .tc := ⟨.hbm, 172, rfl⟩
abbrev main_call7_cst_0 : Ref sig .tc := ⟨.hbm, 173, rfl⟩
abbrev main_call7_v4 : Ref sig .tc := ⟨.hbm, 174, rfl⟩
abbrev main_call7_v5 : Ref sig .tc := ⟨.hbm, 175, rfl⟩
abbrev main_v108 : Ref sig .tc := ⟨.hbm, 176, rfl⟩
abbrev main_v109 : Ref sig .tc := ⟨.hbm, 177, rfl⟩
abbrev main_v110 : Ref sig .tc := ⟨.hbm, 178, rfl⟩
abbrev main_v111 : Ref sig .tc := ⟨.hbm, 179, rfl⟩
abbrev main_v112 : Ref sig .tc := ⟨.hbm, 180, rfl⟩
abbrev main_v113 : Ref sig .tc := ⟨.hbm, 181, rfl⟩
abbrev main_v114 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_v118 : Ref sig .tc := ⟨.hbm, 186, rfl⟩
abbrev main_v119 : Ref sig .tc := ⟨.hbm, 187, rfl⟩
abbrev main_v120 : Ref sig .tc := ⟨.hbm, 188, rfl⟩
abbrev main_v121 : Ref sig .tc := ⟨.hbm, 189, rfl⟩
abbrev main_v122 : Ref sig .tc := ⟨.hbm, 190, rfl⟩
abbrev main_call8_v0 : Ref sig .tc := ⟨.hbm, 191, rfl⟩
abbrev main_call8_v1 : Ref sig .tc := ⟨.hbm, 192, rfl⟩
abbrev main_call8_cst : Ref sig .tc := ⟨.hbm, 193, rfl⟩
abbrev main_call8_v2 : Ref sig .tc := ⟨.hbm, 194, rfl⟩
abbrev main_call8_v3 : Ref sig .tc := ⟨.hbm, 195, rfl⟩
abbrev main_call8_cst_0 : Ref sig .tc := ⟨.hbm, 196, rfl⟩
abbrev main_call8_v4 : Ref sig .tc := ⟨.hbm, 197, rfl⟩
abbrev main_call8_v5 : Ref sig .tc := ⟨.hbm, 198, rfl⟩
abbrev main_v123 : Ref sig .tc := ⟨.hbm, 199, rfl⟩
abbrev main_v124 : Ref sig .tc := ⟨.hbm, 200, rfl⟩
abbrev main_v125 : Ref sig .tc := ⟨.hbm, 201, rfl⟩
abbrev main_v126 : Ref sig .tc := ⟨.hbm, 202, rfl⟩
abbrev main_v127 : Ref sig .tc := ⟨.hbm, 203, rfl⟩
abbrev main_v128 : Ref sig .tc := ⟨.hbm, 204, rfl⟩
abbrev main_v129 : Ref sig .tc := ⟨.hbm, 205, rfl⟩

abbrev nD : Nat := 1
abbrev τ : Topo := Topo.v7x

variable {F : FTy → Type} [FloatOps F]
-- ==== Ffn.lean ====
abbrev S16384x1024 : Shape := ⟨2, ![16384, 1024]⟩
abbrev S1024 : Shape := ⟨1, ![1024]⟩
abbrev S1x1024x2816 : Shape := ⟨3, ![1, 1024, 2816]⟩
abbrev S1x2816x1024 : Shape := ⟨3, ![1, 2816, 1024]⟩
abbrev S1x1024 : Shape := ⟨2, ![1, 1024]⟩
abbrev S1024x2816 : Shape := ⟨2, ![1024, 2816]⟩
abbrev S2816x1024 : Shape := ⟨2, ![2816, 1024]⟩
abbrev S1024x1024 : Shape := ⟨2, ![1024, 1024]⟩
abbrev S1024x1408 : Shape := ⟨2, ![1024, 1408]⟩
abbrev S1408x1024 : Shape := ⟨2, ![1408, 1024]⟩
abbrev S1024x1 : Shape := ⟨2, ![1024, 1]⟩
abbrev S512x1024 : Shape := ⟨2, ![512, 1024]⟩
abbrev S512x1408 : Shape := ⟨2, ![512, 1408]⟩

abbrev nBuf : Space → Nat
  | .hbm => 13
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1x1024, .f32⟩
  | .hbm, ⟨6, _⟩ => ⟨S1024x2816, .f32⟩
  | .hbm, ⟨7, _⟩ => ⟨S1024x2816, .bf16⟩
  | .hbm, ⟨8, _⟩ => ⟨S1024x2816, .f32⟩
  | .hbm, ⟨9, _⟩ => ⟨S1024x2816, .bf16⟩
  | .hbm, ⟨10, _⟩ => ⟨S2816x1024, .f32⟩
  | .hbm, ⟨11, _⟩ => ⟨S2816x1024, .bf16⟩
  | .hbm, ⟨12, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1408x1024, .bf16⟩
  | .local _ .vmem, ⟨8, _⟩ => ⟨S1408x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnRefIdeal.lean ====
abbrev S16384x1024 : Shape := ⟨2, ![16384, 1024]⟩
abbrev S1024 : Shape := ⟨1, ![1024]⟩
abbrev S1x1024x2816 : Shape := ⟨3, ![1, 1024, 2816]⟩
abbrev S1x2816x1024 : Shape := ⟨3, ![1, 2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1024x2816 : Shape := ⟨2, ![1024, 2816]⟩
abbrev S2816x1024 : Shape := ⟨2, ![2816, 1024]⟩
abbrev S16384x2816 : Shape := ⟨2, ![16384, 2816]⟩

abbrev nBuf : Space → Nat
  | .hbm => 38
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S1024x2816, .f32⟩
  | .hbm, ⟨22, _⟩ => ⟨S1024x2816, .f32⟩
  | .hbm, ⟨23, _⟩ => ⟨S2816x1024, .f32⟩
  | .hbm, ⟨24, _⟩ => ⟨S16384x2816, .f32⟩
  | .hbm, ⟨25, _⟩ => ⟨S16384x2816, .f32⟩
  | .hbm, ⟨26, _⟩ => ⟨S16384x2816, .f32⟩
  | .hbm, ⟨27, _⟩ => ⟨S_, .f32⟩
  | .hbm, ⟨28, _⟩ => ⟨S16384x2816, .f32⟩
  | .hbm, ⟨29, _⟩ => ⟨S16384x2816, .f32⟩
  | .hbm, ⟨30, _⟩ => ⟨S_, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x2816, .f32⟩
  | .hbm, ⟨35, _⟩ => ⟨S16384x2816, .f32⟩
  | .hbm, ⟨36, _⟩ => ⟨S16384x1024, .f32⟩
  | .hbm, ⟨37, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩

abbrev nD : Nat := 1
abbrev τ : Topo := Topo.v7x

variable {F : FTy → Type} [FloatOps F]
-- ==== Comb.lean ====
abbrev S32768 : Shape := ⟨1, ![32768]⟩
abbrev S16384x1024 : Shape := ⟨2, ![16384, 1024]⟩
abbrev S16384x128 : Shape := ⟨2, ![16384, 128]⟩
abbrev S1x1024 : Shape := ⟨2, ![1, 1024]⟩
abbrev S36864x1024 : Shape := ⟨2, ![36864, 1024]⟩
abbrev S2048 : Shape := ⟨1, ![2048]⟩
abbrev S1024x1024 : Shape := ⟨2, ![1024, 1024]⟩
abbrev S1024x128 : Shape := ⟨2, ![1024, 128]⟩
abbrev S2x1024x1024 : Shape := ⟨3, ![2, 1024, 1024]⟩
abbrev S_ : Shape := ⟨0, ![]⟩
abbrev S1 : Shape := ⟨1, ![1]⟩
abbrev S1x1024x1024 : Shape := ⟨3, ![1, 1024, 1024]⟩
abbrev S1024x1 : Shape := ⟨2, ![1024, 1]⟩
abbrev S1024 : Shape := ⟨1, ![1024]⟩

abbrev nBuf : Space → Nat
  | .hbm => 6
  | .vmem => 8
  | .smem => 2
  | _ => 0

abbrev bufTy : (tb : Table) → Fin (tcTables nBuf tb) → BufTy
  | .hbm, ⟨0, _⟩ => ⟨S32768, .i32⟩
  | .hbm, ⟨1, _⟩ => ⟨S16384x1024, .f32⟩
  | .hbm, ⟨2, _⟩ => ⟨S16384x128, .f32⟩
  | .hbm, ⟨3, _⟩ => ⟨S1x1024, .f32⟩
  | .hbm, ⟨4, _⟩ => ⟨S36864x1024, .f32⟩
  | .hbm, ⟨5, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x128, .f32⟩
  | .local _ .vmem, ⟨3, _⟩ => ⟨S1024x128, .f32⟩
  | .local _ .vmem, ⟨4, _⟩ => ⟨S1x1024, .f32⟩
  | .local _ .vmem, ⟨5, _⟩ => ⟨S1024x1024, .f32⟩
  | .local _ .vmem, ⟨6, _⟩ => ⟨S1024x1024, .f32⟩
  | .local _ .vmem, ⟨7, _⟩ => ⟨S2x1024x1024, .f32⟩
  | .local _ .smem, ⟨0, _⟩ => ⟨S2048, .i32⟩
  | .local _ .smem, ⟨1, _⟩ => ⟨S2048, .i32⟩
  | _, _ => ⟨S32768, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c1024_i32 : BitVec 32 := 1024#32
  let v0 : BitVec 32 := Scalar.addi c0_i32 c1024_i32
  let c1_i32 : BitVec 32 := 1#32
  ⟨c0_i32, v0, c1_i32⟩
def k0_off1 (k0_t1 : Fin k0_t1_loop.trips) : Fin 1 → Nat :=
  let c2_i32 : BitVec 32 := 2#32
  let c0_i32 : BitVec 32 := 0#32
  let c1_i32 : BitVec 32 := 1#32
  let arg9 : BitVec 32 := Scf.iv c0_i32 c1_i32 k0_t1
  let v30 : BitVec 32 := Scalar.muli c2_i32 arg9
  let c0_i32_18 : BitVec 32 := 0#32
  let v31 : BitVec 32 := Scalar.addi v30 c0_i32_18
  let v32 : Index := Scalar.indexCast v31
  ![v32.toNat]
def k0_off2 (k0_t1 : Fin k0_t1_loop.trips) : Fin 2 → Nat :=
  let c0_i32 : BitVec 32 := 0#32
  let c1_i32 : BitVec 32 := 1#32
  let arg9 : BitVec 32 := Scf.iv c0_i32 c1_i32 k0_t1
  let c0_i32_22 : BitVec 32 := 0#32
  ![arg9.toNat, 0]
def k0_off3 (v33 : BitVec 32) : Fin 2 → Nat :=
  let c0_i32_23 : BitVec 32 := 0#32
  ![v33.toNat, 0]

def k0_chk1 (v33 : BitVec 32) : Prop :=
  (∀ a, (k0_off3 v33) a + S1x1024.size a ≤ S36864x1024.size a)
theorem k0_off3_inb : ∀ (v33 : BitVec 32) (k0_hw1 : k0_chk1 v33), ∀ a, (k0_off3 v33) a + S1x1024.size a ≤ S36864x1024.size a := fun v33 k0_hw1 => k0_hw1

def k0_off4 (k0_t1 : Fin k0_t1_loop.trips) : Fin 1 → Nat :=
  let c2_i32_24 : BitVec 32 := 2#32
  let c0_i32 : BitVec 32 := 0#32
  let c1_i32 : BitVec 32 := 1#32
  let arg9 : BitVec 32 := Scf.iv c0_i32 c1_i32 k0_t1
  let v38 : BitVec 32 := Scalar.muli c2_i32_24 arg9
  let c1_i32_25 : BitVec 32 := 1#32
  let v39 : BitVec 32 := Scalar.addi v38 c1_i32_25
  let v40 : Index := Scalar.indexCast v39
  ![v40.toNat]
def k0_off5 (k0_t1 : Fin k0_t1_loop.trips) : Fin 2 → Nat :=
  let c0_i32 : BitVec 32 := 0#32
  let c1_i32 : BitVec 32 := 1#32
  let arg9 : BitVec 32 := Scf.iv c0_i32 c1_i32 k0_t1
  let c0_i32_29 : BitVec 32 := 0#32
  ![arg9.toNat, 0]
def k0_off6 (v41 : BitVec 32) : Fin 2 → Nat :=
  let c0_i32_30 : BitVec 32 := 0#32
  ![v41.toNat, 0]

def k0_chk2 (v41 : BitVec 32) : Prop :=
  (∀ a, (k0_off6 v41) a + S1x1024.size a ≤ S36864x1024.size a)
theorem k0_off6_inb : ∀ (v41 : BitVec 32) (k0_hw2 : k0_chk2 v41), ∀ a, (k0_off6 v41) a + S1x1024.size a ≤ S36864x1024.size a := fun v41 k0_hw2 => k0_hw2

@[reducible] def k0_t2_loop : Scf.Loop 32 :=
  let c0_i32_1 : BitVec 32 := 0#32
  let c1024_i32_2 : BitVec 32 := 1024#32
  let v1 : BitVec 32 := Scalar.addi c0_i32_1 c1024_i32_2
  let c1_i32_3 : BitVec 32 := 1#32
  ⟨c0_i32_1, v1, c1_i32_3⟩
def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== CombRefIdeal.lean ====
abbrev S32768 : Shape := ⟨1, ![32768]⟩
abbrev S16384x1024 : Shape := ⟨2, ![16384, 1024]⟩
abbrev S16384x128 : Shape := ⟨2, ![16384, 128]⟩
abbrev S1x1024 : Shape := ⟨2, ![1, 1024]⟩
abbrev S36864x1024 : Shape := ⟨2, ![36864, 1024]⟩
abbrev S16384x2 : Shape := ⟨2, ![16384, 2]⟩
abbrev S16384x1 : Shape := ⟨2, ![16384, 1]⟩
abbrev S16384 : Shape := ⟨1, ![16384]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S32768, .i32⟩
  | .hbm, ⟨1, _⟩ => ⟨S16384x1024, .f32⟩
  | .hbm, ⟨2, _⟩ => ⟨S16384x128, .f32⟩
  | .hbm, ⟨3, _⟩ => ⟨S1x1024, .f32⟩
  | .hbm, ⟨4, _⟩ => ⟨S36864x1024, .f32⟩
  | .hbm, ⟨5, _⟩ => ⟨S16384x2, .i32⟩
  | .hbm, ⟨6, _⟩ => ⟨S16384x1, .i32⟩
  | .hbm, ⟨7, _⟩ => ⟨S16384, .i32⟩
  | .hbm, ⟨8, _⟩ => ⟨S16384x1, .i32⟩
  | .hbm, ⟨9, _⟩ => ⟨S16384x1024, .f32⟩
  | .hbm, ⟨10, _⟩ => ⟨S16384x1, .i32⟩
  | .hbm, ⟨11, _⟩ => ⟨S16384, .i32⟩
  | .hbm, ⟨12, _⟩ => ⟨S16384x1, .i32⟩
  | .hbm, ⟨13, _⟩ => ⟨S16384x1024, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x1, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x1024, .f32⟩
  | _, _ => ⟨S32768, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call1_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== Post.lean ====
abbrev S16384x1024 : Shape := ⟨2, ![16384, 1024]⟩
abbrev S1x1024x1024 : Shape := ⟨3, ![1, 1024, 1024]⟩
abbrev S1024x1024 : Shape := ⟨2, ![1024, 1024]⟩
abbrev S512x1024 : Shape := ⟨2, ![512, 1024]⟩

abbrev nBuf : Space → Nat
  | .hbm => 7
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1x1024x1024, .f32⟩
  | .hbm, ⟨4, _⟩ => ⟨S1024x1024, .f32⟩
  | .hbm, ⟨5, _⟩ => ⟨S1024x1024, .bf16⟩
  | .hbm, ⟨6, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PostRefIdeal.lean ====
abbrev S16384x1024 : Shape := ⟨2, ![16384, 1024]⟩
abbrev S1x1024x1024 : Shape := ⟨3, ![1, 1024, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1x1024x1024, .f32⟩
  | .hbm, ⟨4, _⟩ => ⟨S16384x1024, .f32⟩
  | .hbm, ⟨5, _⟩ => ⟨S1024x1024, .f32⟩
  | .hbm, ⟨6, _⟩ => ⟨S16384x1024, .f32⟩
  | .hbm, ⟨7, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Proj.lean ====
abbrev S8x2048x1024 : Shape := ⟨3, ![8, 2048, 1024]⟩
abbrev S1024 : Shape := ⟨1, ![1024]⟩
abbrev S1x1024x1536 : Shape := ⟨3, ![1, 1024, 1536]⟩
abbrev S1024x3072 : Shape := ⟨2, ![1024, 3072]⟩
abbrev S_ : Shape := ⟨0, ![]⟩
abbrev S1x1024 : Shape := ⟨2, ![1, 1024]⟩
abbrev S8x1024 : Shape := ⟨2, ![8, 1024]⟩
abbrev S1024x1536 : Shape := ⟨2, ![1024, 1536]⟩
abbrev S8x1x2048x512 : Shape := ⟨4, ![8, 1, 2048, 512]⟩
abbrev S8x4x512x512 : Shape := ⟨4, ![8, 4, 512, 512]⟩
abbrev S8x16x128x512 : Shape := ⟨4, ![8, 16, 128, 512]⟩
abbrev S1x512x1024 : Shape := ⟨3, ![1, 512, 1024]⟩
abbrev S1x1x512x512 : Shape := ⟨4, ![1, 1, 512, 512]⟩
abbrev S1x4x128x512 : Shape := ⟨4, ![1, 4, 128, 512]⟩
abbrev S1x16x32x512 : Shape := ⟨4, ![1, 16, 32, 512]⟩
abbrev S12x512x128 : Shape := ⟨3, ![12, 512, 128]⟩
abbrev S24x512x128 : Shape := ⟨3, ![24, 512, 128]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S512x128 : Shape := ⟨2, ![512, 128]⟩
abbrev S1x512x128 : Shape := ⟨3, ![1, 512, 128]⟩
abbrev S1x1x512x128 : Shape := ⟨4, ![1, 1, 512, 128]⟩
abbrev S1x128x128 : Shape := ⟨3, ![1, 128, 128]⟩
abbrev S128x128 : Shape := ⟨2, ![128, 128]⟩
abbrev S1x1x128x128 : Shape := ⟨4, ![1, 1, 128, 128]⟩
abbrev S1x32x128 : Shape := ⟨3, ![1, 32, 128]⟩
abbrev S32x128 : Shape := ⟨2, ![32, 128]⟩
abbrev S1x1x32x128 : Shape := ⟨4, ![1, 1, 32, 128]⟩

abbrev nBuf : Space → Nat
  | .hbm => 28
  | .vmem => 25
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024, .f32⟩
  | .hbm, ⟨3, _⟩ => ⟨S1x1024x1536, .f32⟩
  | .hbm, ⟨4, _⟩ => ⟨S1024x3072, .f32⟩
  | .hbm, ⟨5, _⟩ => ⟨S_, .f32⟩
  | .hbm, ⟨6, _⟩ => ⟨S1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S8x1024, .f32⟩
  | .hbm, ⟨16, _⟩ => ⟨S1024x1536, .f32⟩
  | .hbm, ⟨17, _⟩ => ⟨S1024x1536, .bf16⟩
  | .hbm, ⟨18, _⟩ => ⟨S1024x3072, .bf16⟩
  | .hbm, ⟨19, _⟩ => ⟨S8x1x2048x512, .bf16⟩
  | .hbm, ⟨20, _⟩ => ⟨S8x1x2048x512, .bf16⟩
  | .hbm, ⟨21, _⟩ => ⟨S8x1x2048x512, .bf16⟩
  | .hbm, ⟨22, _⟩ => ⟨S8x4x512x512, .bf16⟩
  | .hbm, ⟨23, _⟩ => ⟨S8x4x512x512, .bf16⟩
  | .hbm, ⟨24, _⟩ => ⟨S8x4x512x512, .bf16⟩
  | .hbm, ⟨25, _⟩ => ⟨S8x16x128x512, .bf16⟩
  | .hbm, ⟨26, _⟩ => ⟨S8x16x128x512, .bf16⟩
  | .hbm, ⟨27, _⟩ => ⟨S8x16x128x512, .bf16⟩
  | .local _ .vmem, ⟨0, _⟩ => ⟨S1x512x1024, .f32⟩
  | .local _ .vmem, ⟨1, _⟩ => ⟨S1x512x1024, .f32⟩
  | .local _ .vmem, ⟨2, _⟩ => ⟨S8x1024, .f32⟩
  | .local _ .vmem, ⟨3, _⟩ => ⟨S1024x1536, .bf16⟩
  | .local _ .vmem, ⟨4, _⟩ => ⟨S1024x3072, .bf16⟩
  | .local _ .vmem, ⟨5, _⟩ => ⟨S1x1x512x512, .bf16⟩
  | .local _ .vmem, ⟨6, _⟩ => ⟨S1x1x512x512, .bf16⟩
  | .local _ .vmem, ⟨7, _⟩ => ⟨S1x1x512x512, .bf16⟩
  | .local _ .vmem, ⟨8, _⟩ => ⟨S1x1x512x512, .bf16⟩
  | .local _ .vmem, ⟨9, _⟩ => ⟨S1x1x512x512, .bf16⟩
  | .local _ .vmem, ⟨10, _⟩ => ⟨S1x1x512x512, .bf16⟩
  | .local _ .vmem, ⟨11, _⟩ => ⟨S1x4x128x512, .bf16⟩
  | .local _ .vmem, ⟨12, _⟩ => ⟨S1x4x128x512, .bf16⟩
  | .local _ .vmem, ⟨13, _⟩ => ⟨S1x4x128x512, .bf16⟩
  | .local _ .vmem, ⟨14, _⟩ => ⟨S1x4x128x512, .bf16⟩
  | .local _ .vmem, ⟨15, _⟩ => ⟨S1x4x128x512, .bf16⟩
  | .local _ .vmem, ⟨16, _⟩ => ⟨S1x4x128x512, .bf16⟩
  | .local _ .vmem, ⟨17, _⟩ => ⟨S1x16x32x512, .bf16⟩
  | .local _ .vmem, ⟨18, _⟩ => ⟨S1x16x32x512, .bf16⟩
  | .local _ .vmem, ⟨19, _⟩ => ⟨S1x16x32x512, .bf16⟩
  | .local _ .vmem, ⟨20, _⟩ => ⟨S1x16x32x512, .bf16⟩
  | .local _ .vmem, ⟨21, _⟩ => ⟨S1x16x32x512, .bf16⟩
  | .local _ .vmem, ⟨22, _⟩ => ⟨S1x16x32x512, .bf16⟩
  | .local _ .vmem, ⟨23, _⟩ => ⟨S12x512x128, .f32⟩
  | .local _ .vmem, ⟨24, _⟩ => ⟨S24x512x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13_0 : Ref sig .tc := ⟨.hbm, 19, rfl⟩
abbrev main_v13_1 : Ref sig .tc := ⟨.hbm, 20, rfl⟩
abbrev main_v13_2 : Ref sig .tc := ⟨.hbm, 21, rfl⟩
abbrev main_v13_3 : Ref sig .tc := ⟨.hbm, 22, rfl⟩
abbrev main_v13_4 : Ref sig .tc := ⟨.hbm, 23, rfl⟩
abbrev main_v13_5 : Ref sig .tc := ⟨.hbm, 24, rfl⟩
abbrev main_v13_6 : Ref sig .tc := ⟨.hbm, 25, rfl⟩
abbrev main_v13_7 : Ref sig .tc := ⟨.hbm, 26, rfl⟩
abbrev main_v13_8 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4x128x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x16x32x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x16x32x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x16x32x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ProjRefIdeal.lean ====
abbrev S8x2048x1024 : Shape := ⟨3, ![8, 2048, 1024]⟩
abbrev S1024 : Shape := ⟨1, ![1024]⟩
abbrev S1x1024x1536 : Shape := ⟨3, ![1, 1024, 1536]⟩
abbrev S1024x3072 : Shape := ⟨2, ![1024, 3072]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x1536 : Shape := ⟨2, ![1024, 1536]⟩
abbrev S8x2048x1536 : Shape := ⟨3, ![8, 2048, 1536]⟩
abbrev S8x2048x3x512 : Shape := ⟨4, ![8, 2048, 3, 512]⟩
abbrev S8x2048x3072 : Shape := ⟨3, ![8, 2048, 3072]⟩
abbrev S8x2048x2x3x512 : Shape := ⟨5, ![8, 2048, 2, 3, 512]⟩
abbrev S8x2048x1x512 : Shape := ⟨4, ![8, 2048, 1, 512]⟩
abbrev S8x2048x512 : Shape := ⟨3, ![8, 2048, 512]⟩
abbrev S8x2048x1x1x512 : Shape := ⟨5, ![8, 2048, 1, 1, 512]⟩
abbrev S8x1x2048x512 : Shape := ⟨4, ![8, 1, 2048, 512]⟩
abbrev S8x512x4x512 : Shape := ⟨4, ![8, 512, 4, 512]⟩
abbrev S8x4x512x512 : Shape := ⟨4, ![8, 4, 512, 512]⟩
abbrev S8x128x16x512 : Shape := ⟨4, ![8, 128, 16, 512]⟩
abbrev S8x16x128x512 : Shape := ⟨4, ![8, 16, 128, 512]⟩

abbrev nBuf : Space → Nat
  | .hbm => 90
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024, .f32⟩
  | .hbm, ⟨3, _⟩ => ⟨S1x1024x1536, .f32⟩
  | .hbm, ⟨4, _⟩ => ⟨S1024x3072, .f32⟩
  | .hbm, ⟨5, _⟩ => ⟨S8x2048x1024, .f32⟩
  | .hbm, ⟨6, _⟩ => ⟨S_, .f32⟩
  | .hbm, ⟨7, _⟩ => ⟨S8x2048, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S8x2048x1, .f32⟩
  | .hbm, ⟨16, _⟩ => ⟨S8x2048x1024, .f32⟩
  | .hbm, ⟨17, _⟩ => ⟨S8x2048x1024, .f32⟩
  | .hbm, ⟨18, _⟩ => ⟨S1x1x1024, .f32⟩
  | .hbm, ⟨19, _⟩ => ⟨S8x2048x1024, .f32⟩
  | .hbm, ⟨20, _⟩ => ⟨S8x2048x1024, .f32⟩
  | .hbm, ⟨21, _⟩ => ⟨S1024x1536, .f32⟩
  | .hbm, ⟨22, _⟩ => ⟨S8x2048x1536, .f32⟩
  | .hbm, ⟨23, _⟩ => ⟨S_, .f32⟩
  | .hbm, ⟨24, _⟩ => ⟨S8x2048x1536, .f32⟩
  | .hbm, ⟨25, _⟩ => ⟨S8x2048x1536, .f32⟩
  | .hbm, ⟨26, _⟩ => ⟨S8x2048x3x512, .f32⟩
  | .hbm, ⟨27, _⟩ => ⟨S8x2048x1024, .f32⟩
  | .hbm, ⟨28, _⟩ => ⟨S_, .f32⟩
  | .hbm, ⟨29, _⟩ => ⟨S8x2048, .f32⟩
  | .hbm, ⟨30, _⟩ => ⟨S8x2048x1, .f32⟩
  | .hbm, ⟨31, _⟩ => ⟨S_, .f32⟩
  | .hbm, ⟨32, _⟩ => ⟨S8x2048x1, .f32⟩
  | .hbm, ⟨33, _⟩ => ⟨S8x2048x1, .f32⟩
  | .hbm, ⟨34, _⟩ => ⟨S_, .f32⟩
  | .hbm, ⟨35, _⟩ => ⟨S8x2048x1, .f32⟩
  | .hbm, ⟨36, _⟩ => ⟨S8x2048x1, .f32⟩
  | .hbm, ⟨37, _⟩ => ⟨S8x2048x1, .f32⟩
  | .hbm, ⟨38, _⟩ => ⟨S8x2048x1024, .f32⟩
  | .hbm, ⟨39, _⟩ => ⟨S8x2048x1024, .f32⟩
  | .hbm, ⟨40, _⟩ => ⟨S1x1x1024, .f32⟩
  | .hbm, ⟨41, _⟩ => ⟨S8x2048x1024, .f32⟩
  | .hbm, ⟨42, _⟩ => ⟨S8x2048x1024, .f32⟩
  | .hbm, ⟨43, _⟩ => ⟨S8x2048x3072, .f32⟩
  | .hbm, ⟨44, _⟩ => ⟨S8x2048x2x3x512, .f32⟩
  | .hbm, ⟨45, _⟩ => ⟨S8x2048x1x512, .f32⟩
  | .hbm, ⟨46, _⟩ => ⟨S8x2048x512, .f32⟩
  | .hbm, ⟨47, _⟩ => ⟨S8x2048x1x1x512, .f32⟩
  | .hbm, ⟨48, _⟩ => ⟨S8x2048x512, .f32⟩
  | .hbm, ⟨49, _⟩ => ⟨S8x2048x1x1x512, .f32⟩
  | .hbm, ⟨50, _⟩ => ⟨S8x2048x512, .f32⟩
  | .hbm, ⟨51, _⟩ => ⟨S8x2048x1x512, .f32⟩
  | .hbm, ⟨52, _⟩ => ⟨S8x1x2048x512, .f32⟩
  | .hbm, ⟨53, _⟩ => ⟨S8x1x2048x512, .bf16⟩
  | .hbm, ⟨54, _⟩ => ⟨S8x2048x1x512, .f32⟩
  | .hbm, ⟨55, _⟩ => ⟨S8x1x2048x512, .f32⟩
  | .hbm, ⟨56, _⟩ => ⟨S8x1x2048x512, .bf16⟩
  | .hbm, ⟨57, _⟩ => ⟨S8x2048x1x512, .f32⟩
  | .hbm, ⟨58, _⟩ => ⟨S8x1x2048x512, .f32⟩
  | .hbm, ⟨59, _⟩ => ⟨S8x1x2048x512, .bf16⟩
  | .hbm, ⟨60, _⟩ => ⟨S8x2048x1x512, .f32⟩
  | .hbm, ⟨61, _⟩ => ⟨S8x2048x512, .f32⟩
  | .hbm, ⟨62, _⟩ => ⟨S8x2048x1x1x512, .f32⟩
  | .hbm, ⟨63, _⟩ => ⟨S8x2048x512, .f32⟩
  | .hbm, ⟨64, _⟩ => ⟨S8x2048x1x1x512, .f32⟩
  | .hbm, ⟨65, _⟩ => ⟨S8x2048x512, .f32⟩
  | .hbm, ⟨66, _⟩ => ⟨S8x512x4x512, .f32⟩
  | .hbm, ⟨67, _⟩ => ⟨S8x4x512x512, .f32⟩
  | .hbm, ⟨68, _⟩ => ⟨S8x4x512x512, .bf16⟩
  | .hbm, ⟨69, _⟩ => ⟨S8x512x4x512, .f32⟩
  | .hbm, ⟨70, _⟩ => ⟨S8x4x512x512, .f32⟩
  | .hbm, ⟨71, _⟩ => ⟨S8x4x512x512, .bf16⟩
  | .hbm, ⟨72, _⟩ => ⟨S8x512x4x512, .f32⟩
  | .hbm, ⟨73, _⟩ => ⟨S8x4x512x512, .f32⟩
  | .hbm, ⟨74, _⟩ => ⟨S8x4x512x512, .bf16⟩
  | .hbm, ⟨75, _⟩ => ⟨S8x2048x1x512, .f32⟩
  | .hbm, ⟨76, _⟩ => ⟨S8x2048x512, .f32⟩
  | .hbm, ⟨77, _⟩ => ⟨S8x2048x1x1x512, .f32⟩
  | .hbm, ⟨78, _⟩ => ⟨S8x2048x512, .f32⟩
  | .hbm, ⟨79, _⟩ => ⟨S8x2048x1x1x512, .f32⟩
  | .hbm, ⟨80, _⟩ => ⟨S8x2048x512, .f32⟩
  | .hbm, ⟨81, _⟩ => ⟨S8x128x16x512, .f32⟩
  | .hbm, ⟨82, _⟩ => ⟨S8x16x128x512, .f32⟩
  | .hbm, ⟨83, _⟩ => ⟨S8x16x128x512, .bf16⟩
  | .hbm, ⟨84, _⟩ => ⟨S8x128x16x512, .f32⟩
  | .hbm, ⟨85, _⟩ => ⟨S8x16x128x512, .f32⟩
  | .hbm, ⟨86, _⟩ => ⟨S8x16x128x512, .bf16⟩
  | .hbm, ⟨87, _⟩ => ⟨S8x128x16x512, .f32⟩
  | .hbm, ⟨88, _⟩ => ⟨S8x16x128x512, .f32⟩
  | .hbm, ⟨89, _⟩ => ⟨S8x16x128x512, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩

abbrev nD : Nat := 1
abbrev τ : Topo := Topo.v7x

variable {F : FTy → Type} [FloatOps F]
-- ==== Mix.lean ====
abbrev S8x2048x1024 : Shape := ⟨3, ![8, 2048, 1024]⟩
abbrev S1024 : Shape := ⟨1, ![1024]⟩
abbrev S1x6x1024 : Shape := ⟨3, ![1, 6, 1024]⟩
abbrev S1x1024x1024 : Shape := ⟨3, ![1, 1024, 1024]⟩
abbrev S1x1024 : Shape := ⟨2, ![1, 1024]⟩
abbrev S1x1024x64 : Shape := ⟨3, ![1, 1024, 64]⟩
abbrev S1x64x1024 : Shape := ⟨3, ![1, 64, 1024]⟩
abbrev S1x1024x128 : Shape := ⟨3, ![1, 1024, 128]⟩
abbrev S1x128x1024 : Shape := ⟨3, ![1, 128, 1024]⟩
abbrev S_ : Shape := ⟨0, ![]⟩
abbrev S8x1024 : Shape := ⟨2, ![8, 1024]⟩
abbrev S6x1024 : Shape := ⟨2, ![6, 1024]⟩
abbrev S1024x1024 : Shape := ⟨2, ![1024, 1024]⟩
abbrev S1024x64 : Shape := ⟨2, ![1024, 64]⟩
abbrev S1024x128 : Shape := ⟨2, ![1024, 128]⟩
abbrev S64x1024 : Shape := ⟨2, ![64, 1024]⟩
abbrev S128x1024 : Shape := ⟨2, ![128, 1024]⟩
abbrev S1x512x1024 : Shape := ⟨3, ![1, 512, 1024]⟩
abbrev S1x8x1024 : Shape := ⟨3, ![1, 8, 1024]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S512x128 : Shape := ⟨2, ![512, 128]⟩

abbrev nBuf : Space → Nat
  | .hbm => 69
  | .vmem => 29
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1x6x1024, .f32⟩
  | .hbm, ⟨3, _⟩ => ⟨S1x1024x1024, .f32⟩
  | .hbm, ⟨4, _⟩ => ⟨S1x1024x1024, .f32⟩
  | .hbm, ⟨5, _⟩ => ⟨S1x1024x1024, .f32⟩
  | .hbm, ⟨6, _⟩ => ⟨S1x1024, .f32⟩
  | .hbm, ⟨7, _⟩ => ⟨S1x1024x64, .f32⟩
  | .hbm, ⟨8, _⟩ => ⟨S1x64x1024, .f32⟩
  | .hbm, ⟨9, _⟩ => ⟨S1x1024, .f32⟩
  | .hbm, ⟨10, _⟩ => ⟨S1x1024x64, .f32⟩
  | .hbm, ⟨11, _⟩ => ⟨S1x64x1024, .f32⟩
  | .hbm, ⟨12, _⟩ => ⟨S1x1024x128, .f32⟩
  | .hbm, ⟨13, _⟩ => ⟨S1x128x1024, .f32⟩
  | .hbm, ⟨14, _⟩ => ⟨S1x1024, .f32⟩
  | .hbm, ⟨15, _⟩ => ⟨S1x1024, .f32⟩
  | .hbm, ⟨16, _⟩ => ⟨S_, .f32⟩
  | .hbm, ⟨17, _⟩ => ⟨S1024, .f32⟩
  | .hbm, ⟨18, _⟩ => ⟨S1024, .f32⟩
  | .hbm, ⟨19, _⟩ => ⟨S1024, .f32⟩
  | .hbm, ⟨20, _⟩ => ⟨S1024, .f32⟩
  | .hbm, ⟨21, _⟩ => ⟨S1024, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S8x1024, .f32⟩
  | .hbm, ⟨31, _⟩ => ⟨S6x1024, .f32⟩
  | .hbm, ⟨32, _⟩ => ⟨S1024x1024, .f32⟩
  | .hbm, ⟨33, _⟩ => ⟨S1024x1024, .bf16⟩
  | .hbm, ⟨34, _⟩ => ⟨S1024x1024, .f32⟩
  | .hbm, ⟨35, _⟩ => ⟨S1024x1024, .bf16⟩
  | .hbm, ⟨36, _⟩ => ⟨S1024x1024, .f32⟩
  | .hbm, ⟨37, _⟩ => ⟨S1024x1024, .bf16⟩
  | .hbm, ⟨38, _⟩ => ⟨S1024x64, .f32⟩
  | .hbm, ⟨39, _⟩ => ⟨S_, .i32⟩
  | .hbm, ⟨40, _⟩ => ⟨S_, .f32⟩
  | .hbm, ⟨41, _⟩ => ⟨S1024x128, .f32⟩
  | .hbm, ⟨42, _⟩ => ⟨S1024x128, .bf16⟩
  | .hbm, ⟨43, _⟩ => ⟨S64x1024, .f32⟩
  | .hbm, ⟨44, _⟩ => ⟨S_, .i32⟩
  | .hbm, ⟨45, _⟩ => ⟨S_, .f32⟩
  | .hbm, ⟨46, _⟩ => ⟨S128x1024, .f32⟩
  | .hbm, ⟨47, _⟩ => ⟨S128x1024, .bf16⟩
  | .hbm, ⟨48, _⟩ => ⟨S1024x64, .f32⟩
  | .hbm, ⟨49, _⟩ => ⟨S_, .i32⟩
  | .hbm, ⟨50, _⟩ => ⟨S_, .f32⟩
  | .hbm, ⟨51, _⟩ => ⟨S1024x128, .f32⟩
  | .hbm, ⟨52, _⟩ => ⟨S1024x128, .bf16⟩
  | .hbm, ⟨53, _⟩ => ⟨S64x1024, .f32⟩
  | .hbm, ⟨54, _⟩ => ⟨S_, .i32⟩
  | .hbm, ⟨55, _⟩ => ⟨S_, .f32⟩
  | .hbm, ⟨56, _⟩ => ⟨S128x1024, .f32⟩
  | .hbm, ⟨57, _⟩ => ⟨S128x1024, .bf16⟩
  | .hbm, ⟨58, _⟩ => ⟨S1024x128, .f32⟩
  | .hbm, ⟨59, _⟩ => ⟨S1024x128, .bf16⟩
  | .hbm, ⟨60, _⟩ => ⟨S128x1024, .f32⟩
  | .hbm, ⟨61, _⟩ => ⟨S128x1024, .bf16⟩
  | .hbm, ⟨62, _⟩ => ⟨S8x2048x1024, .bf16⟩
  | .hbm, ⟨63, _⟩ => ⟨S8x2048x1024, .f32⟩
  | .hbm, ⟨64, _⟩ => ⟨S8x2048x1024, .bf16⟩
  | .hbm, ⟨65, _⟩ => ⟨S8x2048x1024, .bf16⟩
  | .hbm, ⟨66, _⟩ => ⟨S8x2048x1024, .bf16⟩
  | .hbm, ⟨67, _⟩ => ⟨S8x2048x1024, .bf16⟩
  | .hbm, ⟨68, _⟩ => ⟨S8x2048x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S8x1024, .f32⟩
  | .local _ .vmem, ⟨5, _⟩ => ⟨S6x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x128, .bf16⟩
  | .local _ .vmem, ⟨10, _⟩ => ⟨S128x1024, .bf16⟩
  | .local _ .vmem, ⟨11, _⟩ => ⟨S1024x128, .bf16⟩
  | .local _ .vmem, ⟨12, _⟩ => ⟨S128x1024, .bf16⟩
  | .local _ .vmem, ⟨13, _⟩ => ⟨S1024x128, .bf16⟩
  | .local _ .vmem, ⟨14, _⟩ => ⟨S128x1024, .bf16⟩
  | .local _ .vmem, ⟨15, _⟩ => ⟨S1x512x1024, .bf16⟩
  | .local _ .vmem, ⟨16, _⟩ => ⟨S1x512x1024, .bf16⟩
  | .local _ .vmem, ⟨17, _⟩ => ⟨S1x512x1024, .f32⟩
  | .local _ .vmem, ⟨18, _⟩ => ⟨S1x512x1024, .f32⟩
  | .local _ .vmem, ⟨19, _⟩ => ⟨S1x512x1024, .bf16⟩
  | .local _ .vmem, ⟨20, _⟩ => ⟨S1x512x1024, .bf16⟩
  | .local _ .vmem, ⟨21, _⟩ => ⟨S1x512x1024, .bf16⟩
  | .local _ .vmem, ⟨22, _⟩ => ⟨S1x512x1024, .bf16⟩
  | .local _ .vmem, ⟨23, _⟩ => ⟨S1x512x1024, .bf16⟩
  | .local _ .vmem, ⟨24, _⟩ => ⟨S1x512x1024, .bf16⟩
  | .local _ .vmem, ⟨25, _⟩ => ⟨S1x512x1024, .bf16⟩
  | .local _ .vmem, ⟨26, _⟩ => ⟨S1x512x1024, .bf16⟩
  | .local _ .vmem, ⟨27, _⟩ => ⟨S1x512x1024, .bf16⟩
  | .local _ .vmem, ⟨28, _⟩ => ⟨S1x512x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c : Ref sig .tc := ⟨.hbm, 39, rfl⟩
abbrev main_call0_v0 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_0 : Ref sig .tc := ⟨.hbm, 44, rfl⟩
abbrev main_call1_v0 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_1 : Ref sig .tc := ⟨.hbm, 49, rfl⟩
abbrev main_call2_v0 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_2 : Ref sig .tc := ⟨.hbm, 54, rfl⟩
abbrev main_call3_v0 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37_0 : Ref sig .tc := ⟨.hbm, 62, rfl⟩
abbrev main_v37_1 : Ref sig .tc := ⟨.hbm, 63, rfl⟩
abbrev main_v37_2 : Ref sig .tc := ⟨.hbm, 64, rfl⟩
abbrev main_v37_3 : Ref sig .tc := ⟨.hbm, 65, rfl⟩
abbrev main_v37_4 : Ref sig .tc := ⟨.hbm, 66, rfl⟩
abbrev main_v37_5 : Ref sig .tc := ⟨.hbm, 67, rfl⟩
abbrev main_v37_6 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S6x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S128x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== MixRefIdeal.lean ====
abbrev S8x2048x1024 : Shape := ⟨3, ![8, 2048, 1024]⟩
abbrev S1024 : Shape := ⟨1, ![1024]⟩
abbrev S1x6x1024 : Shape := ⟨3, ![1, 6, 1024]⟩
abbrev S1x1024x1024 : Shape := ⟨3, ![1, 1024, 1024]⟩
abbrev S1x1024 : Shape := ⟨2, ![1, 1024]⟩
abbrev S1x1024x64 : Shape := ⟨3, ![1, 1024, 64]⟩
abbrev S1x64x1024 : Shape := ⟨3, ![1, 64, 1024]⟩
abbrev S1x1024x128 : Shape := ⟨3, ![1, 1024, 128]⟩
abbrev S1x128x1024 : Shape := ⟨3, ![1, 128, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2047x1024 : Shape := ⟨3, ![8, 2047, 1024]⟩
abbrev S1024x1024 : Shape := ⟨2, ![1024, 1024]⟩
abbrev S1024x64 : Shape := ⟨2, ![1024, 64]⟩
abbrev S8x2048x64 : Shape := ⟨3, ![8, 2048, 64]⟩
abbrev S64x1024 : Shape := ⟨2, ![64, 1024]⟩
abbrev S1024x128 : Shape := ⟨2, ![1024, 128]⟩
abbrev S8x2048x128 : Shape := ⟨3, ![8, 2048, 128]⟩
abbrev S128x1024 : Shape := ⟨2, ![128, 1024]⟩

abbrev nBuf : Space → Nat
  | .hbm => 153
  | .vmem => 0
  | .smem => 0
  | _ => 0

abbrev hbmTy0_0 (i : Nat) : BufTy := match i % 128 with
  | 0 => ⟨S8x2048x1024, .f32⟩
  | 1 => ⟨S1024, .f32⟩
  | 2 => ⟨S1x6x1024, .f32⟩
  | 3 => ⟨S1x1024x1024, .f32⟩
  | 4 => ⟨S1x1024x1024, .f32⟩
  | 5 => ⟨S1x1024x1024, .f32⟩
  | 6 => ⟨S1x1024, .f32⟩
  | 7 => ⟨S1x1024x64, .f32⟩
  | 8 => ⟨S1x64x1024, .f32⟩
  | 9 => ⟨S1x1024, .f32⟩
  | 10 => ⟨S1x1024x64, .f32⟩
  | 11 => ⟨S1x64x1024, .f32⟩
  | 12 => ⟨S1x1024x128, .f32⟩
  | 13 => ⟨S1x128x1024, .f32⟩
  | 14 => ⟨S1x1024, .f32⟩
  | 15 => ⟨S1x1024, .f32⟩
  | 16 => ⟨S8x2048x1024, .f32⟩
  | 17 => ⟨S_, .f32⟩
  | 18 => ⟨S8x2048, .f32⟩
  | 19 => ⟨S8x2048x1, .f32⟩
  | 20 => ⟨S_, .f32⟩
  | 21 => ⟨S8x2048x1, .f32⟩
  | 22 => ⟨S8x2048x1, .f32⟩
  | 23 => ⟨S_, .f32⟩
  | 24 => ⟨S8x2048x1, .f32⟩
  | 25 => ⟨S8x2048x1, .f32⟩
  | 26 => ⟨S8x2048x1, .f32⟩
  | 27 => ⟨S8x2048x1024, .f32⟩
  | 28 => ⟨S8x2048x1024, .f32⟩
  | 29 => ⟨S1x1x1024, .f32⟩
  | 30 => ⟨S8x2048x1024, .f32⟩
  | 31 => ⟨S8x2048x1024, .f32⟩
  | 32 => ⟨S8x2047x1024, .f32⟩
  | 33 => ⟨S_, .i32⟩
  | 34 => ⟨S_, .f32⟩
  | 35 => ⟨S8x2048x1024, .f32⟩
  | 36 => ⟨S8x2048x1024, .f32⟩
  | 37 => ⟨S1x1x1024, .f32⟩
  | 38 => ⟨S1024, .f32⟩
  | 39 => ⟨S1x1x1024, .f32⟩
  | 40 => ⟨S8x2048x1024, .f32⟩
  | 41 => ⟨S8x2048x1024, .f32⟩
  | 42 => ⟨S8x2048x1024, .f32⟩
  | 43 => ⟨S8x2048x1024, .f32⟩
  | 44 => ⟨S1x1x1024, .f32⟩
  | 45 => ⟨S1024, .f32⟩
  | 46 => ⟨S1x1x1024, .f32⟩
  | 47 => ⟨S8x2048x1024, .f32⟩
  | 48 => ⟨S8x2048x1024, .f32⟩
  | 49 => ⟨S8x2048x1024, .f32⟩
  | 50 => ⟨S8x2048x1024, .f32⟩
  | 51 => ⟨S1x1x1024, .f32⟩
  | 52 => ⟨S1024, .f32⟩
  | 53 => ⟨S1x1x1024, .f32⟩
  | 54 => ⟨S8x2048x1024, .f32⟩
  | 55 => ⟨S8x2048x1024, .f32⟩
  | 56 => ⟨S8x2048x1024, .f32⟩
  | 57 => ⟨S8x2048x1024, .f32⟩
  | 58 => ⟨S1x1x1024, .f32⟩
  | 59 => ⟨S1024, .f32⟩
  | 60 => ⟨S1x1x1024, .f32⟩
  | 61 => ⟨S8x2048x1024, .f32⟩
  | 62 => ⟨S8x2048x1024, .f32⟩
  | 63 => ⟨S8x2048x1024, .f32⟩
  | 64 => ⟨S8x2048x1024, .f32⟩
  | 65 => ⟨S1x1x1024, .f32⟩
  | 66 => ⟨S1024, .f32⟩
  | 67 => ⟨S1x1x1024, .f32⟩
  | 68 => ⟨S8x2048x1024, .f32⟩
  | 69 => ⟨S8x2048x1024, .f32⟩
  | 70 => ⟨S8x2048x1024, .f32⟩
  | 71 => ⟨S8x2048x1024, .f32⟩
  | 72 => ⟨S1x1x1024, .f32⟩
  | 73 => ⟨S1024, .f32⟩
  | 74 => ⟨S1x1x1024, .f32⟩
  | 75 => ⟨S8x2048x1024, .f32⟩
  | 76 => ⟨S8x2048x1024, .f32⟩
  | 77 => ⟨S8x2048x1024, .f32⟩
  | 78 => ⟨S1024x1024, .f32⟩
  | 79 => ⟨S8x2048x1024, .f32⟩
  | 80 => ⟨S1024, .f32⟩
  | 81 => ⟨S1024x64, .f32⟩
  | 82 => ⟨S8x2048x64, .f32⟩
  | 83 => ⟨S8x2048x64, .f32⟩
  | 84 => ⟨S64x1024, .f32⟩
  | 85 => ⟨S8x2048x1024, .f32⟩
  | 86 => ⟨S1x1x1024, .f32⟩
  | 87 => ⟨S8x2048x1024, .f32⟩
  | 88 => ⟨S8x2048x1024, .f32⟩
  | 89 => ⟨S8x2048x1024, .f32⟩
  | 90 => ⟨S8x2048x1024, .f32⟩
  | 91 => ⟨S_, .f32⟩
  | 92 => ⟨S8x2048x1024, .f32⟩
  | 93 => ⟨S8x2048x1024, .f32⟩
  | 94 => ⟨S_, .f32⟩
  | 95 => ⟨S8x2048x1024, .f32⟩
  | 96 => ⟨S8x2048x1024, .f32⟩
  | 97 => ⟨S_, .f32⟩
  | 98 => ⟨S8x2048x1024, .f32⟩
  | 99 => ⟨S8x2048x1024, .f32⟩
  | 100 => ⟨S1024, .f32⟩
  | 101 => ⟨S1024x64, .f32⟩
  | 102 => ⟨S8x2048x64, .f32⟩
  | 103 => ⟨S64x1024, .f32⟩
  | 104 => ⟨S8x2048x1024, .f32⟩
  | 105 => ⟨S1x1x1024, .f32⟩
  | 106 => ⟨S8x2048x1024, .f32⟩
  | 107 => ⟨S8x2048x1024, .f32⟩
  | 108 => ⟨S8x2048x1024, .f32⟩
  | 109 => ⟨S8x2048x1024, .f32⟩
  | 110 => ⟨S_, .f32⟩
  | 111 => ⟨S8x2048x1024, .f32⟩
  | 112 => ⟨S8x2048x1024, .f32⟩
  | 113 => ⟨S_, .f32⟩
  | 114 => ⟨S8x2048x1024, .f32⟩
  | 115 => ⟨S8x2048x1024, .f32⟩
  | 116 => ⟨S1024x1024, .f32⟩
  | 117 => ⟨S8x2048x1024, .f32⟩
  | 118 => ⟨S8x2048x1024, .bf16⟩
  | 119 => ⟨S_, .f32⟩
  | 120 => ⟨S8x2048x1024, .f32⟩
  | 121 => ⟨S8x2048x1024, .f32⟩
  | 122 => ⟨S1024, .f32⟩
  | 123 => ⟨S1x1x1024, .f32⟩
  | 124 => ⟨S8x2048x1024, .f32⟩
  | 125 => ⟨S8x2048x1024, .f32⟩
  | 126 => ⟨S_, .f32⟩
  | 127 => ⟨S8x2048x1024, .f32⟩
  | _ => ⟨S8x2048x1024, .f32⟩

abbrev hbmTy0_1 (i : Nat) : BufTy := match i % 128 with
  | 0 => ⟨S8x2048x1024, .f32⟩
  | 1 => ⟨S8x2048x1024, .f32⟩
  | 2 => ⟨S8x2048x1024, .bf16⟩
  | 3 => ⟨S1024x1024, .f32⟩
  | 4 => ⟨S8x2048x1024, .f32⟩
  | 5 => ⟨S8x2048x1024, .bf16⟩
  | 6 => ⟨S1024, .f32⟩
  | 7 => ⟨S1x1x1024, .f32⟩
  | 8 => ⟨S8x2048x1024, .f32⟩
  | 9 => ⟨S8x2048x1024, .f32⟩
  | 10 => ⟨S8x2048x1024, .bf16⟩
  | 11 => ⟨S8x2048x1024, .bf16⟩
  | 12 => ⟨S1024x128, .f32⟩
  | 13 => ⟨S8x2048x128, .f32⟩
  | 14 => ⟨S8x2048x128, .f32⟩
  | 15 => ⟨S8x2048x128, .f32⟩
  | 16 => ⟨S_, .f32⟩
  | 17 => ⟨S8x2048x128, .f32⟩
  | 18 => ⟨S8x2048x128, .f32⟩
  | 19 => ⟨S_, .f32⟩
  | 20 => ⟨S8x2048x128, .f32⟩
  | 21 => ⟨S8x2048x128, .f32⟩
  | 22 => ⟨S128x1024, .f32⟩
  | 23 => ⟨S8x2048x1024, .f32⟩
  | 24 => ⟨S8x2048x1024, .bf16⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_v2 : Ref sig .tc := ⟨.hbm, 19, rfl⟩
abbrev main_cst_0 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_c : Ref sig .tc := ⟨.hbm, 33, rfl⟩
abbrev main_call0_v0 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_2 : Ref sig .tc := ⟨.hbm, 91, rfl⟩
abbrev main_v70 : Ref sig .tc := ⟨.hbm, 92, rfl⟩
abbrev main_v71 : Ref sig .tc := ⟨.hbm, 93, rfl⟩
abbrev main_cst_3 : Ref sig .tc := ⟨.hbm, 94, rfl⟩
abbrev main_v72 : Ref sig .tc := ⟨.hbm, 95, rfl⟩
abbrev main_v73 : Ref sig .tc := ⟨.hbm, 96, rfl⟩
abbrev main_cst_4 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_cst_5 : Ref sig .tc := ⟨.hbm, 110, rfl⟩
abbrev main_v86 : Ref sig .tc := ⟨.hbm, 111, rfl⟩
abbrev main_v87 : Ref sig .tc := ⟨.hbm, 112, rfl⟩
abbrev main_cst_6 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_cst_7 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_cst_8 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_cst_9 : Ref sig .tc := ⟨.hbm, 144, rfl⟩
abbrev main_v116 : Ref sig .tc := ⟨.hbm, 145, rfl⟩
abbrev main_v117 : Ref sig .tc := ⟨.hbm, 146, rfl⟩
abbrev main_cst_10 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩

abbrev nD : Nat := 1
abbrev τ : Topo := Topo.v7x

variable {F : FTy → Type} [FloatOps F]
-- ==== Proof.MoeSame.lean ====
module
public import proofs.«01_k».proof.Proof.Gen.Moe.Launch
public import proofs.«01_k».proof.Proof.Gen.MoeIdeal.Launch
/-!
# The kernel and its idealisation are one program

No operation was rewritten, so the two texts are the same: the body, the table of bodies and the main function agree.
-/
@[expose] public section
set_option maxRecDepth 16384
noncomputable section
namespace Cert.MoeSame
open Idealize.ShloMosaic
variable {F : FTy → Type} [FloatOps F]

theorem body_eq (i a1 h1 a2 h2 a3 h3 a4 h4 a5 h5 a6 h6 a7 h7 a8 h8) : Cert.Moe.cc0_moe_experts (F := F) i a1 h1 a2 h2 a3 h3 a4 h4 a5 h5 a6 h6 a7 h7 a8 h8 = Cert.MoeIdeal.cc0_moe_experts (F := F) i a1 h1 a2 h2 a3 h3 a4 h4 a5 h5 a6 h6 a7 h7 a8 h8 := rfl

theorem defs0_eq : Cert.Moe.defs₀ (F := F) = Cert.MoeIdeal.defs₀ (F := F) := by
  unfold Cert.Moe.defs₀ Cert.MoeIdeal.defs₀
  refine congrArg Defs.onTc (funext fun l => funext fun a => ?_)
  match l, a with
  | 0, (t, s) => exact body_eq (F := F) _ _ _ _ _ _ _ _ _ _ _ _ _ _ _ _ _
  | ⟨_ + 1, h⟩, _ => exact absurd h (Nat.not_lt.2 (Nat.le_add_left _ _))

theorem defs_eq : Cert.Moe.defs (F := F) = Cert.MoeIdeal.defs (F := F) := congrArg (Pipeline.defs (Cert.MoeIdeal.pcfgs (F := F))) defs0_eq

theorem ops0_eq : Cert.Moe.Gen.hostOps0 (F := F) = Cert.MoeIdeal.Gen.hostOps0 (F := F) := rfl
theorem ops1_eq : Cert.Moe.Gen.hostOps0_1 (F := F) = Cert.MoeIdeal.Gen.hostOps0_1 (F := F) := rfl
theorem ops2_eq : Cert.Moe.Gen.hostOps0_2 (F := F) = Cert.MoeIdeal.Gen.hostOps0_2 (F := F) := rfl

/-- The main function from its three stretches of host operations. -/
abbrev chainOf (o0 o1 o2 : List (HloOp Cert.MoeIdeal.τ Cert.MoeIdeal.sig (Elt F))) :
    Idealize.SL.Sem.Prog (TpuEff Cert.MoeIdeal.nD Cert.MoeIdeal.τ Cert.MoeIdeal.sig (Elt F) (Pipeline.Sig Cert.MoeIdeal.Λ₀ (Fin 1) fun p => (Cert.MoeIdeal.pcfgs (F := F) p).Adm) .tc) PUnit :=
  Pipeline.chain [StableHlo.seq o0, StableHlo.seq o1, StableHlo.seq o2, Idealize.SL.Sem.Prog.lift (.customCall (Pipeline.entry 0) ())]

theorem chain_moe (c : Dev Cert.MoeIdeal.nD) : Cert.Moe.main (F := F) c = chainOf (F := F) Cert.Moe.Gen.hostOps0 Cert.Moe.Gen.hostOps0_1 Cert.Moe.Gen.hostOps0_2 :=
  Cert.Moe.Gen.main_chain (F := F) c

theorem main_eq : Cert.Moe.main (F := F) = Cert.MoeIdeal.main (F := F) := funext fun c =>
  (chain_moe c).trans (Eq.trans (congr (congr (congrArg (chainOf (F := F)) ops0_eq) ops1_eq) ops2_eq) (Cert.MoeIdeal.Gen.main_chain (F := F) c).symm)

end Cert.MoeSame
end
-- ==== Proof.MoeBody.lean ====
/-
  THE EXPERTS' KERNEL BODY at one grid point, over any float instance.

  The grid is (72 row tiles) × (2 halves of the hidden axis). At the first half the body clears its output block; at either
  half, when the row tile is below the count of valid tiles, it adds this half's part of the gated product to the block.
  `tileStep` is what a point with tile number below the count does to the block, and keeps it otherwise; the two theorems
  say that running the body turns the block into `tileStep … zeros` at the first half and `tileStep … y` at the second.
-/
module

public import proofs.«01_k».proof.Proof.Gen.MoeIdeal.Skeleton
public import proofs.«01_k».proof.Proof.Gen.MoeIdeal.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Pipeline.Value
public import Idealize.ShloMosaic.Lib.Writes
public import Idealize.ShloMosaic.Lib.Ring
public import Idealize.ShloMosaic.Lib.VecWindow
public import Idealize.ShloMosaic.Lib.Exec
public import Idealize.ShloMosaic.Lib.Tactic
public import Idealize.ShloMosaic.Adequacy
public import Idealize.ShloMosaic.Init

@[expose] public section

set_option maxRecDepth 16384

noncomputable section

namespace Cert.MoeIdeal.Experts

open Cert.MoeIdeal Cert.MoeIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-- The three tables, whole. -/
abbrev tab0 : Memref sig .tc .smem S72 .i32 := Memref.whole main_v6
abbrev tab1 : Memref sig .tc .smem S72 .i32 := Memref.whole main_v17
abbrev tab2 : Memref sig .tc .smem S1 .i32 := Memref.whole main_v18

/-- The one word of the third table, as the body loads it. -/
abbrev nvWord (T2 : S1.Idx → Elt F .i32) : BitVec 32 :=
  View.readAt (Elt F) (tab2).view (Rect.unit (s := S1) ![0] S1.size inb_S1_S1_0).toLoadRect T2 (Shape.Idx.first (numel1_S1.symm ▸ Nat.one_pos))

/-- A block stored whole last reads back as what was stored, whatever was there before. -/
theorem read_stored (v : View sig .tc .vmem S512x1024 .f32) (f : v.ty.Contents (Elt F)) (w : Vec F S512x1024 .f32)
    (L : List (View.Piece (Elt F) S512x1024 .f32)) :
    v.read (Elt F) (v.writes (Elt F) f (⟨Rect.unit ![0, 0] S512x1024.size inb_S512x1024_S512x1024_0_0, w⟩ :: L)) = w := by
  rw [View.read_writes_eq_canon _ _ _ fun y => ⟨_, List.mem_cons_self, View.mem_set_unit_zero hz2 inb_S512x1024_S512x1024_0_0 y⟩, View.canon_cons_unit_zero hz2]

/-- What a point at coordinates `i` makes of its output block `y`: this half's part added while the tile is below the count
    `nv`, `y` itself otherwise. -/
def tileStep (i : grid0.Coords) (nv : BitVec 32) (x : Vec F S512x1024 .f32) (w1 w3 : Vec F S1x1024x1792 .bf16) (w2 : Vec F S1x1792x1024 .bf16)
    (y : Vec F S512x1024 .f32) : Vec F S512x1024 .f32 :=
  if k0_cond2 i nv = 1#1 then k0_pay2 x w1 w3 y w2 else y

section Body

variable (c : Dev nD) (i : grid0.Coords)
  (arg5 : Memref sig .tc .vmem S512x1024 .f32) (harg5 : arg5.IsWhole) (arg6 : Memref sig .tc .vmem S1x1024x1792 .bf16) (harg6 : arg6.IsWhole)
  (arg7 : Memref sig .tc .vmem S1x1024x1792 .bf16) (harg7 : arg7.IsWhole) (arg8 : Memref sig .tc .vmem S1x1792x1024 .bf16) (harg8 : arg8.IsWhole)
  (arg9 : Memref sig .tc .vmem S512x1024 .f32) (harg9 : arg9.IsWhole)
  (T0 T1 : S72.Idx → Elt F .i32) (T2 : S1.Idx → Elt F .i32)
  (x0 : S512x1024.Idx → Elt F .f32) (x1 x2 : S1x1024x1792.Idx → Elt F .bf16) (x3 : S1x1792x1024.Idx → Elt F .bf16)

/-- What the body holds besides its output block: the four input blocks and its shares of the tables. -/
def bodyIn : sProp 𝕄 :=
  iprop((arg5.view.loc (c : Thread nD τ) ↦[arg5.view.set]{fullShare} arg5.view.rep x0)
    ∗ (arg6.view.loc (c : Thread nD τ) ↦[arg6.view.set]{fullShare} arg6.view.rep x1)
    ∗ (arg7.view.loc (c : Thread nD τ) ↦[arg7.view.set]{fullShare} arg7.view.rep x2)
    ∗ (arg8.view.loc (c : Thread nD τ) ↦[arg8.view.set]{fullShare} arg8.view.rep x3)
    ∗ (tab0.view.loc (c : Thread nD τ) ↦{fullShare.right} T0)
    ∗ (tab1.view.loc (c : Thread nD τ) ↦{fullShare.right} T1)
    ∗ (tab2.view.loc (c : Thread nD τ) ↦{fullShare.right} T2))

set_option maxHeartbeats 8000000 in
/-- At the first half: from any contents of the output block, the body leaves one step from zeros. -/
theorem run_first (h1 : k0_cond1 i = 1#1) (K : PUnit → sProp 𝕄) :
    iprop(bodyIn c arg5 arg6 arg7 arg8 T0 T1 T2 x0 x1 x2 x3
      ∗ (∃ d, owns (c : Thread nD τ) arg9 fullShare d)
      ∗ (iprop(bodyIn c arg5 arg6 arg7 arg8 T0 T1 T2 x0 x1 x2 x3
          ∗ owns (c : Thread nD τ) arg9 fullShare (tileStep i (nvWord T2) x0 x1 x2 x3 k0_pay1)) -∗ K ⟨⟩))
      ⊢ wp frame (wpE (defs₀ (F := F)) Variants.none c none) Set.univ
          (cc0_moe_experts i tab0 (Memref.isWhole_whole _) tab1 (Memref.isWhole_whole _) tab2 (Memref.isWhole_whole _) arg5 harg5 arg6 harg6 arg7 harg7 arg8 harg8 arg9 harg9) K := by
  unfold owns bodyIn tileStep
  rw [cc0_moe_experts_eq_skeleton]; unfold cc0_moe_experts_skel
  have hT0 : tab0.IsWhole := Memref.isWhole_whole _
  have hT1 : tab1.IsWhole := Memref.isWhole_whole _
  have hT2 : tab2.IsWhole := Memref.isWhole_whole _
  by_cases h2 : k0_cond2 i (nvWord T2) = 1#1
  · rw [if_pos h2]
    iintro ⟨⟨H0, H1, H2, H3, HT0, HT1, HT2⟩, ⟨%d4, %f4, -, HO4⟩, Hk⟩
    sl_exec! (disch := first | (guard_target = k0_cond1 _ = _; exact h1) | (guard_target = k0_cond2 _ _ = _; exact h2))
    sl_step
    iapply Hk
    isplitl [H0 H1 H2 H3 HT0 HT1 HT2]
    · isplitl [H0]; · iexact H0
      isplitl [H1]; · iexact H1
      isplitl [H2]; · iexact H2
      isplitl [H3]; · iexact H3
      isplitl [HT0]; · iexact HT0
      isplitl [HT1]; · iexact HT1
      iexact HT2
    iexists _; isplitr; swap
    · iexact HO4
    ipureintro
    sl_unfold_words
    rw [read_stored, View.readAt_rep_full, View.readAt_rep_full, View.readAt_rep_full, View.readAt_rep_full, View.readCov_unit_zero _ hz2]
  · rw [if_neg h2]
    iintro ⟨⟨H0, H1, H2, H3, HT0, HT1, HT2⟩, ⟨%d4, %f4, -, HO4⟩, Hk⟩
    sl_exec! (disch := first | (guard_target = k0_cond1 _ = _; exact h1) | (guard_target = ¬(k0_cond2 _ _ = _); exact h2))
    sl_step
    iapply Hk
    isplitl [H0 H1 H2 H3 HT0 HT1 HT2]
    · isplitl [H0]; · iexact H0
      isplitl [H1]; · iexact H1
      isplitl [H2]; · iexact H2
      isplitl [H3]; · iexact H3
      isplitl [HT0]; · iexact HT0
      isplitl [HT1]; · iexact HT1
      iexact HT2
    iexists _; isplitr; swap
    · iexact HO4
    ipureintro
    sl_unfold_words
    exact read_stored ..

set_option maxHeartbeats 8000000 in
/-- At the second half: from the output block at `y`, the body leaves one step from `y`. -/
theorem run_second (h1 : ¬(k0_cond1 i = 1#1)) (y : S512x1024.Idx → Elt F .f32) (K : PUnit → sProp 𝕄) :
    iprop(bodyIn c arg5 arg6 arg7 arg8 T0 T1 T2 x0 x1 x2 x3
      ∗ owns (c : Thread nD τ) arg9 fullShare y
      ∗ (iprop(bodyIn c arg5 arg6 arg7 arg8 T0 T1 T2 x0 x1 x2 x3
          ∗ owns (c : Thread nD τ) arg9 fullShare (tileStep i (nvWord T2) x0 x1 x2 x3 y)) -∗ K ⟨⟩))
      ⊢ wp frame (wpE (defs₀ (F := F)) Variants.none c none) Set.univ
          (cc0_moe_experts i tab0 (Memref.isWhole_whole _) tab1 (Memref.isWhole_whole _) tab2 (Memref.isWhole_whole _) arg5 harg5 arg6 harg6 arg7 harg7 arg8 harg8 arg9 harg9) K := by
  unfold owns bodyIn tileStep
  rw [cc0_moe_experts_eq_skeleton]; unfold cc0_moe_experts_skel
  have hT0 : tab0.IsWhole := Memref.isWhole_whole _
  have hT1 : tab1.IsWhole := Memref.isWhole_whole _
  have hT2 : tab2.IsWhole := Memref.isWhole_whole _
  by_cases h2 : k0_cond2 i (nvWord T2) = 1#1
  · rw [if_pos h2]
    iintro ⟨⟨H0, H1, H2, H3, HT0, HT1, HT2⟩, ⟨%f4, %hf4, HO4⟩, Hk⟩
    obtain rfl := harg9.eq_unread hf4
    sl_exec! (disch := first | (guard_target = ¬(k0_cond1 _ = _); exact h1) | (guard_target = k0_cond2 _ _ = _; exact h2))
    sl_step
    iapply Hk
    isplitl [H0 H1 H2 H3 HT0 HT1 HT2]
    · isplitl [H0]; · iexact H0
      isplitl [H1]; · iexact H1
      isplitl [H2]; · iexact H2
      isplitl [H3]; · iexact H3
      isplitl [HT0]; · iexact HT0
      isplitl [HT1]; · iexact HT1
      iexact HT2
    iexists _; isplitr; swap
    · iexact HO4
    ipureintro
    sl_unfold_words
    rw [read_stored, View.readAt_rep_full, View.readAt_rep_full, View.readAt_rep_full, View.readAt_rep_full, View.readAt_full, harg9.read_unread]
  · rw [if_neg h2]
    iintro ⟨⟨H0, H1, H2, H3, HT0, HT1, HT2⟩, ⟨%f4, %hf4, HO4⟩, Hk⟩
    obtain rfl := harg9.eq_unread hf4
    sl_exec! (disch := first | (guard_target = ¬(k0_cond1 _ = _); exact h1) | (guard_target = ¬(k0_cond2 _ _ = _); exact h2))
    sl_step
    iapply Hk
    isplitl [H0 H1 H2 H3 HT0 HT1 HT2]
    · isplitl [H0]; · iexact H0
      isplitl [H1]; · iexact H1
      isplitl [H2]; · iexact H2
      isplitl [H3]; · iexact H3
      isplitl [HT0]; · iexact HT0
      isplitl [HT1]; · iexact HT1
      iexact HT2
    iexists _; isplitr; swap
    · iexact HO4
    ipureintro
    exact harg9.read_unread _

end Body

end Cert.MoeIdeal.Experts

end
-- ==== Proof.MoeRun.lean ====
/-
  THE EXPERTS' KERNEL, RUN: the pipeline's proof data at symbolic tables, over any float instance.

  The tables — which input tile each point reads, which expert's weights, how many tiles are valid — are whatever the host
  operations before the kernel computed, so nothing here evaluates them: `a` is any admissible contents of the three
  tables, `V` any contents of the buffers. The output block of a row tile is filled at its first half and completed at its
  second, which writes it back; so what the block holds after a point is closed: one step from zeros at a first half, one
  more step at a second half (`blockAfter`).
-/
module

public import proofs.«01_k».proof.Proof.MoeBody

@[expose] public section

set_option maxRecDepth 16384

noncomputable section

namespace Cert.MoeIdeal.Experts

open Cert.MoeIdeal Cert.MoeIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (UR sig nD τ) ℕ

/-! ## The schedule -/

/-- A point is a first half exactly at the even positions. -/
theorem first_iff : ∀ t : Fin grid0.N, k0_cond1 (grid0.coords t) = 1#1 ↔ t.val % 2 = 0 := by decide +kernel

/-- A point's row tile and half. -/
theorem coords0 : ∀ t : Fin grid0.N, (grid0.coords t 0).val = t.val / 2 := by decide +kernel
theorem coords1 : ∀ t : Fin grid0.N, (grid0.coords t 1).val = t.val % 2 := by decide +kernel

/-- The row tile is below the count of valid tiles. -/
theorem live_iff : ∀ (t : Fin grid0.N) (nv : BitVec 32), k0_cond2 (grid0.coords t) nv = 1#1 ↔ ((t.val / 2 : ℕ) : ℤ) < nv.toInt := by
  intro t nv
  have h0 := coords0 t
  have ht : t.val < 144 := lt_of_lt_of_eq t.isLt N_0
  have key : (BitVec.ofNat 32 (grid0.coords t 0).val).toInt = ((t.val / 2 : ℕ) : ℤ) := by
    rw [h0, BitVec.toInt_eq_toNat_of_lt (by rw [BitVec.toNat_ofNat]; omega), BitVec.toNat_ofNat]; omega
  unfold k0_cond2
  simp only [Scalar.cmpi, Scalar.extui, IntOp.cmpi]
  rw [← key, ← BitVec.slt_iff_toInt_lt]
  cases (BitVec.ofNat 32 (grid0.coords t 0).val).slt nv <;> decide

/-- The output block's index changes exactly after the second halves. -/
theorem out_moves : ∀ (t : Fin grid0.N) (h : t.val + 1 < grid0.N),
    cc0_transform_4 (grid0.coords ⟨t.val + 1, h⟩) ≠ cc0_transform_4 (grid0.coords t) ↔ t.val % 2 = 1 := by decide +kernel

variable (a : (pcfg0 (F := F)).Adm)

/-- The pipeline at the tables' contents `a`. -/
abbrev cfgT : Pipeline.Cfg sig Λ₀ := cfg0 (F := F) a

abbrev crd (t : Fin (cfgT a).N) : grid0.Coords := (cfgT a).grid.coords t

abbrev st0 (t : Fin (cfgT a).N) : Memref sig .tc .vmem S512x1024 .f32 := spec0_0.stage ((cfgT a).slots t (0 : Fin 5))
abbrev hst0 (t : Fin (cfgT a).N) : (st0 a t).IsWhole := hstage0_0 (((cfgT a).slots t (0 : Fin 5)).cast nbuf0_0)
abbrev st1 (t : Fin (cfgT a).N) : Memref sig .tc .vmem S1x1024x1792 .bf16 := spec0_1.stage ((cfgT a).slots t (1 : Fin 5))
abbrev hst1 (t : Fin (cfgT a).N) : (st1 a t).IsWhole := hstage0_1 (((cfgT a).slots t (1 : Fin 5)).cast nbuf0_1)
abbrev st2 (t : Fin (cfgT a).N) : Memref sig .tc .vmem S1x1024x1792 .bf16 := spec0_2.stage ((cfgT a).slots t (2 : Fin 5))
abbrev hst2 (t : Fin (cfgT a).N) : (st2 a t).IsWhole := hstage0_2 (((cfgT a).slots t (2 : Fin 5)).cast nbuf0_2)
abbrev st3 (t : Fin (cfgT a).N) : Memref sig .tc .vmem S1x1792x1024 .bf16 := spec0_3.stage ((cfgT a).slots t (3 : Fin 5))
abbrev hst3 (t : Fin (cfgT a).N) : (st3 a t).IsWhole := hstage0_3 (((cfgT a).slots t (3 : Fin 5)).cast nbuf0_3)
abbrev st4 (t : Fin (cfgT a).N) : Memref sig .tc .vmem S512x1024 .f32 := spec0_4.stage ((cfgT a).slots t (4 : Fin 5))
abbrev hst4 (t : Fin (cfgT a).N) : (st4 a t).IsWhole := hstage0_4 (((cfgT a).slots t (4 : Fin 5)).cast nbuf0_4)

/-- The count of valid tiles the tables hold. -/
abbrev nvOf : BitVec 32 := nvWord (F := F) (a.1 2)

theorem nv_eq : a.1.atD 2 ![0] = nvOf a := by
  have h : ∀ d : Fin (pre0.ref 2).ty.shape.rank, (![0] : Fin 1 → Nat) d + 1 ≤ (pre0.ref 2).ty.shape.size d := by decide
  refine (dif_pos h).trans ?_
  exact congrArg (a.1 2) (funext fun d => by
    match d with
    | ⟨0, _⟩ => exact Fin.ext rfl)

/-- The output block's index is the row tile, so it is written back at the second halves. -/
theorem flush4 (t : Fin (cfgT a).N) : ((cfgT a).win (4 : Fin 5)).flush t = decide (t.val % 2 = 1) := by
  have hN : (cfgT a).grid.N = 144 := N_0
  have ht : t.val < 144 := lt_of_lt_of_eq t.isLt hN
  unfold Pipeline.Window.flush
  rw [show ((cfgT a).win (4 : Fin 5)).isOut = true from rfl, Bool.true_and, Bool.eq_iff_iff, Bool.or_eq_true, decide_eq_true_iff,
    decide_eq_true_iff, decide_eq_true_iff]
  constructor
  · rintro (h | ⟨h, h'⟩)
    · omega
    · exact (out_moves t h).mp h'
  · intro h
    by_cases h1 : t.val + 1 < (cfgT a).grid.N
    · exact .inr ⟨h1, (out_moves t h1).mpr h⟩
    · exact .inl (by omega)

theorem idle4 (t : Fin (cfgT a).N) : (cfgT a).idle (4 : Fin 5) ((cfgT a).grid.coords t)
    = (!(k0_cond1 (crd a t) == 1#1) && !(k0_cond2 (crd a t) (nvOf a) == 1#1)) := by
  show (!(k0_cond1 (crd a t) == 1#1) && !(k0_cond2 (crd a t) (a.1.atD 2 ![0]) == 1#1)) = _
  rw [nv_eq]

/-- Nothing is stored in the output block since its last write-back exactly before the first halves. -/
theorem fresh4 (t : Fin (cfgT a).N) : (cfgT a).fresh (4 : Fin 5) t.val = decide (t.val % 2 = 0) :=
  Pipeline.Cfg.fresh_tab (cfgT a) (4 : Fin 5) (fun n => decide (n % 2 = 0)) rfl (fun t => by
    rw [flush4, idle4]
    by_cases h : t.val % 2 = 0
    · rw [show (k0_cond1 (crd a t) == 1#1) = true from beq_iff_eq.mpr ((first_iff t).mpr h)]
      have h1 : ¬ (t.val + 1) % 2 = 0 := by omega
      have h2 : ¬ t.val % 2 = 1 := by omega
      simp [h1, h2]
    · have h1 : (t.val + 1) % 2 = 0 := by omega
      have h2 : t.val % 2 = 1 := by omega
      simp [h1, h2]) t.val (Nat.le_of_lt t.isLt)

/-! ## The proof data -/

variable (V : (c : Dev nD) → (b : Ref sig .tc) → Buf (Elt F) ((c.tc : Thread nD τ).loc b))

/-- Window `w`'s block at point `t`. -/
def blkAt (c : Dev nD) (w : Fin (cfgT a).W) (t : Fin (cfgT a).N) : (((cfgT a).win w).xblock (crd a t)).Idx → Elt F ((cfgT a).win w).elt :=
  (((cfgT a).win w).blk t).view.read (Elt F) (V c (Pipeline.arrRef spec0 w))

/-- One point's step on the output block, at the blocks the point reads. -/
def stepAt (c : Dev nD) (t : Fin (cfgT a).N) (y : Vec F S512x1024 .f32) : Vec F S512x1024 .f32 :=
  tileStep (crd a t) (nvOf a) (blkAt a V c (0 : Fin 5) t) (blkAt a V c (1 : Fin 5) t) (blkAt a V c (2 : Fin 5) t) (blkAt a V c (3 : Fin 5) t) y

/-- What the output block holds after a point: one step from zeros at a first half, a second step at a second half. -/
def blockAfter (c : Dev nD) (t : Fin (cfgT a).N) : Vec F S512x1024 .f32 :=
  if t.val % 2 = 0 then stepAt a V c t k0_pay1
  else stepAt a V c t (stepAt a V c ⟨t.val - 1, by have := t.isLt; omega⟩ k0_pay1)

def dats (_ : Fin 1) (c : Dev nD) : Dat τ (Elt F) Unit ℕ (UR sig nD τ) ℕ (cfgT a) c where
  A w := V c (Pipeline.arrRef spec0 w)
  after w t := match w with
    | ⟨0, _⟩ => blkAt a V c (0 : Fin 5) t
    | ⟨1, _⟩ => blkAt a V c (1 : Fin 5) t
    | ⟨2, _⟩ => blkAt a V c (2 : Fin 5) t
    | ⟨3, _⟩ => blkAt a V c (3 : Fin 5) t
    | ⟨4, _⟩ => blockAfter a V c t
  Φ _ := iprop(Pipeline.ΦA spec0 c ∗ Pipeline.ΦT pre0 a.1 c)
  q _ := fullShare
  owed _ := 0

theorem dats_A (c : Dev nD) (w : Fin (cfgT a).W) : (dats a V 0 c).A w = V c (Pipeline.arrRef spec0 w) := rfl
theorem after_0 (c : Dev nD) (t : Fin (cfgT a).N) : (dats a V 0 c).after (0 : Fin 5) t = blkAt a V c (0 : Fin 5) t := rfl
theorem after_1 (c : Dev nD) (t : Fin (cfgT a).N) : (dats a V 0 c).after (1 : Fin 5) t = blkAt a V c (1 : Fin 5) t := rfl
theorem after_2 (c : Dev nD) (t : Fin (cfgT a).N) : (dats a V 0 c).after (2 : Fin 5) t = blkAt a V c (2 : Fin 5) t := rfl
theorem after_3 (c : Dev nD) (t : Fin (cfgT a).N) : (dats a V 0 c).after (3 : Fin 5) t = blkAt a V c (3 : Fin 5) t := rfl
theorem after_4 (c : Dev nD) (t : Fin (cfgT a).N) : (dats a V 0 c).after (4 : Fin 5) t = blockAfter a V c t := rfl

/-! ## What each staging buffer holds when the body runs -/

theorem before_0 (c : Dev nD) (t : Fin (cfgT a).N) (d) : (dats a V 0 c).before (0 : Fin 5) t d = blkAt a V c (0 : Fin 5) t :=
  ((dats a V 0 c).before_in_eq_fetched (0 : Fin 5) rfl (fun _ => rfl) (fun _ _ _ => rfl) (fun t => by rw [after_0]; unfold Dat.blockOf blkAt; rfl) t d).trans
    (by unfold Dat.fetched Dat.blockOf blkAt; rfl)
theorem before_1 (c : Dev nD) (t : Fin (cfgT a).N) (d) : (dats a V 0 c).before (1 : Fin 5) t d = blkAt a V c (1 : Fin 5) t :=
  ((dats a V 0 c).before_in_eq_fetched (1 : Fin 5) rfl (fun _ => rfl) (fun _ _ _ => rfl) (fun t => by rw [after_1]; unfold Dat.blockOf blkAt; rfl) t d).trans
    (by unfold Dat.fetched Dat.blockOf blkAt; rfl)
theorem before_2 (c : Dev nD) (t : Fin (cfgT a).N) (d) : (dats a V 0 c).before (2 : Fin 5) t d = blkAt a V c (2 : Fin 5) t :=
  ((dats a V 0 c).before_in_eq_fetched (2 : Fin 5) rfl (fun _ => rfl) (fun _ _ _ => rfl) (fun t => by rw [after_2]; unfold Dat.blockOf blkAt; rfl) t d).trans
    (by unfold Dat.fetched Dat.blockOf blkAt; rfl)
theorem before_3 (c : Dev nD) (t : Fin (cfgT a).N) (d) : (dats a V 0 c).before (3 : Fin 5) t d = blkAt a V c (3 : Fin 5) t :=
  ((dats a V 0 c).before_in_eq_fetched (3 : Fin 5) rfl (fun _ => rfl) (fun _ _ _ => rfl) (fun t => by rw [after_3]; unfold Dat.blockOf blkAt; rfl) t d).trans
    (by unfold Dat.fetched Dat.blockOf blkAt; rfl)

/-- At a second half that stores nothing the block keeps what the first half left. -/
theorem carry4 (c : Dev nD) : ∀ (t : Fin (cfgT a).N) (ht : t.val ≠ 0), (cfgT a).idle (4 : Fin 5) ((cfgT a).grid.coords t) = true → (cfgT a).fresh (4 : Fin 5) t.val = false →
    (dats a V 0 c).after (4 : Fin 5) t = (dats a V 0 c).after (4 : Fin 5) ⟨t.val - 1, by omega⟩ := by
  intro t ht hi hf
  rw [fresh4] at hf
  rw [idle4] at hi
  have h0 : ¬ t.val % 2 = 0 := by simpa using hf
  have h1 : (t.val - 1) % 2 = 0 := by omega
  have h2 : ¬ k0_cond2 (crd a t) (nvOf a) = 1#1 := by
    simp only [Bool.and_eq_true, Bool.not_eq_true', beq_eq_false_iff_ne] at hi
    exact hi.2
  rw [after_4, after_4]
  unfold blockAfter
  rw [if_neg h0, if_pos h1]
  conv_lhs => rw [stepAt, tileStep, if_neg h2]

/-- The output's buffer when the body runs: junk at a first half, what the first half left at a second. -/
theorem before_4 (c : Dev nD) (t : Fin (cfgT a).N) (d) :
    (dats a V 0 c).before (4 : Fin 5) t d
      = if t.val % 2 = 0 then d else stepAt a V c ⟨t.val - 1, by have := t.isLt; omega⟩ k0_pay1 := by
  rw [(dats a V 0 c).before_out_traj (4 : Fin 5) rfl (fun _ _ => rfl) (carry4 a V c) t.val t rfl d, fresh4]
  by_cases h0 : t.val % 2 = 0
  · simp [h0]
  · have h1 : (t.val - 1) % 2 = 0 := by omega
    rw [if_neg (by simpa using h0), if_neg h0, after_4]
    unfold blockAfter
    rw [if_pos h1]

/-! ## The body obligation -/

theorem tables_eq (c : Dev nD) (v : pre0.Contents (Elt F)) :
    (Pipeline.ΦT (U := UR sig nD τ) pre0 v c : sProp 𝕄)
      = iprop((tab0.view.loc (c : Thread nD τ) ↦{fullShare.right} v 0) ∗ (tab1.view.loc (c : Thread nD τ) ↦{fullShare.right} v 1)
          ∗ (tab2.view.loc (c : Thread nD τ) ↦{fullShare.right} v 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

abbrev bodyT (t : Fin (cfgT a).N) : Prog (TpuEff nD τ sig (Elt F) Λ₀ .tc) PUnit :=
  cc0_moe_experts (crd a t) tab0 (Memref.isWhole_whole _) tab1 (Memref.isWhole_whole _) tab2 (Memref.isWhole_whole _) (st0 a t) (hst0 a t) (st1 a t) (hst1 a t) (st2 a t) (hst2 a t) (st3 a t) (hst3 a t) (st4 a t) (hst4 a t)

set_option maxHeartbeats 4000000 in
theorem sound (c : Dev nD) (t : Fin (cfgT a).N) :
    iprop((dats a V 0 c).Φ t.castSucc ∗ (dats a V 0 c).owesAt () t.castSucc
        ∗ (∃ d, owns (c : Thread nD τ) (st0 a t) fullShare ((dats a V 0 c).before (0 : Fin 5) t d))
        ∗ (∃ d, owns (c : Thread nD τ) (st1 a t) fullShare ((dats a V 0 c).before (1 : Fin 5) t d))
        ∗ (∃ d, owns (c : Thread nD τ) (st2 a t) fullShare ((dats a V 0 c).before (2 : Fin 5) t d))
        ∗ (∃ d, owns (c : Thread nD τ) (st3 a t) fullShare ((dats a V 0 c).before (3 : Fin 5) t d))
        ∗ (∃ d, owns (c : Thread nD τ) (st4 a t) fullShare ((dats a V 0 c).before (4 : Fin 5) t d)))
      ⊢ wp frame (wpE (defs₀ (F := F)) Variants.none c none) Set.univ (bodyT a t) fun _ =>
          iprop((dats a V 0 c).Φ t.succ ∗ (dats a V 0 c).owesAt () t.succ
            ∗ bigSep Finset.univ fun w : Fin (cfgT a).W =>
                match (cfgT a).idle w ((cfgT a).grid.coords t) with
                | true =>
                  match ((cfgT a).win w).flush t with
                  | false => iprop(∃ d, owns (c : Thread nD τ) (((cfgT a).win w).stage ((cfgT a).slots t w)) fullShare ((dats a V 0 c).before w t d))
                  | true => owns (c : Thread nD τ) (((cfgT a).win w).stage ((cfgT a).slots t w)) fullShare ((dats a V 0 c).after w t)
                | false => owns (c : Thread nD τ) (((cfgT a).win w).stage ((cfgT a).slots t w)) fullShare ((dats a V 0 c).after w t)) := by
  rw [bigSep_W0]
  by_cases h0 : t.val % 2 = 0
  · have hc : k0_cond1 (crd a t) = 1#1 := (first_iff t).mpr h0
    have hi : (cfgT a).idle (4 : Fin 5) ((cfgT a).grid.coords t) = false := by
      rw [idle4, hc]; rfl
    rewrite [hi]
    simp only [before_0, before_1, before_2, before_3, before_4, after_0, after_1, after_2, after_3]
    rewrite [show (dats a V 0 c).Φ t.succ = iprop(Pipeline.ΦA spec0 c ∗ Pipeline.ΦT pre0 a.1 c) from rfl,
      show (dats a V 0 c).Φ t.castSucc = iprop(Pipeline.ΦA spec0 c ∗ Pipeline.ΦT pre0 a.1 c) from rfl,
      show (dats a V 0 c).owesAt () t.succ = (dats a V 0 c).owesAt () t.castSucc from rfl, tables_eq]
    simp only [if_pos h0]
    rewrite [show (dats a V 0 c).after (4 : Fin 5) t = stepAt a V c t k0_pay1 from by rw [after_4]; unfold blockAfter; rw [if_pos h0]]
    iintro ⟨⟨HA, HT0, HT1, HT2⟩, Ho, ⟨%d0, H0⟩, ⟨%d1, H1⟩, ⟨%d2, H2⟩, ⟨%d3, H3⟩, H4⟩
    iapply (run_first c (crd a t) (st0 a t) (hst0 a t) (st1 a t) (hst1 a t) (st2 a t) (hst2 a t) (st3 a t) (hst3 a t) (st4 a t) (hst4 a t)
      (a.1 0) (a.1 1) (a.1 2) (blkAt a V c (0 : Fin 5) t) (blkAt a V c (1 : Fin 5) t) (blkAt a V c (2 : Fin 5) t) (blkAt a V c (3 : Fin 5) t) hc)
    isplitl [H0 H1 H2 H3 HT0 HT1 HT2]
    · unfold bodyIn
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      iexact HT2
    isplitl [H4]; · iexact H4
    unfold bodyIn
    iintro ⟨⟨H0, H1, H2, H3, HT0, HT1, HT2⟩, H4⟩
    isplitl [HA HT0 HT1 HT2]
    · isplitl [HA]; · iexact HA
      isplitl [HT0]; · iexact HT0
      isplitl [HT1]; · iexact HT1
      iexact HT2
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    iexact H4
  · have hc : ¬ k0_cond1 (crd a t) = 1#1 := fun h => h0 ((first_iff t).mp h)
    have hf : ((cfgT a).win (4 : Fin 5)).flush t = true := by rw [flush4]; exact decide_eq_true (by omega)
    rewrite [hf]
    generalize (cfgT a).idle (4 : Fin 5) ((cfgT a).grid.coords t) = q
    simp only [before_0, before_1, before_2, before_3, before_4, after_0, after_1, after_2, after_3]
    rewrite [show (dats a V 0 c).Φ t.succ = iprop(Pipeline.ΦA spec0 c ∗ Pipeline.ΦT pre0 a.1 c) from rfl,
      show (dats a V 0 c).Φ t.castSucc = iprop(Pipeline.ΦA spec0 c ∗ Pipeline.ΦT pre0 a.1 c) from rfl,
      show (dats a V 0 c).owesAt () t.succ = (dats a V 0 c).owesAt () t.castSucc from rfl, tables_eq]
    simp only [if_neg h0]
    rewrite [show (dats a V 0 c).after (4 : Fin 5) t = stepAt a V c t (stepAt a V c ⟨t.val - 1, by have := t.isLt; omega⟩ k0_pay1) from by
      rw [after_4]; unfold blockAfter; rw [if_neg h0]]
    iintro ⟨⟨HA, HT0, HT1, HT2⟩, Ho, ⟨%d0, H0⟩, ⟨%d1, H1⟩, ⟨%d2, H2⟩, ⟨%d3, H3⟩, ⟨%d4, H4⟩⟩
    iapply (run_second c (crd a t) (st0 a t) (hst0 a t) (st1 a t) (hst1 a t) (st2 a t) (hst2 a t) (st3 a t) (hst3 a t) (st4 a t) (hst4 a t)
      (a.1 0) (a.1 1) (a.1 2) (blkAt a V c (0 : Fin 5) t) (blkAt a V c (1 : Fin 5) t) (blkAt a V c (2 : Fin 5) t) (blkAt a V c (3 : Fin 5) t) hc
      (stepAt a V c ⟨t.val - 1, by have := t.isLt; omega⟩ k0_pay1))
    isplitl [H0 H1 H2 H3 HT0 HT1 HT2]
    · unfold bodyIn
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      iexact HT2
    isplitl [H4]; · iexact H4
    unfold bodyIn
    iintro ⟨⟨H0, H1, H2, H3, HT0, HT1, HT2⟩, H4⟩
    isplitl [HA HT0 HT1 HT2]
    · isplitl [HA]; · iexact HA
      isplitl [HT0]; · iexact HT0
      isplitl [HT1]; · iexact HT1
      iexact HT2
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    cases q <;> iexact H4

theorem obligation (c : Dev nD) : BodyObligation (dats a V 0 c) (defs₀ (F := F)) Variants.none () Set.univ := fun t => by
  rw [bigSep_W0]
  exact sound a V c t

/-! ## The launch -/

variable (m : (ℓ : Loc nD τ sig) → Buf (Elt F) ℓ) (ρ : Dev nD → PrngReg)

/-- The host operations before the kernel, stretch by stretch. -/
abbrev prefixOps : List (List (HloOp τ sig (Elt F))) := [hostOps0, hostOps0_1, hostOps0_2]

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- The buffers' contents when the kernel starts. -/
def entry (c : Dev nD) (b : Ref sig .tc) : Buf (Elt F) ((c.tc : Thread nD τ).loc b) :=
  StableHlo.after (prefixOps (F := F)).flatten (fun b => m (c, b)) b

set_option backward.isDefEq.respectTransparency.types false in
/-- From any memory whose host operations leave admissible tables `a`: every execution ends, each array of the kernel at
    what the proof data say, every other buffer at its contents when the kernel started, every counter at zero. -/
theorem run (ha : ∀ (c : Dev nD) (k : Fin 3), entry m c (pre0.ref k) = a.1 k) :
    θ_run (defs (F := F)) (onTc (τ := τ) (main (F := F))) (s₀ m ρ)
      (fun r => Pipeline.FramePost (Pipeline.pin (pcfgs (F := F)) fun _ => a) (dats a (entry m)) 0 (entry m) r ∧ r.2.sem = fun _ => 0) :=
  Pipeline.θ_run_frameP (Q' := _) pcfgs (fun _ => a) (dats a (entry m)) (0 : Fin 1) launch0 defs₀ Variants.none m ρ main
    (hbody := fun c => (obligation a (entry m) c).loose)
    (hshare := fun c => (dats a (entry m) 0 c).share_full fun _ => rfl)
    (howed := fun _ _ => rfl) (V := entry m)
    (hmain := Pipeline.hmainP_prefixes pcfgs (0 : Fin 1) defs₀ Variants.none m main prefixOps
      ⟨hostOps0_sub, hostOps0_1_sub, hostOps0_2_sub⟩ ⟨hostOps0_fresh, hostOps0_1_fresh, hostOps0_2_fresh⟩ main_chain)
    (hA := fun _ _ => rfl) (hpf := ha) (hΦ := fun _ _ => rfl) (hQ' := fun _ h => h)

end Cert.MoeIdeal.Experts

end
-- ==== Proof.MoeWords.lean ====
/-
  THE TABLES OF THE EXPERTS' KERNEL, as arithmetic on the words that say where each expert's group of rows ends.

  `E e` is the end of expert `e`'s group. Under the precondition (`Ends`) every end is a multiple of the row tile 512, none
  lies beyond the last, and the last is positive. The host computes from them the number of valid tiles, the input tile of
  each grid row and its expert; each is stated here as a natural number.
-/
module

public import Idealize.ShloMosaic.Lib.StableHlo.Predicate
public import Idealize.ShloMosaic.Lib.ReduceAll
public import Idealize.ShloMosaic.Lib.Affine
public import Idealize.ShloMosaic.Lib.Pointwise
public import Idealize.ShloMosaic.Lib.Routing.OpsSearch

@[expose] public section

set_option maxRecDepth 16384

noncomputable section

namespace Cert.MoeWords

open Idealize.ShloMosaic Idealize.ShloMosaic.StableHlo.Predicate

/-- What the precondition says of the ends. -/
structure Ends (E : Fin 8 → BitVec 32) : Prop where
  le_last : ∀ e, (E e).toInt ≤ (E 7).toInt
  tile : ∀ e, (512 : ℤ) ∣ (E e).toInt
  last_pos : 0 < (E 7).toInt

/-- How many groups end at or before row `z`. -/
def count (E : Fin 8 → BitVec 32) (z : ℤ) : ℕ := (Finset.univ.filter fun e : Fin 8 => (E e).toInt ≤ z).card

/-- How many tiles the groups fill. -/
def tiles (E : Fin 8 → BitVec 32) : ℕ := (E 7).toNat / 512

variable {E : Fin 8 → BitVec 32}

theorem count_le (z : ℤ) : count E z ≤ 8 := (Finset.card_filter_le _ _).trans (by simp)

theorem last_toNat (h : Ends E) : ((E 7).toNat : ℤ) = (E 7).toInt ∧ (E 7).toNat < 2 ^ 31 := by
  have h1 := h.last_pos
  have h2 := (E 7).isLt
  rw [BitVec.toInt_eq_toNat_cond] at h1 ⊢
  split at h1 <;> rename_i hc
  · rw [if_pos hc]; exact ⟨rfl, by omega⟩
  · omega

theorem tiles_spec (h : Ends E) : (512 * tiles E : ℕ) = (E 7).toInt ∧ 1 ≤ tiles E ∧ tiles E < 2 ^ 22 := by
  obtain ⟨h1, h2⟩ := last_toNat h
  have h3 := h.last_pos
  have h4 := h.tile 7
  unfold tiles
  rw [← h1] at h3 h4 ⊢
  omega

/-- Below the valid tiles at most seven groups have ended; -/
theorem count_live (h : Ends E) {z : ℤ} (hz : z < 512 * tiles E) : count E z < 8 := by
  have h1 := (tiles_spec h).1
  refine lt_of_lt_of_eq (Finset.card_lt_univ_of_notMem (x := (7 : Fin 8)) ?_) (by simp)
  rw [Finset.mem_filter]; push Not; intro _; push_cast at h1; omega
/-- above them all have. -/
theorem count_dead (h : Ends E) {z : ℤ} (hz : 512 * tiles E ≤ z) : count E z = 8 := by
  have h1 := (tiles_spec h).1
  unfold count
  rw [Finset.filter_true_of_mem fun e _ => ?_]
  · simp
  · have := h.le_last e; push_cast at h1; omega

/-- The rows of a tile lie in one group. -/
theorem count_tile (h : Ends E) (i : ℕ) (r : ℕ) (hr : r < 512) : count E ((512 * i + r : ℕ) : ℤ) = count E ((512 * i : ℕ) : ℤ) := by
  unfold count
  congr 1
  ext e
  simp only [Finset.mem_filter, Finset.mem_univ, true_and]
  have := h.tile e
  push_cast
  omega

/-! ## The host's words -/

/-- The floor division by 512, as the host computes it. -/
def divWord (x : BitVec 32) : BitVec 32 :=
  Scalar.select
    (IntOp.andi (IntOp.cmpi .ne (if x = 0 then (0 : BitVec 32) else if BitVec.msb x = true then -1 else 1)
        (if (512#32) = 0 then (0 : BitVec 32) else if BitVec.msb (512#32) = true then -1 else 1))
      (IntOp.cmpi .ne (IntOp.remsi .host x 512#32) 0#32))
    (IntOp.subi (IntOp.divsi .host x 512#32) 1#32) (IntOp.divsi .host x 512#32)

theorem divWord_toNat (h : Ends E) : (divWord (E 7)).toNat = tiles E := by
  obtain ⟨h1, h2⟩ := last_toNat h
  have h3 := h.last_pos
  generalize hx : E 7 = x at h1 h2 h3
  have hm : x.msb = false := BitVec.msb_eq_false_iff_two_mul_lt.mpr (by omega)
  have hx0 : ¬ x = 0 := by rintro rfl; simp at h3
  have hcorner : ¬ IntOp.SDivCorner x 512#32 := by
    intro hc; rcases hc with hc | ⟨_, hc⟩ <;> exact absurd hc (by decide)
  unfold divWord
  rw [if_neg hx0, hm]
  rw [show IntOp.cmpi .ne (if (false : Bool) = true then (-1 : BitVec 32) else 1) (if (512#32) = 0 then 0 else if BitVec.msb (512#32) = true then -1 else 1) = 0#1 from by decide]
  rw [show ∀ b : BitVec 1, IntOp.andi 0#1 b = 0#1 from by decide]
  unfold IntOp.divsi tiles
  rw [if_neg hcorner, hx]
  have : x.sdiv 512#32 = x / 512#32 := by
    rw [BitVec.sdiv_eq, hm]; rfl
  rw [this]
  exact BitVec.toNat_udiv

/-- The input tile of grid row `i`: `i`, or the last valid tile. -/
def srcWord (E : Fin 8 → BitVec 32) (i : ℕ) : BitVec 32 := IntOp.minsi (BitVec.ofNat 32 i) (IntOp.subi (divWord (E 7)) 1#32)

theorem minsi_toNat {a b : BitVec 32} (ha : a.toNat < 2 ^ 31) (hb : b.toNat < 2 ^ 31) : (IntOp.minsi a b).toNat = min a.toNat b.toNat := by
  have ia := toInt_eq_toNat_of_lt ha
  have ib := toInt_eq_toNat_of_lt hb
  unfold IntOp.minsi
  split <;> rename_i hc <;> (simp only [BitVec.slt_iff_toInt_lt, BitVec.sle_iff_toInt_le, ia, ib] at hc; omega)

theorem srcWord_toNat (h : Ends E) {i : ℕ} (hi : i < 72) : (srcWord E i).toNat = min i (tiles E - 1) := by
  obtain ⟨_, h1, h2⟩ := tiles_spec h
  have hd := divWord_toNat h
  have hs : (IntOp.subi (divWord (E 7)) 1#32).toNat = tiles E - 1 := by
    show (divWord (E 7) - 1#32).toNat = _
    rw [BitVec.toNat_sub, hd]; simp; omega
  have hi' : (BitVec.ofNat 32 i).toNat = i := by rw [BitVec.toNat_ofNat]; omega
  unfold srcWord
  rw [minsi_toNat (by omega) (by omega), hs, hi']

/-- A word that counts the groups, cut at seven: the expert of a tile. -/
theorem expert_toNat {x : BitVec 32} (hx : x.toNat ≤ 8) : (IntOp.minsi x 7#32).toNat = min x.toNat 7 :=
  minsi_toNat (by omega) (by decide)

/-- The host's comparison of a row's word with an end. -/
theorem sge_row {x e : BitVec 32} {z : ℕ} (hx : x.toNat = z) (hz : z < 2 ^ 31) : IntOp.cmpi .sge x e = 1#1 ↔ e.toInt ≤ (z : ℤ) := by
  have ix : x.toInt = x.toNat := toInt_eq_toNat_of_lt (by omega)
  unfold IntOp.cmpi
  rw [ofBool_eq_one_iff, BitVec.sle_iff_toInt_le, ix, hx]

end Cert.MoeWords

end
-- ==== Proof.MoeTables.lean ====
/-
  THE TABLES THE HOST COMPUTES, read word by word under the precondition: they are admissible (every block they name lies
  inside its array), and what each names is a natural number of MoeWords.
-/
module

public import proofs.«01_k».proof.Proof.MoeRun
public import proofs.«01_k».proof.Proof.MoeWords
public import proofs.«01_k».proof.Proof.Gen.Pre_group_ends
public import Idealize.ShloMosaic.Lib.StableHlo.ReadAt

@[expose] public section

set_option maxRecDepth 16384

noncomputable section

namespace Cert.MoeIdeal.Experts

open Cert.MoeIdeal Cert.MoeIdeal.Gen
open Idealize.ShloMosaic
open Idealize.ShloMosaic.TcCoe Idealize.ShloMosaic.Tactic

open Cert.MoeWords Idealize.ShloMosaic.StableHlo.Predicate

variable {F : FTy → Type} [FloatOps F]
variable (m : (ℓ : Loc nD τ sig) → Buf (Elt F) ℓ)

/-- The ends of the groups, as the program is given them. -/
def endsOf (c : Dev nD) (e : Fin 8) : BitVec 32 := m (c, Proc.tc.devRef main_arg0) (ix1 e)

/-- The precondition, read. -/
theorem ends_of_pre {c : Dev nD} (h : Cert.Pre_group_ends.fn (F := F) (m (c, main_arg0)) (m (c, main_arg1)) (m (c, main_arg2)) (m (c, main_arg3)) (m (c, main_arg4)) = fun _ => 1#1) :
    Ends (endsOf m c) := by
  have h0 := congrFun h (Shape.Idx.first Cert.Pre_group_ends.Gen.h_S_)
  dsimp only [Cert.Pre_group_ends.fn] at h0
  obtain ⟨h1, h2⟩ := IntOp.andi_eq_one.mp h0
  have h3 := fun e : Fin 8 => IntOp.andi_eq_one.mp (Host.reduce_andi_all _ _ _ _ _ h1 (ix1 e))
  have hl : ∀ j, shapeCast Cert.Pre_group_ends.S_ (extractStridedSlice Cert.Pre_group_ends.S1 ![7] (m (c, Proc.tc.devRef main_arg0)) Cert.Pre_group_ends.Gen.slices_S8_S1_7)
      Cert.Pre_group_ends.Gen.shapeCasts_S1_S_ j = endsOf m c 7 := fun j => by pointwise; rfl
  have h4 : ∀ e, IntOp.cmpi .sle (endsOf m c e) (endsOf m c 7) = 1#1 := fun e => by
    have := (h3 e).1
    unfold cmpi at this
    rw [bcast_scalar _ Cert.Pre_group_ends.Gen.h_S_, hl] at this
    exact this
  have h5 : IntOp.cmpi .sgt (endsOf m c 7) 0#32 = 1#1 := by
    have := h2
    unfold cmpi at this
    rw [hl] at this
    exact this
  have key : ∀ e, ((endsOf m c e).toInt ≤ (endsOf m c 7).toInt) ∧ (endsOf m c e &&& 511#32) = 0#32 := fun e =>
    ⟨IntOp.cmpi_sle.mp (h4 e), cmpi_eq_iff.mp (h3 e).2⟩
  refine ⟨fun e => (key e).1, fun e => ?_, IntOp.cmpi_sgt.mp h5⟩
  have h6 := congrArg BitVec.toNat (key e).2
  rw [BitVec.toNat_and, show (511#32).toNat = 2 ^ 9 - 1 from rfl, Nat.and_two_pow_sub_one_eq_mod] at h6
  rw [BitVec.toInt_eq_toNat_cond]
  simp only [BitVec.toNat_zero, Nat.reducePow] at h6
  split <;> omega

/-! ## The words -/

theorem entry_count (c : Dev nD) (j : S1.Idx) : entry m c main_v18 j = divWord (endsOf m c 7) := by
  unfold entry
  after_reads_at
  rfl

theorem entry_src (c : Dev nD) (j : S72.Idx) : entry m c main_v6 j = srcWord (endsOf m c) (j 0).val := by
  unfold entry
  after_reads_at
  rfl

/-- Which groups have ended where row tile `j 0`'s input tile begins. -/
def endedMask (E : Fin 8 → BitVec 32) : IVec S72x8 1 := fun q => IntOp.cmpi .sge (IntOp.muli (srcWord E (q 0).val) 512#32) (E (q 1))

theorem entry_expert_word (c : Dev nD) (j : S72.Idx) :
    entry m c main_v17 j = IntOp.minsi (Host.reduce IntOp.addi (extui 32 (endedMask (endsOf m c)) natLt_1_32) (constantI S_ 32 0#32) reducesTo_S72x8_S72_d1 h_S_ j) 7#32 := by
  unfold entry
  after_reads_at
  rfl

theorem entry_expert {c : Dev nD} (h : Ends (endsOf m c)) (j : S72.Idx) :
    (entry m c main_v17 j : BitVec 32).toNat = min (count (endsOf m c) ((512 * min (j 0).val (tiles (endsOf m c) - 1) : ℕ) : ℤ)) 7 := by
  have hj : (j 0).val < 72 := (j 0).isLt
  have hc := toNat_reduce_count_cols (n := 72) (m := 8) (by decide) (endedMask (endsOf m c)) natLt_1_32 reducesTo_S72x8_S72_d1 h_S_ j
  have hs : (IntOp.muli (srcWord (endsOf m c) (j 0).val) 512#32).toNat = 512 * min (j 0).val (tiles (endsOf m c) - 1) := by
    show (srcWord (endsOf m c) (j 0).val * 512#32).toNat = _
    rw [BitVec.toNat_mul, srcWord_toNat h hj]
    simp
    omega
  rw [entry_expert_word, expert_toNat (by rw [hc]; exact (Finset.card_filter_le _ _).trans (by simp)), hc]
  congr 2
  ext q
  simp only [Finset.mem_filter, Finset.mem_univ, true_and]
  exact sge_row hs (by omega)

theorem entry_w1 (c : Dev nD) (j : S8x1024x3584.Idx) : entry m c main_v20 j = FloatOps.truncf .bf16 bitsLt_bf16_f32 (m (c, Proc.tc.devRef main_arg2) (ix4 0 (j 0) (j 1) (j 2))) := by
  unfold entry
  after_reads_at
theorem entry_w3 (c : Dev nD) (j : S8x1024x3584.Idx) : entry m c main_v22 j = FloatOps.truncf .bf16 bitsLt_bf16_f32 (m (c, Proc.tc.devRef main_arg3) (ix4 0 (j 0) (j 1) (j 2))) := by
  unfold entry
  after_reads_at
theorem entry_w2 (c : Dev nD) (j : S8x3584x1024.Idx) : entry m c main_v24 j = FloatOps.truncf .bf16 bitsLt_bf16_f32 (m (c, Proc.tc.devRef main_arg4) (ix4 0 (j 0) (j 1) (j 2))) := by
  unfold entry
  after_reads_at
theorem entry_arg0 (c : Dev nD) : entry m c main_arg0 = m (c, Proc.tc.devRef main_arg0) := by
  unfold entry
  after_reads_simp
theorem entry_arg1 (c : Dev nD) : entry m c main_arg1 = m (c, Proc.tc.devRef main_arg1) := by
  unfold entry
  after_reads_simp
theorem entry_arg2 (c : Dev nD) : entry m c main_arg2 = m (c, Proc.tc.devRef main_arg2) := by
  unfold entry
  after_reads_simp
theorem entry_arg3 (c : Dev nD) : entry m c main_arg3 = m (c, Proc.tc.devRef main_arg3) := by
  unfold entry
  after_reads_simp
theorem entry_arg4 (c : Dev nD) : entry m c main_arg4 = m (c, Proc.tc.devRef main_arg4) := by
  unfold entry
  after_reads_simp

/-! ## The index maps at tables in range -/

/-- A table's word at grid row `i`. -/
theorem table0_at (pf : pre0.Contents (Elt F)) (i : grid0.Coords) :
    pf.at 0 (Rect.unit (s := S72) ![(Scalar.indexCast (BitVec.ofNat 32 (i 0).val)).toNat] S1.size (k0_off1_inb i)) numel1_S1 = pf 0 (ix1 (i 0)) :=
  congrArg (pf 0) (by
    have h : ∀ i : grid0.Coords, ((Rect.unit (s := S72) ![(Scalar.indexCast (BitVec.ofNat 32 (i 0).val)).toNat] S1.size (k0_off1_inb i)).emb (Shape.Idx.first (numel1_S1.symm ▸ Nat.one_pos)) 0).val = (i 0).val := by decide +kernel
    funext d
    match d with
    | ⟨0, _⟩ => exact Fin.ext (h i))
theorem table1_at (pf : pre0.Contents (Elt F)) (i : grid0.Coords) :
    pf.at 1 (Rect.unit (s := S72) ![(Scalar.indexCast (BitVec.ofNat 32 (i 0).val)).toNat] S1.size (k0_off1_inb i)) numel1_S1 = pf 1 (ix1 (i 0)) :=
  congrArg (pf 1) (by
    have h : ∀ i : grid0.Coords, ((Rect.unit (s := S72) ![(Scalar.indexCast (BitVec.ofNat 32 (i 0).val)).toNat] S1.size (k0_off1_inb i)).emb (Shape.Idx.first (numel1_S1.symm ▸ Nat.one_pos)) 0).val = (i 0).val := by decide +kernel
    funext d
    match d with
    | ⟨0, _⟩ => exact Fin.ext (h i))

/-- The half of the hidden axis a point takes: in order on even row tiles, in reverse on odd ones. -/
def half (i : grid0.Coords) : ℕ := if (i 0).val % 2 = 0 then (i 1).val else 1 - (i 1).val

theorem half_lt (i : grid0.Coords) : half i < 2 := by
  have := (i 1).isLt
  unfold half; split <;> first | exact this | omega

def halfWord (a b : BitVec 32) : BitVec 32 :=
  let d := Scalar.select (Scalar.cmpi .eq 2#32 0#32) 1#32 2#32
  let r := Scalar.remsi a d
  Scalar.select (Scalar.cmpi .eq (Scalar.select (Scalar.andi (Scalar.xori (Scalar.cmpi .slt r 0#32) (Scalar.cmpi .slt d 0#32)) (Scalar.cmpi .ne r 0#32)) (Scalar.addi r d) r) 0#32)
    b (Scalar.subi 1#32 b)

theorem halfWord_eq : ∀ i : grid0.Coords, (halfWord (BitVec.ofNat 32 (i 0).val) (BitVec.ofNat 32 (i 1).val)).toNat = half i := by decide +kernel

theorem transform0 (pf : pre0.Contents (Elt F)) (i : grid0.Coords) :
    cc0_transform_0 k0_off1_inb numel1_S1 pf i = ![(pf 0 (ix1 (i 0)) : BitVec 32).toNat, 0] :=
  congrArg (fun w : BitVec 32 => (![w.toNat, 0] : Fin 2 → ℕ)) (table0_at pf i)
theorem transform1 (pf : pre0.Contents (Elt F)) (i : grid0.Coords) :
    cc0_transform_1 k0_off1_inb numel1_S1 pf i = ![(pf 1 (ix1 (i 0)) : BitVec 32).toNat, 0, half i] := by
  rw [← halfWord_eq]; exact congrArg (fun w : BitVec 32 => (![w.toNat, 0, _] : Fin 3 → ℕ)) (table1_at pf i)
theorem transform2 (pf : pre0.Contents (Elt F)) (i : grid0.Coords) :
    cc0_transform_2 k0_off1_inb numel1_S1 pf i = ![(pf 1 (ix1 (i 0)) : BitVec 32).toNat, 0, half i] := by
  rw [← halfWord_eq]; exact congrArg (fun w : BitVec 32 => (![w.toNat, 0, _] : Fin 3 → ℕ)) (table1_at pf i)
theorem transform3 (pf : pre0.Contents (Elt F)) (i : grid0.Coords) :
    cc0_transform_3 k0_off1_inb numel1_S1 pf i = ![(pf 1 (ix1 (i 0)) : BitVec 32).toNat, half i, 0] := by
  rw [← halfWord_eq]; exact congrArg (fun w : BitVec 32 => (![w.toNat, _, 0] : Fin 3 → ℕ)) (table1_at pf i)

theorem block1_ok (e : Fin 8) (h : Fin 2) :
    ∃ hi : (∀ a, ((![e.val, 0, h.val] : Fin 3 → ℕ) a + 1) * S1x1024x1792.size a ≤ S8x1024x3584.size a), EltTy.bits .bf16 = 32 ∨ (Rect.block (s := S8x1024x3584) S1x1024x1792.size ![e.val, 0, h.val] hi).WholeWords (EltTy.packing .bf16) := by
  revert e h; decide +kernel
theorem block3_ok (e : Fin 8) (h : Fin 2) :
    ∃ hi : (∀ a, ((![e.val, h.val, 0] : Fin 3 → ℕ) a + 1) * S1x1792x1024.size a ≤ S8x3584x1024.size a), EltTy.bits .bf16 = 32 ∨ (Rect.block (s := S8x3584x1024) S1x1792x1024.size ![e.val, h.val, 0] hi).WholeWords (EltTy.packing .bf16) := by
  revert e h; decide +kernel

/-- Tables whose input tiles and experts are in range are admissible. -/
theorem ok0_of (pf : pre0.Contents (Elt F)) (h0 : ∀ i : Fin 72, (pf 0 (ix1 i) : BitVec 32).toNat < 72) (h1 : ∀ i : Fin 72, (pf 1 (ix1 i) : BitVec 32).toNat < 8) : ok0 pf := by
  unfold ok0
  refine ⟨fun i => ?_, fun i => ?_, fun i => ?_, fun i => ?_⟩
  · rw [transform0]
    refine ⟨fun a => ?_, .inl rfl⟩
    have := h0 (i 0)
    match a with
    | ⟨0, _⟩ => show ((pf 0 (ix1 (i 0)) : BitVec 32).toNat + 1) * 512 ≤ 36864; omega
    | ⟨1, _⟩ => show (0 + 1) * 1024 ≤ 1024; omega
  · rw [transform1]; exact block1_ok ⟨_, h1 (i 0)⟩ ⟨_, half_lt i⟩
  · rw [transform2]; exact block1_ok ⟨_, h1 (i 0)⟩ ⟨_, half_lt i⟩
  · rw [transform3]; exact block3_ok ⟨_, h1 (i 0)⟩ ⟨_, half_lt i⟩

/-- The tables the host leaves, admissible under the precondition. -/
def tablesOf (h : ∀ c, Ends (endsOf m c)) : (pcfg0 (F := F)).Adm :=
  ⟨fun k => entry m 0 (pre0.ref k), ok0_of _
    (fun i => by
      show (entry m 0 main_v6 (ix1 i)).toNat < 72
      rw [entry_src]
      have := srcWord_toNat (h 0) i.isLt
      have hi := i.isLt
      show (srcWord (endsOf m 0) i.val).toNat < 72
      omega)
    (fun i => by
      show (entry m 0 main_v17 (ix1 i)).toNat < 8
      rw [entry_expert m (h 0)]
      omega)⟩

theorem tablesOf_eq (h : ∀ c, Ends (endsOf m c)) (c : Dev nD) (k : Fin 3) : entry m c (pre0.ref k) = (tablesOf m h).1 k := by
  obtain rfl : c = 0 := Subsingleton.elim _ _
  rfl

end Cert.MoeIdeal.Experts

end
-- ==== Proof.MoeValue.lean ====
module
public import proofs.«01_k».proof.Proof.MoeTables
public import Idealize.ShloMosaic.Lib.Pipeline.ValueKit
/-!
# The array the experts' kernel leaves

The output array is tiled by the blocks of 512 rows. Each block is written back once, after the second half of the hidden
units; so a row of the array is a row of what the body left at its tile's second point. The blocks a point reads are
placed in their arrays by the tables: tile `i` of rows from `src i`, the weights of expert `te i`, and the half the
snake order gives.
-/
@[expose] public section
set_option maxRecDepth 16384
noncomputable section
namespace Cert.MoeIdeal.Experts
open Cert.MoeIdeal Cert.MoeIdeal.Gen
open Idealize.ShloMosaic
open Idealize.ShloMosaic.TcCoe Idealize.ShloMosaic.Tactic
variable {F : FTy → Type} [FloatOps F]
variable (a : (pcfg0 (F := F)).Adm)
variable (V : (c : Dev nD) → (b : Ref sig .tc) → Buf (Elt F) ((c.tc : Thread nD τ).loc b))

/-! ## Where each block lies -/

theorem emb0 (t : Fin (cfgT a).N) (y : S512x1024.Idx) (d : Fin 2) :
    ((((cfgT a).win (0 : Fin 5)).blk t).view.emb y d).val = cc0_transform_0 k0_off1_inb numel1_S1 a.1 (crd a t) d * S512x1024.size d + (y d).val :=
  Pipeline.Window.rect_emb_val _ _ _ _ rfl
theorem emb1 (t : Fin (cfgT a).N) (y : S1x1024x1792.Idx) (d : Fin 3) :
    ((((cfgT a).win (1 : Fin 5)).blk t).view.emb y d).val = cc0_transform_1 k0_off1_inb numel1_S1 a.1 (crd a t) d * S1x1024x1792.size d + (y d).val :=
  Pipeline.Window.rect_emb_val _ _ _ _ rfl
theorem emb2 (t : Fin (cfgT a).N) (y : S1x1024x1792.Idx) (d : Fin 3) :
    ((((cfgT a).win (2 : Fin 5)).blk t).view.emb y d).val = cc0_transform_2 k0_off1_inb numel1_S1 a.1 (crd a t) d * S1x1024x1792.size d + (y d).val :=
  Pipeline.Window.rect_emb_val _ _ _ _ rfl
theorem emb3 (t : Fin (cfgT a).N) (y : S1x1792x1024.Idx) (d : Fin 3) :
    ((((cfgT a).win (3 : Fin 5)).blk t).view.emb y d).val = cc0_transform_3 k0_off1_inb numel1_S1 a.1 (crd a t) d * S1x1792x1024.size d + (y d).val :=
  Pipeline.Window.rect_emb_val _ _ _ _ rfl
theorem emb4 (t : Fin (cfgT a).N) (y : S512x1024.Idx) (d : Fin 2) :
    ((((cfgT a).win (4 : Fin 5)).blk t).view.emb y d).val = cc0_transform_4 (crd a t) d * S512x1024.size d + (y d).val :=
  Pipeline.Window.rect_emb_val _ _ _ _ rfl

theorem transform4 : ∀ t : Fin grid0.N, cc0_transform_4 (grid0.coords t) = ![t.val / 2, 0] := by decide +kernel

/-- The tile of rows, the expert and the half of the hidden units a point reads. -/
abbrev srcAt (i : Fin 72) : ℕ := (a.1 0 (ix1 i) : BitVec 32).toNat
abbrev expertAt (i : Fin 72) : ℕ := (a.1 1 (ix1 i) : BitVec 32).toNat

/-- The tile a point works on. -/
def tileOf (t : Fin (cfgT a).N) : Fin 72 := (crd a t) 0

theorem tileOf_val (t : Fin (cfgT a).N) : (tileOf a t).val = t.val / 2 := coords0 t

theorem blk0_at (c : Dev nD) (t : Fin (cfgT a).N) (r : Fin 512) (k : Fin 1024) (h : srcAt a (tileOf a t) * 512 + r.val < 36864) :
    blkAt a V c (0 : Fin 5) t (ix2 r k) = V c main_arg1 (ix2 ⟨srcAt a (tileOf a t) * 512 + r.val, h⟩ k) := by
  refine congrArg (V c main_arg1) (funext fun d => Fin.ext ?_)
  refine (emb0 a t (ix2 r k) d).trans ?_
  rw [transform0]
  match d with
  | ⟨0, _⟩ => rfl
  | ⟨1, _⟩ => exact Nat.zero_add _

theorem blk1_at (c : Dev nD) (t : Fin (cfgT a).N) (k : Fin 1024) (u : Fin 1792) (h : expertAt a (tileOf a t) < 8) (h' : half (crd a t) * 1792 + u.val < 3584) :
    blkAt a V c (1 : Fin 5) t (ix3 0 k u) = V c main_v20 (ix3 ⟨expertAt a (tileOf a t), h⟩ k ⟨half (crd a t) * 1792 + u.val, h'⟩) := by
  refine congrArg (V c main_v20) (funext fun d => Fin.ext ?_)
  refine (emb1 a t (ix3 0 k u) d).trans ?_
  rw [transform1]
  match d with
  | ⟨0, _⟩ => exact Nat.mul_one _
  | ⟨1, _⟩ => exact Nat.zero_add _
  | ⟨2, _⟩ => rfl

theorem blk2_at (c : Dev nD) (t : Fin (cfgT a).N) (k : Fin 1024) (u : Fin 1792) (h : expertAt a (tileOf a t) < 8) (h' : half (crd a t) * 1792 + u.val < 3584) :
    blkAt a V c (2 : Fin 5) t (ix3 0 k u) = V c main_v22 (ix3 ⟨expertAt a (tileOf a t), h⟩ k ⟨half (crd a t) * 1792 + u.val, h'⟩) := by
  refine congrArg (V c main_v22) (funext fun d => Fin.ext ?_)
  refine (emb2 a t (ix3 0 k u) d).trans ?_
  rw [transform2]
  match d with
  | ⟨0, _⟩ => exact Nat.mul_one _
  | ⟨1, _⟩ => exact Nat.zero_add _
  | ⟨2, _⟩ => rfl

theorem blk3_at (c : Dev nD) (t : Fin (cfgT a).N) (u : Fin 1792) (j : Fin 1024) (h : expertAt a (tileOf a t) < 8) (h' : half (crd a t) * 1792 + u.val < 3584) :
    blkAt a V c (3 : Fin 5) t (ix3 0 u j) = V c main_v24 (ix3 ⟨expertAt a (tileOf a t), h⟩ ⟨half (crd a t) * 1792 + u.val, h'⟩ j) := by
  refine congrArg (V c main_v24) (funext fun d => Fin.ext ?_)
  refine (emb3 a t (ix3 0 u j) d).trans ?_
  rw [transform3]
  match d with
  | ⟨0, _⟩ => exact Nat.mul_one _
  | ⟨1, _⟩ => rfl
  | ⟨2, _⟩ => exact Nat.zero_add _

/-! ## The array at the end -/

/-- The written-back blocks tile the output array. -/
theorem covers4 : ((cfgT a).win (4 : Fin 5)).Covers := by
  refine ⟨fun d => ?_, fun β => ?_⟩
  · show 0 < S512x1024.size d
    revert d; exact (by decide : ∀ d : Fin 2, 0 < S512x1024.size d)
  · have hβ : (β (0 : Fin 2)).val < 72 := lt_of_lt_of_eq (β (0 : Fin 2)).isLt (show ((36864 : ℕ) + 512 - 1) / 512 = 72 by decide)
    have hβ1 : (β (1 : Fin 2)).val < 1 := lt_of_lt_of_eq (β (1 : Fin 2)).isLt (show ((1024 : ℕ) + 1024 - 1) / 1024 = 1 by decide)
    have hN : (cfgT a).grid.N = 144 := N_0
    refine ⟨⟨2 * (β (0 : Fin 2)).val + 1, by omega⟩, ?_, fun d => ⟨?_, .inl rfl⟩⟩
    · rw [flush4]; exact decide_eq_true (by show (2 * _ + 1) % 2 = 1; omega)
    · refine (congrFun (transform4 _) d).trans ?_
      match d with
      | ⟨0, _⟩ => show (2 * (β (0 : Fin 2)).val + 1) / 2 = (β (0 : Fin 2)).val; omega
      | ⟨1, _⟩ => show 0 = (β (1 : Fin 2)).val; omega

/-- The second point of a row's tile. -/
def lastOf (y : S36864x1024.Idx) : Fin (cfgT a).N :=
  ⟨2 * ((y 0).val / 512) + 1, by
    have h : (y 0).val < 36864 := (y 0).isLt
    have hN : (cfgT a).grid.N = 144 := N_0
    show _ < (cfgT a).grid.N
    omega⟩

/-- The output array at the end: each row is a row of what the body left at the second point of the row's tile. -/
theorem final (c : Dev nD) :
    (dats a V 0 c).arrAt (4 : Fin 5) (cfgT a).N
      = (fun y : S36864x1024.Idx => blockAfter a V c (lastOf a y) (ix2 ⟨(y 0).val % 512, Nat.mod_lt _ (by omega)⟩ (y 1)) : S36864x1024.Idx → Elt F .f32) := by
  refine (dats a V 0 c).arrAt_eq_of_covers (4 : Fin 5) _ (covers4 a) fun t hf y => ?_
  rw [flush4] at hf
  have hodd : t.val % 2 = 1 := of_decide_eq_true hf
  have e0 := (emb4 a t y 0).trans (congrArg (· * 512 + (y 0).val) (congrFun (transform4 t) 0))
  have e1 := (emb4 a t y 1).trans (congrArg (· * 1024 + (y 1).val) (congrFun (transform4 t) 1))
  have hy : (y (0 : Fin 2)).val < 512 := (y (0 : Fin 2)).isLt
  have ht : lastOf a ((((cfgT a).win (4 : Fin 5)).blk t).view.emb y) = t := Fin.ext (by
    show 2 * (((((cfgT a).win (4 : Fin 5)).blk t).view.emb y 0).val / 512) + 1 = t.val
    have e0' : ((((cfgT a).win (4 : Fin 5)).blk t).view.emb y 0).val = (t.val / 2) * 512 + (y 0).val := e0
    rw [e0']; omega)
  show blockAfter a V c t y = blockAfter a V c (lastOf a ((((cfgT a).win (4 : Fin 5)).blk t).view.emb y)) _
  rw [ht]
  refine congrArg (blockAfter a V c t) (funext fun d => Fin.ext ?_)
  match d with
  | ⟨0, _⟩ =>
    show (y 0).val = ((((cfgT a).win (4 : Fin 5)).blk t).view.emb y 0).val % 512
    have e0' : ((((cfgT a).win (4 : Fin 5)).blk t).view.emb y 0).val = (t.val / 2) * 512 + (y 0).val := e0
    rw [e0']; omega
  | ⟨1, _⟩ =>
    show (y 1).val = ((((cfgT a).win (4 : Fin 5)).blk t).view.emb y 1).val
    have e1' : ((((cfgT a).win (4 : Fin 5)).blk t).view.emb y 1).val = 0 * 1024 + (y 1).val := e1
    rw [e1']; omega

end Cert.MoeIdeal.Experts
end
-- ==== Proof.ExpertMath.lean ====
module
public import Idealize.ShloMosaic.Lib.Pointwise
/-!
# One output number of an expert's SwiGLU layer

`unit x w1 w3` is one hidden unit: the SiLU of one product times the other. `swigluAt` is one output number: the hidden
units weighted by a column of the second matrix. A sum over the hidden units may be taken in two halves, in either order;
and the sum of all experts' outputs with the gates of one row is the output of the expert that the row belongs to.
-/
@[expose] public section
noncomputable section
namespace Cert.ExpertMath
open Idealize.ShloMosaic

/-- A hidden unit: `silu (x · w1) * (x · w3)`. -/
def unit {n : ℕ} (x w1 w3 : Fin n → EReal) : EReal :=
  (∑ k, x k * w1 k) * Ideal.div 1 (1 + Ideal.exp (-∑ k, x k * w1 k)) * ∑ k, x k * w3 k

/-- An output number: the hidden units, weighted. -/
def swigluAt {n h : ℕ} (x : Fin n → EReal) (w1 w3 : Fin n → Fin h → EReal) (w2 : Fin h → EReal) : EReal :=
  ∑ u, unit x (fun k => w1 k u) (fun k => w3 k u) * w2 u

/-- A row divided by its root mean square, times the gain: `1149239296` is the word of 1024 and `925353388` that of the
    constant added to the mean square. -/
def normed (x gain : Fin 1024 → EReal) (k : Fin 1024) : EReal :=
  x k * Ideal.rsqrt (Ideal.div (∑ i, x i * x i) (Ideal.ofBits .f32 1149239296#32) + Ideal.ofBits .f32 925353388#32) * gain k

/-- A sum over `2 * 1792` units, the halves taken in either order. -/
theorem sum_halves (f : Fin 3584 → EReal) (p q : ℕ) (hp : p < 2) (hq : q < 2) (hpq : p ≠ q)
    (g g' : Fin 1792 → EReal) (hg : ∀ u h, g u = f ⟨p * 1792 + u.val, h⟩) (hg' : ∀ u h, g' u = f ⟨q * 1792 + u.val, h⟩) :
    (0 + ∑ u, g u) + ∑ u, g' u = ∑ u, f u := by
  have split : ∑ u, f u = (∑ u : Fin 1792, f ⟨0 * 1792 + u.val, by omega⟩) + ∑ u : Fin 1792, f ⟨1 * 1792 + u.val, by omega⟩ := by
    refine (Fin.sum_univ_add (a := 1792) (b := 1792) f).trans ?_
    congr 1 <;> refine Finset.sum_congr rfl fun u _ => congrArg f (Fin.ext ?_) <;> simp <;> omega
  obtain ⟨rfl, rfl⟩ | ⟨rfl, rfl⟩ : p = 0 ∧ q = 1 ∨ p = 1 ∧ q = 0 := by omega
  · rw [zero_add, split]
    exact congrArg₂ (· + ·) (Finset.sum_congr rfl fun u _ => hg u _) (Finset.sum_congr rfl fun u _ => hg' u _)
  · rw [zero_add, split, add_comm]
    exact congrArg₂ (· + ·) (Finset.sum_congr rfl fun u _ => hg' u _) (Finset.sum_congr rfl fun u _ => hg u _)

/-- The gates of a row of expert `n` pick that expert's output; a row of no expert gets zero. -/
theorem pick (n : ℕ) (P gate : Fin 8 → EReal) (hg : ∀ e, gate e = if n = e.val then 1 else 0) :
    0 + gate 0 * P 0 + gate 1 * P 1 + gate 2 * P 2 + gate 3 * P 3 + gate 4 * P 4 + gate 5 * P 5 + gate 6 * P 6 + gate 7 * P 7
      = if h : n < 8 then P ⟨n, h⟩ else 0 := by
  have e : 0 + gate 0 * P 0 + gate 1 * P 1 + gate 2 * P 2 + gate 3 * P 3 + gate 4 * P 4 + gate 5 * P 5 + gate 6 * P 6 + gate 7 * P 7
      = ∑ e, gate e * P e := by rw [Fin.sum_univ_eight, zero_add (gate 0 * P 0)]
  rw [e]
  split
  next h =>
    rw [Finset.sum_eq_single ⟨n, h⟩]
    · rw [hg, if_pos rfl, one_mul]
    · intro b _ hb
      rw [hg, if_neg (fun hn => hb (Fin.ext hn.symm)), zero_mul]
    · exact fun h => absurd (Finset.mem_univ _) h
  next h =>
    exact Finset.sum_eq_zero fun b _ => by rw [hg, if_neg (by have := b.isLt; omega), zero_mul]

end Cert.ExpertMath
end
-- ==== Proof.MoeAlgebra.lean ====
module
public import proofs.«01_k».proof.Proof.MoeValue
public import proofs.«01_k».proof.Proof.ExpertMath
/-!
# What the experts' kernel computes, in exact arithmetic

A tile of rows below the count of valid tiles is worked on at two points, one per half of the hidden units; the two
partial sums add up to the SwiGLU of the tile's expert. A tile past the count is left at zero.
-/
@[expose] public section
set_option maxRecDepth 16384
noncomputable section
namespace Cert.MoeIdeal.Experts
open Cert.MoeIdeal Cert.MoeIdeal.Gen Cert.ExpertMath
open Idealize.ShloMosaic
open Idealize.ShloMosaic.TcCoe Idealize.ShloMosaic.Tactic

open Cert.MoeWords

/-! ## The body's arithmetic at an element -/

theorem zeros_at (r : Fin 512) (j : Fin 1024) : k0_pay1 (F := Ideal) (ix2 r j) = (0 : EReal) := by
  pointwise [k0_pay1]

theorem step_at (x : Vec Ideal S512x1024 .f32) (w1 w3 : Vec Ideal S1x1024x1792 .bf16) (w2 : Vec Ideal S1x1792x1024 .bf16) (y : Vec Ideal S512x1024 .f32) (r : Fin 512) (j : Fin 1024) :
    k0_pay2 x w1 w3 y w2 (ix2 r j)
      = (y (ix2 r j) : EReal) + swigluAt (fun k => x (ix2 r k)) (fun k u => w1 (ix3 0 k u)) (fun k u => w3 (ix3 0 k u)) (fun u : Fin 1792 => w2 (ix3 0 u j)) := by
  pointwise [k0_pay2]
  simp only [zero_sub]
  rfl

variable (m : (ℓ : Loc nD τ sig) → Buf (Elt Ideal) ℓ) (h : ∀ c, Ends (endsOf m c))

/-! ## The tables' entries as numbers -/

theorem ends_dev (c : Dev nD) : endsOf m c = endsOf m 0 := by
  obtain rfl : c = 0 := Subsingleton.elim _ _
  rfl

theorem valid_toInt : (nvOf (tablesOf m h)).toInt = (tiles (endsOf m 0) : ℤ) := by
  have e : nvOf (tablesOf m h) = divWord (endsOf m 0 7) := entry_count m 0 _
  have e1 := divWord_toNat (h 0)
  have e2 := (tiles_spec (h 0)).2.2
  rw [e, BitVec.toInt_eq_toNat_cond, e1, if_pos (by omega)]

theorem src_eq (i : Fin 72) (hi : i.val < tiles (endsOf m 0)) : srcAt (tablesOf m h) i = i.val := by
  have e : srcAt (tablesOf m h) i = (srcWord (endsOf m 0) i.val).toNat := congrArg BitVec.toNat (entry_src m 0 (ix1 i))
  rw [e, srcWord_toNat (h 0) i.isLt]
  omega

/-- The expert a tile belongs to. -/
def expertOf (i : ℕ) : ℕ := MoeWords.count (endsOf m 0) ((512 * i : ℕ) : ℤ)

include h in
theorem expertOf_lt (i : ℕ) (hi : i < tiles (endsOf m 0)) : expertOf m i < 8 := count_live (h 0) (by push_cast; omega)

theorem expert_eq (i : Fin 72) (hi : i.val < tiles (endsOf m 0)) : expertAt (tablesOf m h) i = expertOf m i.val := by
  have e : expertAt (tablesOf m h) i = _ := entry_expert m (h 0) (ix1 i)
  rw [e]
  have h1 : min i.val (tiles (endsOf m 0) - 1) = i.val := by omega
  have h2 := expertOf_lt m h i.val hi
  unfold expertOf at h2 ⊢
  show min (MoeWords.count (endsOf m 0) ((512 * min i.val (tiles (endsOf m 0) - 1) : ℕ) : ℤ)) 7 = _
  rw [h1]; omega

/-! ## The body's steps -/

variable (c : Dev nD)

/-- A tile past the count: a point changes nothing. -/
theorem step_dead (t : Fin (cfgT (tablesOf m h)).N) (ht : tiles (endsOf m 0) ≤ t.val / 2) (y : Vec Ideal S512x1024 .f32) :
    stepAt (tablesOf m h) (entry m) c t y = y := by
  unfold stepAt tileStep
  refine if_neg fun hc => ?_
  have h1 := (live_iff t (nvOf (tablesOf m h))).mp hc
  rw [valid_toInt m h] at h1
  omega

/-- Hidden unit `u` of expert `e` at a row, times its weight for a column of the output. -/
def term (e : Fin 8) (row : Fin 36864) (j : Fin 1024) (u : Fin 3584) : EReal :=
  unit (fun k => m (c, Proc.tc.devRef main_arg1) (ix2 row k)) (fun k => m (c, Proc.tc.devRef main_arg2) (ix4 0 e k u)) (fun k => m (c, Proc.tc.devRef main_arg3) (ix4 0 e k u))
    * m (c, Proc.tc.devRef main_arg4) (ix4 0 e u j)

/-- A tile below the count: a point adds the terms of its half of the hidden units. -/
theorem step_live (t : Fin (cfgT (tablesOf m h)).N) (ht : t.val / 2 < tiles (endsOf m 0)) (y : Vec Ideal S512x1024 .f32) (r : Fin 512) (j : Fin 1024)
    (row : Fin 36864) (hrow : row.val = 512 * (t.val / 2) + r.val) (g : Fin 1792 → EReal)
    (hg : ∀ u hu, g u = term m c ⟨_, expertOf_lt m h _ ht⟩ row j ⟨half (crd (tablesOf m h) t) * 1792 + u.val, hu⟩) :
    stepAt (tablesOf m h) (entry m) c t y (ix2 r j) = (y (ix2 r j) : EReal) + ∑ u, g u := by
  have hlive : k0_cond2 (crd (tablesOf m h) t) (nvOf (tablesOf m h)) = 1#1 := (live_iff t _).mpr (by rw [valid_toInt m h]; exact_mod_cast ht)
  have htile := tileOf_val (tablesOf m h) t
  have hs : srcAt (tablesOf m h) (tileOf (tablesOf m h) t) = t.val / 2 := (src_eq m h _ (by omega)).trans htile
  have he : expertAt (tablesOf m h) (tileOf (tablesOf m h) t) = expertOf m (t.val / 2) := (expert_eq m h _ (by omega)).trans (by rw [htile])
  have he8 := expertOf_lt m h _ ht
  have hh := half_lt (crd (tablesOf m h) t)
  have hx : ∀ k : Fin 1024, blkAt (tablesOf m h) (entry m) c (0 : Fin 5) t (ix2 r k) = m (c, Proc.tc.devRef main_arg1) (ix2 row k) := fun k => by
    rw [blk0_at (tablesOf m h) (entry m) c t r k (by rw [hs]; omega), entry_arg1]
    congr 2
    exact Fin.ext (by show srcAt (tablesOf m h) (tileOf (tablesOf m h) t) * 512 + r.val = row.val; rw [hs, hrow]; omega)
  have h1 : ∀ (k : Fin 1024) (u : Fin 1792) (hu), blkAt (tablesOf m h) (entry m) c (1 : Fin 5) t (ix3 0 k u) = m (c, Proc.tc.devRef main_arg2) (ix4 0 ⟨_, he8⟩ k ⟨half (crd (tablesOf m h) t) * 1792 + u.val, hu⟩) := fun k u hu => by
    rw [blk1_at (tablesOf m h) (entry m) c t k u (by omega) hu, entry_w1]
    simp only [he]
    rfl
  have h3 : ∀ (k : Fin 1024) (u : Fin 1792) (hu), blkAt (tablesOf m h) (entry m) c (2 : Fin 5) t (ix3 0 k u) = m (c, Proc.tc.devRef main_arg3) (ix4 0 ⟨_, he8⟩ k ⟨half (crd (tablesOf m h) t) * 1792 + u.val, hu⟩) := fun k u hu => by
    rw [blk2_at (tablesOf m h) (entry m) c t k u (by omega) hu, entry_w3]
    simp only [he]
    rfl
  have h2 : ∀ (u : Fin 1792) (hu), blkAt (tablesOf m h) (entry m) c (3 : Fin 5) t (ix3 0 u j) = m (c, Proc.tc.devRef main_arg4) (ix4 0 ⟨_, he8⟩ ⟨half (crd (tablesOf m h) t) * 1792 + u.val, hu⟩ j) := fun u hu => by
    rw [blk3_at (tablesOf m h) (entry m) c t u j (by omega) hu, entry_w2]
    simp only [he]
    rfl
  unfold stepAt tileStep
  rw [if_pos hlive, step_at]
  refine congrArg (y (ix2 r j) + ·) (Finset.sum_congr rfl fun u _ => ?_)
  have hu : half (crd (tablesOf m h) t) * 1792 + u.val < 3584 := by have := u.isLt; omega
  rw [hg u hu]
  unfold term
  simp only [hx, h1 _ _ hu, h3 _ _ hu, h2 _ hu]

/-- The two points of a tile take the two halves. -/
theorem half_pair (t t' : Fin (cfgT (tablesOf m h)).N) (he : t.val % 2 = 0) (ht : t'.val = t.val + 1) :
    half (crd (tablesOf m h) t) ≠ half (crd (tablesOf m h) t') := by
  have a0 : (crd (tablesOf m h) t 0).val = t.val / 2 := coords0 t
  have a1 : (crd (tablesOf m h) t 1).val = t.val % 2 := coords1 t
  have b0 : (crd (tablesOf m h) t' 0).val = t'.val / 2 := coords0 t'
  have b1 : (crd (tablesOf m h) t' 1).val = t'.val % 2 := coords1 t'
  unfold half
  rw [a0, a1, b0, b1]
  split_ifs <;> omega

/-- An output number of the kernel: the SwiGLU of the tile's expert below the count of valid tiles, and zero past it. -/
theorem block_at (t : Fin (cfgT (tablesOf m h)).N) (ho : t.val % 2 = 1) (r : Fin 512) (j : Fin 1024) (row : Fin 36864)
    (hrow : row.val = 512 * (t.val / 2) + r.val) :
    blockAfter (tablesOf m h) (entry m) c t (ix2 r j)
      = if ht : t.val / 2 < tiles (endsOf m 0) then ∑ u, term m c ⟨_, expertOf_lt m h _ ht⟩ row j u else (0 : EReal) := by
  unfold blockAfter
  rw [if_neg (by omega)]
  have hlt : t.val - 1 < (cfgT (tablesOf m h)).N := by have := t.isLt; omega
  have hpred : (⟨t.val - 1, hlt⟩ : Fin (cfgT (tablesOf m h)).N).val / 2 = t.val / 2 := by show (t.val - 1) / 2 = _; omega
  split_ifs with ht
  · have hp := half_lt (crd (tablesOf m h) ⟨t.val - 1, hlt⟩)
    have hq := half_lt (crd (tablesOf m h) t)
    have hpq := half_pair m h ⟨t.val - 1, hlt⟩ t (by show (t.val - 1) % 2 = 0; omega) (by show t.val = t.val - 1 + 1; omega)
    rw [step_live m h c t ht _ r j row hrow
        (fun u => term m c ⟨_, expertOf_lt m h _ ht⟩ row j ⟨half (crd (tablesOf m h) t) * 1792 + u.val, by omega⟩) (fun _ _ => rfl),
      step_live m h c ⟨t.val - 1, hlt⟩ (by rw [hpred]; exact ht) _ r j row (by rw [hpred]; exact hrow)
        (fun u => term m c ⟨_, expertOf_lt m h _ ht⟩ row j ⟨half (crd (tablesOf m h) ⟨t.val - 1, hlt⟩) * 1792 + u.val, by omega⟩)
        (fun u hu => by simp only [hpred]),
      zeros_at]
    exact sum_halves _ _ _ hp hq hpq _ _ (fun _ _ => rfl) (fun _ _ => rfl)
  · rw [step_dead m h c t (by omega), step_dead m h c ⟨t.val - 1, hlt⟩ (by rw [hpred]; omega), zeros_at]

end Cert.MoeIdeal.Experts
end
-- ==== Proof.MoeRefValue.lean ====
module
public import proofs.«01_k».proof.Proof.Gen.MoeRefIdeal.Run
public import proofs.«01_k».proof.Proof.ExpertMath
public import proofs.«01_k».proof.Proof.MoeWords
public import Idealize.ShloMosaic.Lib.StableHlo.ReadAt
/-!
# What the reference computes

An output number of the reference is, over the experts, the sum of a gate times that expert's SwiGLU of the row; the
gate of a row is one for the expert whose group the row lies in and zero for the others.
-/
@[expose] public section
set_option maxRecDepth 16384
noncomputable section
namespace Cert.MoeRefIdeal.Experts
open Cert.MoeRefIdeal Cert.MoeRefIdeal.Gen Cert.MoeRefIdeal.Value Cert.ExpertMath Cert.MoeWords Idealize.ShloMosaic.StableHlo.Predicate
open Idealize.ShloMosaic
open Idealize.ShloMosaic.TcCoe Idealize.ShloMosaic.Tactic

/-- Expert `e`'s output at row `r`, column `j`, from the arguments. -/
def expertOut (x : FVec Ideal S36864x1024 .f32) (w1 w3 : FVec Ideal S1x8x1024x3584 .f32) (w2 : FVec Ideal S1x8x3584x1024 .f32) (e : Fin 8) (r : Fin 36864) (j : Fin 1024) : EReal :=
  swigluAt (fun k => x (ix2 r k)) (fun k u => w1 (ix4 0 e k u)) (fun k u => w3 (ix4 0 e k u)) (fun u => w2 (ix4 0 e u j))

variable (V0 : Valuation τ sig (Elt Ideal))

abbrev outAt (e : Fin 8) (r : Fin 36864) (j : Fin 1024) : EReal :=
  expertOut (V0 (Proc.devRef .tc main_arg1)) (V0 (Proc.devRef .tc main_arg2)) (V0 (Proc.devRef .tc main_arg3)) (V0 (Proc.devRef .tc main_arg4)) e r j

/-- The gates as numbers. -/
def gate (r : Fin 36864) (e : Fin 8) : EReal := res_main_v8 V0 (ix2 r e)

theorem sum_at (r : Fin 36864) (j : Fin 1024) :
    val3 V0 (Proc.devRef .tc main_v129) (ix2 r j)
      = 0 + gate V0 r 0 * outAt V0 0 r j + gate V0 r 1 * outAt V0 1 r j + gate V0 r 2 * outAt V0 2 r j + gate V0 r 3 * outAt V0 3 r j
          + gate V0 r 4 * outAt V0 4 r j + gate V0 r 5 * outAt V0 5 r j + gate V0 r 6 * outAt V0 6 r j + gate V0 r 7 * outAt V0 7 r j := by
  rw [val3_main_v129]
  pointwise [res_main_v84, res_main_v17, res_main_v32, res_main_v47, res_main_v62, res_main_v77, res_main_v92, res_main_v107, res_main_v122]
  rfl

/-- Which of the rows and groups compare: the row is at or past the group's end. -/
def endedRows (E : Fin 8 → BitVec 32) : IVec S36864x8 1 := fun y => IntOp.cmpi .sge (BitVec.ofNat 32 (y 0).val) (E (y 1))

theorem gate_word (r : Fin 36864) (e : Fin 8) :
    gate V0 r e = FloatOps.uitofp (F := Ideal) .f32 (IntOp.cmpi .eq
      (Host.reduce IntOp.addi (extui 32 (endedRows fun g => V0 (Proc.devRef .tc main_arg0) (ix1 g)) natLt_1_32) (constantI S_ 32 0#32) reducesTo_S36864x8_S36864_d1 h_S_ (ix1 r)) (BitVec.ofNat 32 e.val)) := by
  unfold gate res_main_v8
  pointwise
  rfl

theorem ended_iff (E : Fin 8 → BitVec 32) (r : Fin 36864) (q : Fin 8) : endedRows E (ij (n := 36864) (m := 8) r q) = 1#1 ↔ (E q).toInt ≤ (r.val : ℤ) :=
  sge_row (by show (BitVec.ofNat 32 r.val).toNat = r.val; rw [BitVec.toNat_ofNat]; omega) (by omega)

theorem card_ended (E : Fin 8 → BitVec 32) (r : Fin 36864) :
    (Finset.univ.filter fun q : Fin 8 => endedRows E (ij (n := 36864) (m := 8) r q) = 1#1).card = MoeWords.count E (r.val : ℤ) :=
  congrArg Finset.card (Finset.filter_congr fun q _ => ended_iff E r q)

theorem gate_eq (r : Fin 36864) (e : Fin 8) :
    gate V0 r e = if MoeWords.count (fun g => V0 (Proc.devRef .tc main_arg0) (ix1 g)) (r.val : ℤ) = e.val then 1 else 0 := by
  have hc := toNat_reduce_count_cols (n := 36864) (m := 8) (by decide) (endedRows fun g => V0 (Proc.devRef .tc main_arg0) (ix1 g)) natLt_1_32 reducesTo_S36864x8_S36864_d1 h_S_ (ix1 r)
  have hn := card_ended (fun g => V0 (Proc.devRef .tc main_arg0) (ix1 g)) r
  rw [gate_word]
  generalize Host.reduce IntOp.addi _ _ _ _ _ = w at hc ⊢
  have hw : w.toNat = MoeWords.count (fun g => V0 (Proc.devRef .tc main_arg0) (ix1 g)) (r.val : ℤ) := hc.trans hn
  have he : (BitVec.ofNat 32 e.val).toNat = e.val := by rw [BitVec.toNat_ofNat]; omega
  show (((IntOp.cmpi .eq w (BitVec.ofNat 32 e.val)).toNat : ℕ) : EReal) = _
  by_cases h : w = BitVec.ofNat 32 e.val
  · rw [if_pos (by rw [← hw, h, he]), h]
    simp [IntOp.cmpi]
  · rw [if_neg (fun hh => h (BitVec.eq_of_toNat_eq (by rw [hw, hh, he])))]
    simp [IntOp.cmpi, h]

/-- An output number of the reference: the output of the expert whose group the row lies in, and zero past the last group. -/
theorem out_at (r : Fin 36864) (j : Fin 1024) :
    val3 V0 (Proc.devRef .tc main_v129) (ix2 r j)
      = if h : MoeWords.count (fun g => V0 (Proc.devRef .tc main_arg0) (ix1 g)) (r.val : ℤ) < 8 then outAt V0 ⟨_, h⟩ r j else 0 :=
  (sum_at V0 r j).trans (pick _ (fun e => outAt V0 e r j) (gate V0 r) (gate_eq V0 r))

end Cert.MoeRefIdeal.Experts
end
-- ==== Proof.MoeClaims.lean ====
module
public import proofs.«01_k».proof.Defs
public import proofs.«01_k».proof.Proof.Gen.Moe
public import proofs.«01_k».proof.Proof.MoeSame
public import proofs.«01_k».proof.Proof.MoeAlgebra
public import proofs.«01_k».proof.Proof.MoeRefValue
public import Idealize.ShloMosaic.Adequacy
public import Idealize.ShloMosaic.Init
/-!
# The claims about the experts' kernel

Both frames are the one run of the kernel, read at the arguments. The value claim: below the last group's end both
sides are the SwiGLU of the row's expert, past it both are zero.
-/
@[expose] public section
set_option maxRecDepth 16384
noncomputable section
namespace Cert.MoeIdeal.Experts
open Cert.MoeIdeal Cert.MoeIdeal.Gen Cert.ExpertMath
open Idealize.ShloMosaic Idealize.SL.Sem
open Idealize.ShloMosaic.TcCoe Idealize.ShloMosaic.Tactic
open Cert.MoeWords

theorem rest_arg0 : main_arg0 ∈ Pipeline.restRefs sig spec0 := Pipeline.mem_restRefs_of main_arg0 rfl (by decide)
theorem rest_arg2 : main_arg2 ∈ Pipeline.restRefs sig spec0 := Pipeline.mem_restRefs_of main_arg2 rfl (by decide)
theorem rest_arg3 : main_arg3 ∈ Pipeline.restRefs sig spec0 := Pipeline.mem_restRefs_of main_arg3 rfl (by decide)
theorem rest_arg4 : main_arg4 ∈ Pipeline.restRefs sig spec0 := Pipeline.mem_restRefs_of main_arg4 rfl (by decide)

section Run
variable {F : FTy → Type} [FloatOps F]
variable (m : (ℓ : Loc nD τ sig) → Buf (Elt F) ℓ) (ρ : Dev nD → PrngReg)

/-- The kernel's run, read at the output and at the arguments. -/
theorem run_read (h : ∀ c, Ends (endsOf m c)) :
    θ_run (defs (F := F)) (onTc (τ := τ) (main (F := F))) ⟨m, fun _ => 0, ρ⟩ fun r =>
      (∀ c : Dev nD, r.2.mem ((c.tc : Thread nD τ).loc main_v25) = (dats (tablesOf m h) (entry m) 0 c).arrAt (4 : Fin 5) (cfgT (tablesOf m h)).N
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
      ∧ r.2.sem = fun _ => 0 :=
  (θ_run (defs (F := F)) _ _).mono (fun r hr => ⟨fun c => ⟨(hr.1 c).1 (4 : Fin 5),
      ((hr.1 c).2 main_arg0 rest_arg0).trans (entry_arg0 m c),
      ((hr.1 c).1 (0 : Fin 5)).trans (((dats (tablesOf m h) (entry m) 0 c).arrAt_in (0 : Fin 5) rfl _).trans (entry_arg1 m c)),
      ((hr.1 c).2 main_arg2 rest_arg2).trans (entry_arg2 m c),
      ((hr.1 c).2 main_arg3 rest_arg3).trans (entry_arg3 m c),
      ((hr.1 c).2 main_arg4 rest_arg4).trans (entry_arg4 m c)⟩, hr.2⟩)
    (run (tablesOf m h) m ρ (tablesOf_eq m h))

/-- The run at the arguments alone. -/
theorem run_args (h : ∀ c, Ends (endsOf m c)) :
    θ_run (defs (F := F)) (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
      ∧ r.2.sem = fun _ => 0 :=
  (θ_run (defs (F := F)) _ _).mono (fun _ hr => ⟨fun c => (hr.1 c).2, hr.2⟩) (run_read m ρ h)

end Run

theorem frame_moe : Cert.quiescent_Moe := fun m ρ hp => by
  rw [Cert.MoeSame.defs_eq, Cert.MoeSame.main_eq]
  exact run_args (F := Bits) m ρ fun c => ends_of_pre m (hp c)

theorem frame_moe_ideal : Cert.quiescent_MoeIdeal := fun m ρ hp => run_args (F := Ideal) m ρ fun c => ends_of_pre m (hp c)

theorem frame_moe_ref : Cert.quiescent_MoeRefIdeal := fun m ρ _ =>
  (θ_run Cert.MoeRefIdeal.defs _ _).mono (fun r h => ⟨fun c => (h c).2, sem_eq_zero_of_no_sems (by decide) r.2⟩)
    (Cert.MoeRefIdeal.Value.run (F := Ideal) m ρ)

/-- The kernel's array and the reference's are equal, number by number. -/
theorem value_eq (m : (ℓ : Loc nD τ sig) → Buf (Elt Ideal) ℓ) (h : ∀ c, Ends (endsOf m c)) (c : Dev nD)
    (V0 : Valuation Cert.MoeRefIdeal.τ Cert.MoeRefIdeal.sig (Elt Ideal))
    (e0 : V0 (Proc.devRef .tc Cert.MoeRefIdeal.main_arg0) = m (c, Proc.tc.devRef main_arg0))
    (e1 : V0 (Proc.devRef .tc Cert.MoeRefIdeal.main_arg1) = m (c, Proc.tc.devRef main_arg1))
    (e2 : V0 (Proc.devRef .tc Cert.MoeRefIdeal.main_arg2) = m (c, Proc.tc.devRef main_arg2))
    (e3 : V0 (Proc.devRef .tc Cert.MoeRefIdeal.main_arg3) = m (c, Proc.tc.devRef main_arg3))
    (e4 : V0 (Proc.devRef .tc Cert.MoeRefIdeal.main_arg4) = m (c, Proc.tc.devRef main_arg4)) (r : Fin 36864) (j : Fin 1024) :
    Cert.MoeRefIdeal.Value.val3 V0 (Proc.devRef .tc Cert.MoeRefIdeal.main_v129) (ix2 r j)
      = (dats (tablesOf m h) (entry m) 0 c).arrAt (4 : Fin 5) (cfgT (tablesOf m h)).N (ix2 r j) := by
  have hE : (fun g => V0 (Proc.devRef .tc Cert.MoeRefIdeal.main_arg0) (ix1 g)) = endsOf m 0 := by
    rw [← ends_dev m c]; exact funext fun g => congrFun e0 (ix1 g)
  have hl : (lastOf (tablesOf m h) (ix2 r j)).val / 2 = r.val / 512 := by
    show (2 * (r.val / 512) + 1) / 2 = _; omega
  have hs := (tiles_spec (h 0)).1
  rw [Cert.MoeRefIdeal.Experts.out_at, final]
  refine Eq.trans ?_ (block_at m h c (lastOf (tablesOf m h) (ix2 r j)) (by show (2 * (r.val / 512) + 1) % 2 = 1; omega) ⟨r.val % 512, Nat.mod_lt _ (by omega)⟩ j r (by
    rw [hl]; show r.val = 512 * (r.val / 512) + r.val % 512; omega)).symm
  by_cases ht : r.val / 512 < tiles (endsOf m 0)
  · have hc : MoeWords.count (endsOf m 0) (r.val : ℤ) = expertOf m (r.val / 512) := by
      rw [show ((r.val : ℕ) : ℤ) = ((512 * (r.val / 512) + r.val % 512 : ℕ) : ℤ) by omega]
      exact count_tile (h 0) _ _ (Nat.mod_lt _ (by omega))
    have h8 := expertOf_lt m h _ ht
    rw [dif_pos (by rw [hE, hc]; exact h8), dif_pos (by rw [hl]; exact ht)]
    unfold Cert.MoeRefIdeal.Experts.outAt Cert.MoeRefIdeal.Experts.expertOut swigluAt term
    simp only [e1, e2, e3, e4, hE, hc, hl]
  · rw [dif_neg (by rw [hE, count_dead (h 0) (by omega)]; omega), dif_neg (by rw [hl]; exact ht)]

theorem algebraic_moe : Cert.algebraic_MoeIdeal_MoeRefIdeal := fun m ρ m' ρ' hp hagree => by
  have h : ∀ c, Ends (endsOf m c) := fun c => ends_of_pre m (hp c)
  refine ⟨fun c => (dats (tablesOf m h) (entry m) 0 c).arrAt (4 : Fin 5) (cfgT (tablesOf m h)).N,
    (θ_run (Cert.MoeIdeal.defs (F := Ideal)) _ _).mono (fun _ hr c => hr.1 c) (run_read (F := Ideal) m ρ h),
    (θ_run Cert.MoeRefIdeal.defs _ _).mono (fun r hr c => ⟨((hr c).1.trans (Cert.MoeRefIdeal.Value.val3_main_v129 _).symm).trans ?_, (hr c).2⟩)
      (Cert.MoeRefIdeal.Value.run (F := Ideal) m' ρ')⟩
  obtain ⟨e0, e1, e2, e3, e4⟩ := hagree c
  refine funext fun y => ?_
  obtain ⟨i, j, rfl⟩ : ∃ (i : Fin 36864) (j : Fin 1024), y = ix2 i j := ⟨y 0, y 1, (ix2_eta y).symm⟩
  exact value_eq m h c _ e0 e1 e2 e3 e4 i j

end Cert.MoeIdeal.Experts
end
-- ==== Proof.FfnBody.lean ====
module
public import proofs.«01_k».proof.Proof.Gen.FfnIdeal.Value
public import proofs.«01_k».proof.Proof.ExpertMath
public import Idealize.ShloMosaic.Lib.Pipeline.ReadBack
public import Idealize.ShloMosaic.Lib.Pipeline.ValueKit
/-!
# What a point of the dense network's kernel does to its block, in exact arithmetic

The body keeps the normalised rows in a scratch. At a tile's first point it fills the scratch and starts the block at the
rows themselves; at either point it adds the SwiGLU of the scratch over that point's half of the hidden units, in two
groups of 512 rows.
-/
@[expose] public section
set_option maxRecDepth 16384
noncomputable section
namespace Cert.FfnIdeal.Dense
open Cert.FfnIdeal Cert.FfnIdeal.Gen Cert.ExpertMath
open Idealize.ShloMosaic
open Idealize.ShloMosaic.TcCoe Idealize.ShloMosaic.Tactic

/-- A block with the SwiGLU of the rows `h` added. -/
def step (h : Vec Ideal S1024x1024 .bf16) (w1 w3 : Vec Ideal S1024x1408 .bf16) (w2 : Vec Ideal S1408x1024 .bf16) (y : Vec Ideal S1024x1024 .f32) : Vec Ideal S1024x1024 .f32 :=
  fun i => (y i : EReal) + swigluAt (fun k : Fin 1024 => h (ix2 (i 0) k)) (fun k (u : Fin 1408) => w1 (ix2 k u)) (fun k u => w3 (ix2 k u)) (fun u => w2 (ix2 u (i 1)))

theorem low_at (h : Vec Ideal S512x1024 .bf16) (w1 w3 : Vec Ideal S1024x1408 .bf16) (y : Vec Ideal S512x1024 .f32) (w2 : Vec Ideal S1408x1024 .bf16) (r : Fin 512) (j : Fin 1024) :
    k0_pay3 h w1 w3 y w2 (ix2 r j)
      = (y (ix2 r j) : EReal) + swigluAt (fun k : Fin 1024 => h (ix2 r k)) (fun k (u : Fin 1408) => w1 (ix2 k u)) (fun k u => w3 (ix2 k u)) (fun u => w2 (ix2 u j)) := by
  pointwise [k0_pay3]
  simp only [zero_sub]
  rfl

theorem high_at (h : Vec Ideal S512x1024 .bf16) (w1 w3 : Vec Ideal S1024x1408 .bf16) (y : Vec Ideal S512x1024 .f32) (w2 : Vec Ideal S1408x1024 .bf16) (r : Fin 512) (j : Fin 1024) :
    k0_pay1 h (k0_pay4 h w1) w3 y w2 (ix2 r j)
      = (y (ix2 r j) : EReal) + swigluAt (fun k : Fin 1024 => h (ix2 r k)) (fun k (u : Fin 1408) => w1 (ix2 k u)) (fun k u => w3 (ix2 k u)) (fun u => w2 (ix2 u j)) := by
  pointwise [k0_pay1, k0_pay4]
  simp only [zero_sub]
  rfl

/-- A row of the first 512, or of the second, of a buffer of 1024 rows. -/
theorem ld_low {e : EltTy} (X : Vec Ideal S1024x1024 e) (inb) (r : Fin 512) (k : Fin 1024) (h : 0 + r.val < 1024) :
    View.ld X (Rect.unit (s := S1024x1024) ![0, 0] S512x1024.size inb) (ix2 r k) = X (ix2 ⟨0 + r.val, h⟩ k) :=
  congrArg X (funext fun d => Fin.ext (by match d with | ⟨0, _⟩ => exact congrArg (0 + ·) (Nat.one_mul _) | ⟨1, _⟩ => exact (Nat.zero_add _).trans (Nat.one_mul _)))
theorem ld_high {e : EltTy} (X : Vec Ideal S1024x1024 e) (inb) (r : Fin 512) (k : Fin 1024) (h : 512 + r.val < 1024) :
    View.ld X (Rect.unit (s := S1024x1024) ![512, 0] S512x1024.size inb) (ix2 r k) = X (ix2 ⟨512 + r.val, h⟩ k) :=
  congrArg X (funext fun d => Fin.ext (by match d with | ⟨0, _⟩ => exact congrArg (512 + ·) (Nat.one_mul _) | ⟨1, _⟩ => exact (Nat.zero_add _).trans (Nat.one_mul _)))

abbrev inHigh := inb_S1024x1024_S512x1024_512_0
abbrev inLow := inb_S1024x1024_S512x1024_0_0

/-- The two groups of rows, as the body stores them: the second one last. -/
abbrev groups (h : Vec Ideal S1024x1024 .bf16) (w1 w3 : Vec Ideal S1024x1408 .bf16) (w2 : Vec Ideal S1408x1024 .bf16) (y : Vec Ideal S1024x1024 .f32) : List (View.Piece (Elt Ideal) S1024x1024 .f32) :=
  [⟨Rect.unit ![512, 0] S512x1024.size inHigh, k0_pay1 (View.ld h (Rect.unit ![512, 0] S512x1024.size inHigh)) (k0_pay4 (View.ld h (Rect.unit ![512, 0] S512x1024.size inHigh)) w1) w3
      (View.ld y (Rect.unit ![512, 0] S512x1024.size inHigh)) w2⟩,
    ⟨Rect.unit ![0, 0] S512x1024.size inLow, k0_pay3 (View.ld h (Rect.unit ![0, 0] S512x1024.size inLow)) w1 w3 (View.ld y (Rect.unit ![0, 0] S512x1024.size inLow)) w2⟩]

/-- Stored over anything, they are one step of the whole block. -/
theorem stored (h : Vec Ideal S1024x1024 .bf16) (w1 w3 : Vec Ideal S1024x1408 .bf16) (w2 : Vec Ideal S1408x1024 .bf16) (y : Vec Ideal S1024x1024 .f32)
    (L : List (View.Piece (Elt Ideal) S1024x1024 .f32)) : View.canon (groups h w1 w3 w2 y ++ L) = step h w1 w3 w2 y := by
  funext z
  refine View.canon_append_of_piecesOf (step h w1 w3 w2 y) L (groups h w1 w3 w2 y) ⟨fun x => ?_, fun x => ?_, trivial⟩ z (View.cover_of_tiledL (groups h w1 w3 w2 y) S512x1024.size (by sl_kernel_rfl) z)
  · obtain ⟨r, j, rfl⟩ : ∃ (r : Fin 512) (j : Fin 1024), x = ix2 r j := ⟨x 0, x 1, (ix2_eta x).symm⟩
    refine (high_at ..).trans ((congrArg₂ (fun (a : EReal) (f : Fin 1024 → EReal) => a + swigluAt f (fun k (u : Fin 1408) => w1 (ix2 k u)) (fun k u => w3 (ix2 k u)) (fun u => w2 (ix2 u j)))
      (ld_high y _ r j (by omega)) (funext fun k => ld_high h _ r k (by omega))).trans ?_)
    rw [show (Rect.unit (s := S1024x1024) ![512, 0] S512x1024.size inHigh).emb (ix2 r j) = ix2 ⟨512 + r.val, by omega⟩ j from
      funext fun d => Fin.ext (by match d with | ⟨0, _⟩ => exact congrArg (512 + ·) (Nat.one_mul _) | ⟨1, _⟩ => exact (Nat.zero_add _).trans (Nat.one_mul _))]
    rfl
  · obtain ⟨r, j, rfl⟩ : ∃ (r : Fin 512) (j : Fin 1024), x = ix2 r j := ⟨x 0, x 1, (ix2_eta x).symm⟩
    refine (low_at ..).trans ((congrArg₂ (fun (a : EReal) (f : Fin 1024 → EReal) => a + swigluAt f (fun k (u : Fin 1408) => w1 (ix2 k u)) (fun k u => w3 (ix2 k u)) (fun u => w2 (ix2 u j)))
      (ld_low y _ r j (by omega)) (funext fun k => ld_low h _ r k (by omega))).trans ?_)
    rw [show (Rect.unit (s := S1024x1024) ![0, 0] S512x1024.size inLow).emb (ix2 r j) = ix2 ⟨0 + r.val, by omega⟩ j from
      funext fun d => Fin.ext (by match d with | ⟨0, _⟩ => exact congrArg (0 + ·) (Nat.one_mul _) | ⟨1, _⟩ => exact (Nat.zero_add _).trans (Nat.one_mul _))]
    rfl

section Point
variable (c : Dev nD) (i : grid0.Coords) (arg2 : Memref sig .tc .vmem S1024x1024 .f32) (harg2 : arg2.IsWhole) (arg3 : Memref sig .tc .vmem S1x1024 .f32) (harg3 : arg3.IsWhole)
  (arg4 : Memref sig .tc .vmem S1024x1408 .bf16) (harg4 : arg4.IsWhole) (arg5 : Memref sig .tc .vmem S1024x1408 .bf16) (harg5 : arg5.IsWhole)
  (arg6 : Memref sig .tc .vmem S1408x1024 .bf16) (harg6 : arg6.IsWhole) (arg7 : Memref sig .tc .vmem S1024x1024 .f32) (harg7 : arg7.IsWhole)
  (arg8 : Memref sig .tc .vmem S1024x1024 .bf16) (harg8 : arg8.IsWhole)
  (x0 : Vec Ideal S1024x1024 .f32) (x1 : Vec Ideal S1x1024 .f32) (x2 x3 : Vec Ideal S1024x1408 .bf16) (x4 : Vec Ideal S1408x1024 .bf16)

theorem scratch_first (hc0 : cond0_0 i) :
    sout0_A_0 c i arg2 harg2 arg3 harg3 arg4 harg4 arg5 harg5 arg6 harg6 arg7 harg7 arg8 harg8 hc0 x0 x1 x2 x3 x4 = k0_pay2 x0 x1 := by
  frame_out

theorem block_second (hc0 : ¬cond0_0 i) (x5 : Vec Ideal S1024x1024 .f32) (x6 : Vec Ideal S1024x1024 .bf16) :
    out0_B_5 c i arg2 harg2 arg3 harg3 arg4 harg4 arg5 harg5 arg6 harg6 arg7 harg7 arg8 harg8 hc0 x0 x1 x2 x3 x4 x5 x6 = step x6 x2 x3 x4 x5 := by
  frame_out
  exact stored x6 x2 x3 x4 x5 []

theorem block_first (hc0 : cond0_0 i) :
    out0_A_5 c i arg2 harg2 arg3 harg3 arg4 harg4 arg5 harg5 arg6 harg6 arg7 harg7 arg8 harg8 hc0 x0 x1 x2 x3 x4 = step (k0_pay2 x0 x1) x2 x3 x4 x0 := by
  frame_open
  simp (disch := decide) only [↓ View.readCov_skip, ↓ View.readCov_cons_toLoadRect, ↓ View.readCov_fill]
  frame_out
  exact stored (k0_pay2 x0 x1) x2 x3 x4 x0 [_]
end Point

end Cert.FfnIdeal.Dense
end
-- ==== Proof.FfnValue.lean ====
module
public import proofs.«01_k».proof.Proof.FfnBody
public import Idealize.ShloMosaic.Lib.StableHlo.ReadAt
/-!
# The array the dense network's kernel leaves, in exact arithmetic

A tile of 1024 rows is written back at its second point. By then the block holds the rows plus the SwiGLU of the
normalised rows over both halves of the hidden units.
-/
@[expose] public section
set_option maxRecDepth 16384
noncomputable section
namespace Cert.FfnIdeal.Dense
open Cert.FfnIdeal Cert.FfnIdeal.Gen Cert.ExpertMath
open Idealize.ShloMosaic
open Idealize.ShloMosaic.TcCoe Idealize.ShloMosaic.Tactic

theorem normed_at (x : Vec Ideal S1024x1024 .f32) (g : Vec Ideal S1x1024 .f32) (r : Fin 1024) (k : Fin 1024) :
    k0_pay2 x g (ix2 r k) = normed (fun k => x (ix2 r k)) (fun k => g (ix2 0 k)) k := by
  pointwise [k0_pay2]
  rfl

variable (m : (ℓ : Loc nD τ sig) → Buf (Elt Ideal) ℓ) (c : Dev nD)

/-! ## The blocks a point reads -/

theorem index0 : ∀ t : Fin grid0.N, win0_0.index t = ![t.val / 2, 0] := by decide +kernel
theorem index1 : ∀ t : Fin grid0.N, win0_1.index t = ![0, 0] := by decide +kernel
theorem index2 : ∀ t : Fin grid0.N, win0_2.index t = ![0, t.val % 2] := by decide +kernel
theorem index3 : ∀ t : Fin grid0.N, win0_3.index t = ![0, t.val % 2] := by decide +kernel
theorem index4 : ∀ t : Fin grid0.N, win0_4.index t = ![t.val % 2, 0] := by decide +kernel
theorem index5 : ∀ t : Fin grid0.N, win0_5.index t = ![t.val / 2, 0] := by decide +kernel

theorem gain_at (y : S1x1024.Idx) : V m c main_v0 y = m ((c.tc : Thread nD τ).loc main_arg1) (ix1 (y 1)) := by
  after_reads_at
theorem w1_at (y : S1024x2816.Idx) : V m c main_v2 y = m ((c.tc : Thread nD τ).loc main_arg2) (ix3 0 (y 0) (y 1)) := by
  after_reads_at
theorem w3_at (y : S1024x2816.Idx) : V m c main_v4 y = m ((c.tc : Thread nD τ).loc main_arg3) (ix3 0 (y 0) (y 1)) := by
  after_reads_at
theorem w2_at (y : S2816x1024.Idx) : V m c main_v6 y = m ((c.tc : Thread nD τ).loc main_arg4) (ix3 0 (y 0) (y 1)) := by
  after_reads_at

variable (t : Fin cfg0.N)

theorem rows_at (r k : Fin 1024) (h : t.val / 2 * 1024 + r.val < 16384) :
    iblk m c 0 t (ix2 r k) = m ((c.tc : Thread nD τ).loc main_arg0) (ix2 ⟨t.val / 2 * 1024 + r.val, h⟩ k) := by
  refine Eq.trans (congrArg (V m c main_arg0) (?_ : _ = ix2 ⟨t.val / 2 * 1024 + r.val, h⟩ k)) (congrFun (V_main_arg0 m c) _)
  refine funext fun d => Fin.ext ((Pipeline.Window.rect_emb_val win0_0 t (ix2 r k) d rfl).trans ?_)
  rw [index0]
  match d with
  | ⟨0, _⟩ => rfl
  | ⟨1, _⟩ => exact Nat.zero_add _
theorem gainblk_at (k : Fin 1024) : iblk m c 1 t (ix2 0 k) = m ((c.tc : Thread nD τ).loc main_arg1) (ix1 k) := by
  refine Eq.trans (congrArg (V m c main_v0) (?_ : _ = ix2 0 k)) (gain_at m c _)
  refine funext fun d => Fin.ext ((Pipeline.Window.rect_emb_val win0_1 t (ix2 0 k) d rfl).trans ?_)
  rw [index1]
  match d with
  | ⟨0, _⟩ => rfl
  | ⟨1, _⟩ => exact Nat.zero_add _
theorem w1blk_at (k : Fin 1024) (u : Fin 1408) (h : t.val % 2 * 1408 + u.val < 2816) :
    iblk m c 2 t (ix2 k u) = m ((c.tc : Thread nD τ).loc main_arg2) (ix3 0 k ⟨t.val % 2 * 1408 + u.val, h⟩) := by
  refine Eq.trans (congrArg (V m c main_v2) (?_ : _ = ix2 k ⟨t.val % 2 * 1408 + u.val, h⟩)) (w1_at m c _)
  refine funext fun d => Fin.ext ((Pipeline.Window.rect_emb_val win0_2 t (ix2 k u) d rfl).trans ?_)
  rw [index2]
  match d with
  | ⟨0, _⟩ => exact Nat.zero_add _
  | ⟨1, _⟩ => rfl
theorem w3blk_at (k : Fin 1024) (u : Fin 1408) (h : t.val % 2 * 1408 + u.val < 2816) :
    iblk m c 3 t (ix2 k u) = m ((c.tc : Thread nD τ).loc main_arg3) (ix3 0 k ⟨t.val % 2 * 1408 + u.val, h⟩) := by
  refine Eq.trans (congrArg (V m c main_v4) (?_ : _ = ix2 k ⟨t.val % 2 * 1408 + u.val, h⟩)) (w3_at m c _)
  refine funext fun d => Fin.ext ((Pipeline.Window.rect_emb_val win0_3 t (ix2 k u) d rfl).trans ?_)
  rw [index3]
  match d with
  | ⟨0, _⟩ => exact Nat.zero_add _
  | ⟨1, _⟩ => rfl
theorem w2blk_at (u : Fin 1408) (j : Fin 1024) (h : t.val % 2 * 1408 + u.val < 2816) :
    iblk m c 4 t (ix2 u j) = m ((c.tc : Thread nD τ).loc main_arg4) (ix3 0 ⟨t.val % 2 * 1408 + u.val, h⟩ j) := by
  refine Eq.trans (congrArg (V m c main_v6) (?_ : _ = ix2 ⟨t.val % 2 * 1408 + u.val, h⟩ j)) (w2_at m c _)
  refine funext fun d => Fin.ext ((Pipeline.Window.rect_emb_val win0_4 t (ix2 u j) d rfl).trans ?_)
  rw [index4]
  match d with
  | ⟨0, _⟩ => rfl
  | ⟨1, _⟩ => exact Nat.zero_add _

/-! ## The two points of a tile -/

/-- The normalised row. -/
def rowOf (i : Fin 16384) : Fin 1024 → EReal := normed (fun k => m ((c.tc : Thread nD τ).loc main_arg0) (ix2 i k)) fun k => m ((c.tc : Thread nD τ).loc main_arg1) (ix1 k)

/-- One hidden unit of a row, weighted for a column. -/
def term (i : Fin 16384) (j : Fin 1024) (u : Fin 2816) : EReal :=
  unit (rowOf m c i) (fun k => m ((c.tc : Thread nD τ).loc main_arg2) (ix3 0 k u)) (fun k => m ((c.tc : Thread nD τ).loc main_arg3) (ix3 0 k u)) * m ((c.tc : Thread nD τ).loc main_arg4) (ix3 0 u j)

/-- A number of the input. -/
abbrev rowAt (i : Fin 16384) (j : Fin 1024) : EReal := m ((c.tc : Thread nD τ).loc main_arg0) (ix2 i j)

/-- One point: the terms of its half are added. -/
theorem step_terms (h : Vec Ideal S1024x1024 .bf16) (y : Vec Ideal S1024x1024 .f32) (r j : Fin 1024) (i : Fin 16384) (hrow : (fun k => h (ix2 r k)) = rowOf m c i) :
    step h (iblk m c 2 t) (iblk m c 3 t) (iblk m c 4 t) y (ix2 r j)
      = (y (ix2 r j) : EReal) + ∑ u : Fin 1408, term m c i j ⟨t.val % 2 * 1408 + u.val, by omega⟩ := by
  refine congrArg (y (ix2 r j) + ·) (Finset.sum_congr rfl fun u _ => ?_)
  have hu : t.val % 2 * 1408 + u.val < 2816 := by omega
  refine congrArg₂ (· * ·) ?_ (w2blk_at m c t u j hu)
  have e1 : (fun k => iblk m c 2 t (ix2 k u)) = _ := funext fun k => w1blk_at m c t k u hu
  have e3 : (fun k => iblk m c 3 t (ix2 k u)) = _ := funext fun k => w3blk_at m c t k u hu
  show unit (fun k => h (ix2 r k)) (fun k => iblk m c 2 t (ix2 k u)) (fun k => iblk m c 3 t (ix2 k u)) = _
  rw [hrow, e1, e3]

theorem sum_halves' (f : Fin 2816 → EReal) :
    (∑ u : Fin 1408, f ⟨0 * 1408 + u.val, by omega⟩) + ∑ u : Fin 1408, f ⟨1 * 1408 + u.val, by omega⟩ = ∑ u, f u := by
  refine ((Fin.sum_univ_add (a := 1408) (b := 1408) f).trans ?_).symm
  congr 1 <;> refine Finset.sum_congr rfl fun u _ => congrArg f (Fin.ext ?_) <;> simp <;> omega

/-- The block at a tile's second point. -/
theorem block_at (ho : t.val % 2 = 1) (r j : Fin 1024) (i : Fin 16384) (hi : i.val = t.val / 2 * 1024 + r.val) :
    (outsAt0 m c t.val t.isLt).1 (ix2 r j) = rowAt m c i j + ∑ u, term m c i j u := by
  have hlt : t.val - 1 < cfg0.N := by have := t.isLt; omega
  obtain ⟨t', ht'⟩ : ∃ t' : Fin cfg0.N, t' = ⟨t.val - 1, hlt⟩ := ⟨_, rfl⟩
  have hv : t'.val = t.val - 1 := congrArg Fin.val ht'
  have hdiv : t'.val / 2 * 1024 + r.val = i.val := by omega
  have hrow : (fun k => k0_pay2 (F := Ideal) (iblk m c 0 t') (iblk m c 1 t') (ix2 r k)) = rowOf m c i := by
    have e0 : (fun k => iblk m c 0 t' (ix2 r k)) = fun k => m ((c.tc : Thread nD τ).loc main_arg0) (ix2 i k) := funext fun k =>
      (rows_at m c t' r k (by omega)).trans (congrArg (fun q => m ((c.tc : Thread nD τ).loc main_arg0) (ix2 q k)) (Fin.ext hdiv))
    have e1 : (fun k => iblk m c 1 t' (ix2 0 k)) = _ := funext fun k => gainblk_at m c t' k
    refine funext fun k => (normed_at _ _ r k).trans ?_
    rw [e0, e1]
    rfl
  have hA : outsAt0 m c (t.val - 1) hlt = (step (k0_pay2 (F := Ideal) (iblk m c 0 t') (iblk m c 1 t')) (iblk m c 2 t') (iblk m c 3 t') (iblk m c 4 t') (iblk m c 0 t'), k0_pay2 (F := Ideal) (iblk m c 0 t') (iblk m c 1 t')) := by
    have h := outsAt0_A m c t' (by omega)
    rw [block_first, scratch_first] at h
    subst ht'
    exact h
  rw [outsAt0_B m c t (by omega), block_second]
  rw [hA]
  refine (step_terms m c t _ _ r j i hrow).trans ?_
  dsimp only
  rw [step_terms m c t' _ _ r j i hrow, rows_at m c t' r j (by omega), add_assoc, ← sum_halves']
  have e0 : t'.val % 2 = 0 := by omega
  simp only [e0, ho]
  congr 3
  exact Fin.ext hdiv

/-! ## The array at the end -/

/-- The block a row lies in is written at the second point of the row's tile. -/
theorem final : (dats m 0 c).arrAt 5 cfg0.N = (fun y : S16384x1024.Idx => rowAt m c (y 0) (y 1) + ∑ u, term m c (y 0) (y 1) u : S16384x1024.Idx → EReal) := by
  refine (dats m 0 c).arrAt_eq_of_covers 5 _ (by decide +kernel) fun t hf y => ?_
  have hodd : t.val % 2 = 1 := (flush0_5 t).mp hf
  have e0 := (Pipeline.Window.rect_emb_val win0_5 t y 0 rfl).trans (congrArg (· * 1024 + (y 0).val) (congrFun (index5 t) 0))
  have e1 := (Pipeline.Window.rect_emb_val win0_5 t y 1 rfl).trans (congrArg (· * 1024 + (y 1).val) (congrFun (index5 t) 1))
  show (dats m 0 c).after 5 t y = _
  rw [after0_5]
  obtain ⟨r, j, rfl⟩ : ∃ (r j : Fin 1024), y = ix2 r j := ⟨y 0, y 1, (ix2_eta y).symm⟩
  refine (block_at m c t hodd r j (((cfg0.win 5).blk t).view.emb (ix2 r j) 0) e0).trans ?_
  have hj : (((cfg0.win 5).blk t).view.emb (ix2 r j) 1) = j := Fin.ext (e1.trans (Nat.zero_add _))
  show _ = rowAt m c (((cfg0.win 5).blk t).view.emb (ix2 r j) 0) (((cfg0.win 5).blk t).view.emb (ix2 r j) 1) + ∑ u, term m c _ (((cfg0.win 5).blk t).view.emb (ix2 r j) 1) u
  rw [hj]

end Cert.FfnIdeal.Dense
end
-- ==== Proof.FfnRefValue.lean ====
module
public import proofs.«01_k».proof.Proof.Gen.FfnRefIdeal.Run
public import proofs.«01_k».proof.Proof.ExpertMath
public import Idealize.ShloMosaic.Lib.StableHlo.ReadAt
/-!
# What the dense network's reference computes

A result number is the row's own plus the SwiGLU of the normalised row.
-/
@[expose] public section
set_option maxRecDepth 16384
noncomputable section
namespace Cert.FfnRefIdeal.Dense
open Cert.FfnRefIdeal Cert.FfnRefIdeal.Gen Cert.FfnRefIdeal.Value Cert.ExpertMath
open Idealize.ShloMosaic Idealize.SL.Sem
open Idealize.ShloMosaic.TcCoe Idealize.ShloMosaic.Tactic

/-- The dense network's result at row `r`, column `j`. -/
def denseAt (x : FVec Ideal S16384x1024 .f32) (g : FVec Ideal S1024 .f32) (w1 w3 : FVec Ideal S1x1024x2816 .f32) (w2 : FVec Ideal S1x2816x1024 .f32) (r : Fin 16384) (j : Fin 1024) : EReal :=
  x (ix2 r j) + swigluAt (normed (fun k => x (ix2 r k)) fun k => g (ix1 k)) (fun k u => w1 (ix3 0 k u)) (fun k u => w3 (ix3 0 k u)) (fun u => w2 (ix3 0 u j))

variable (x : FVec Ideal S16384x1024 .f32) (g : FVec Ideal S1024 .f32) (w1 w3 : FVec Ideal S1x1024x2816 .f32) (w2 : FVec Ideal S1x2816x1024 .f32)

/-- The normalised rows. -/
def rows : FVec Ideal S16384x1024 .f32 :=
  mulf (mulf x (broadcastInDim S16384x1024 ![0, 1] bcast_S16384x1_S16384x1024_0_1 (Host.rsqrt (addf (Host.divf (broadcastInDim S16384x1 ![0] bcast_S16384_S16384x1_0
    (Host.reduceAdd (mulf x x) (constant S_ .f32 0x00000000#32) reducesTo_S16384x1024_S16384_d1 h_S_)) (broadcastInDim S16384x1 ![] bcast_S_S16384x1 (constant S_ .f32 0x44800000#32)))
    (broadcastInDim S16384x1 ![] bcast_S_S16384x1 (constant S_ .f32 0x3727C5AC#32))))))
    (broadcastInDim S16384x1024 ![0, 1] bcast_S1x1024_S16384x1024_0_1 (broadcastInDim S1x1024 ![1] bcast_S1024_S1x1024_1 g))

theorem rows_at (r : Fin 16384) (k : Fin 1024) : rows x g (ix2 r k) = normed (fun k => x (ix2 r k)) (fun k => g (ix1 k)) k := by
  pointwise [rows]
  rfl

/-- A product of rows with one of the two weights into the hidden units. -/
def toHidden (h : FVec Ideal S16384x1024 .f32) (w : FVec Ideal S1x1024x2816 .f32) : FVec Ideal S16384x2816 .f32 :=
  Host.dotGeneral dot_S16384x1024_S1024x2816_S16384x2816_1_0_0_1_n_n none h (shapeCast _ w shapeCasts_S1x1024x2816_S1024x2816)

theorem toHidden_at (h : FVec Ideal S16384x1024 .f32) (w : FVec Ideal S1x1024x2816 .f32) (r : Fin 16384) (u : Fin 2816) :
    toHidden h w (ix2 r u) = ∑ k : Fin 1024, (h (ix2 r k) : EReal) * w (ix3 0 k u) := by
  pointwise [toHidden]

/-- The result from the two hidden products. -/
def fromHidden (a b : FVec Ideal S16384x2816 .f32) : FVec Ideal S16384x1024 .f32 :=
  addf x (Host.dotGeneral dot_S16384x2816_S2816x1024_S16384x1024_1_0_0_1_n_n none (mulf (mulf a (Host.divf (broadcastInDim S16384x2816 ![] bcast_S_S16384x2816 (constant S_ .f32 0x3F800000#32))
    (addf (broadcastInDim S16384x2816 ![] bcast_S_S16384x2816 (constant S_ .f32 0x3F800000#32)) (Host.exp (Host.negf a))))) b) (shapeCast _ w2 shapeCasts_S1x2816x1024_S2816x1024))

theorem dense_at (r : Fin 16384) (j : Fin 1024) : fromHidden x w2 (toHidden (rows x g) w1) (toHidden (rows x g) w3) (ix2 r j) = denseAt x g w1 w3 w2 r j := by
  have e (w : FVec Ideal S1x1024x2816 .f32) (u : Fin 2816) : toHidden (rows x g) w (ix2 r u) = ∑ k, normed (fun k => x (ix2 r k)) (fun k => g (ix1 k)) k * w (ix3 0 k u) :=
    (toHidden_at _ w r u).trans (Finset.sum_congr rfl fun k _ => congrArg (· * (w (ix3 0 k u) : EReal)) (rows_at x g r k))
  pointwise [fromHidden]
  simp only [e]
  rfl

variable (m : (ℓ : Loc nD τ sig) → Buf (Elt Ideal) ℓ) (ρ : Dev nD → PrngReg)

theorem run_at : θ_run defs (onTc (τ := τ) (main (F := Ideal))) ⟨m, fun _ => 0, ρ⟩ fun r => ∀ c : Dev nD,
      (∀ i j, r.2.mem ((c.tc : Thread nD τ).loc main_v21) (ix2 i j) = denseAt (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) i j)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨fun i j => by
      rw [(h c).1]
      exact dense_at _ _ _ _ _ i j, (h c).2⟩) (run m ρ)

end Cert.FfnRefIdeal.Dense
end
-- ==== Proof.FfnClaims.lean ====
module
public import proofs.«01_k».proof.Defs
public import proofs.«01_k».proof.Proof.Gen.Ffn.Frame
public import proofs.«01_k».proof.Proof.FfnValue
public import proofs.«01_k».proof.Proof.FfnRefValue
public import Idealize.ShloMosaic.Adequacy
public import Idealize.ShloMosaic.Init
/-!
# The claims about the dense network's kernel

On both sides a number is the input's plus the SwiGLU of its normalised row.
-/
@[expose] public section
set_option maxRecDepth 16384
noncomputable section
namespace Cert.FfnIdeal.Dense
open Cert.FfnIdeal Cert.FfnIdeal.Gen Cert.ExpertMath
open Idealize.ShloMosaic Idealize.SL.Sem
open Idealize.ShloMosaic.TcCoe Idealize.ShloMosaic.Tactic

theorem frame_ffn : Cert.quiescent_Ffn := fun m ρ _ => Cert.Ffn.Gen.frame m ρ

theorem frame_ffn_ideal : Cert.quiescent_FfnIdeal := fun m ρ _ => Cert.FfnIdeal.Gen.frame m ρ

theorem frame_ffn_ref : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

theorem algebraic_ffn : Cert.algebraic_FfnIdeal_FfnRefIdeal := fun m ρ m' ρ' _ hagree => by
  refine ⟨fun c => (dats m 0 c).arrAt 5 cfg0.N, Cert.FfnIdeal.Value.run_blocks m ρ,
    (θ_run Cert.FfnRefIdeal.defs _ _).mono (fun r hr c => ⟨?_, (hr c).2⟩) (Cert.FfnRefIdeal.Dense.run_at m' ρ')⟩
  obtain ⟨e0, e1, e2, e3, e4⟩ := hagree c
  refine funext fun y => ?_
  obtain ⟨i, j, rfl⟩ : ∃ (i : Fin 16384) (j : Fin 1024), y = ix2 i j := ⟨y 0, y 1, (ix2_eta y).symm⟩
  refine ((hr c).1 i j).trans (Eq.trans ?_ (congrFun (final m c) (ix2 i j)).symm)
  rw [e0, e1, e2, e3, e4]
  rfl

end Cert.FfnIdeal.Dense
end
-- ==== Proof.CombBody.lean ====
/-
  THE COMBINING KERNEL'S BODY at one grid point, over any float instance.

  A point has 1024 tokens. For token `k` the body reads two words and starts two copies on one semaphore: the row of the
  experts' outputs that the first word names into row `k` of the first half of a scratch, and the second word's into row `k`
  of the second half. It then waits 2048 times, and computes its block from the gathered rows. The rows that the words name
  may coincide, so each copy reads the experts' outputs at a share of its own.
-/
module

public import proofs.«01_k».proof.Proof.Gen.CombIdeal.Skeleton
public import proofs.«01_k».proof.Proof.Gen.CombIdeal.Launch
public import Idealize.ShloMosaic.Lib.Batch
public import Idealize.ShloMosaic.Lib.Ring
public import Idealize.ShloMosaic.Lib.Tactic
public import Idealize.ShloMosaic.Lib.Writes
public import Idealize.ShloMosaic.Lib.Pipeline.Routed
public import Idealize.ShloMosaic.Lib.Pipeline.FrameBody

@[expose] public section

set_option maxRecDepth 16384

noncomputable section

namespace Cert.CombIdeal.Combine

open Cert.CombIdeal Cert.CombIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

theorem trips1 : k0_t1_loop.trips = 1024 := by decide +kernel
theorem trips2 : k0_t2_loop.trips = 1024 := by decide +kernel

/-- The experts' outputs and the scratch, whole. -/
abbrev outs : Memref sig .tc .hbm S36864x1024 .f32 := Memref.whole main_arg4
abbrev rows : Memref sig .tc .vmem S2x1024x1024 .f32 := Memref.whole cc0_scratch0

/-- Row `k` of the scratch's first half and of its second. -/
def dst0 (k : Fin k0_t1_loop.trips) : Memref sig .tc .vmem S1x1024 .f32 :=
  ((rows.slice (Rect.unit (s := S2x1024x1024) ![0, 0, 0] S1x1024x1024.size inb_S2x1024x1024_S1x1024x1024_0_0_0) (fun _ => rfl)).squeeze S1024x1024 squeezes_S1x1024x1024_S1024x1024).slice
    (Rect.unit (s := S1024x1024) (k0_off2 k) S1x1024.size (k0_off2_inb k)) (fun _ => rfl)
def dst1 (k : Fin k0_t1_loop.trips) : Memref sig .tc .vmem S1x1024 .f32 :=
  ((rows.slice (Rect.unit (s := S2x1024x1024) ![1, 0, 0] S1x1024x1024.size inb_S2x1024x1024_S1x1024x1024_1_0_0) (fun _ => rfl)).squeeze S1024x1024 squeezes_S1x1024x1024_S1024x1024).slice
    (Rect.unit (s := S1024x1024) (k0_off5 k) S1x1024.size (k0_off5_inb k)) (fun _ => rfl)
/-- The row of the experts' outputs that a word names, as the first copy spells it and as the second. -/
def src0 (v : BitVec 32) (h : k0_chk1 v) : Memref sig .tc .hbm S1x1024 .f32 :=
  outs.slice (Rect.unit (s := S36864x1024) (k0_off3 v) S1x1024.size (k0_off3_inb v h)) (fun _ => rfl)
def src1 (v : BitVec 32) (h : k0_chk2 v) : Memref sig .tc .hbm S1x1024 .f32 :=
  outs.slice (Rect.unit (s := S36864x1024) (k0_off6 v) S1x1024.size (k0_off6_inb v h)) (fun _ => rfl)

/-- A buffer's contents through a memref, and the buffer held whole at them. -/
abbrev Bf {sp : Space} {S : Shape} {e : EltTy} (c : Dev nD) (M : Memref sig .tc sp S e) : Type := Buf (Elt F) (M.view.loc (c : Thread nD τ))
abbrev pt {sp : Space} {S : Shape} {e : EltTy} (c : Dev nD) (M : Memref sig .tc sp S e) (f : Bf (F := F) c M) : sProp 𝕄 := M.view.loc (c : Thread nD τ) ↦{fullShare} f

section Copies

variable (c : Dev nD) (M1 : Memref sig .tc .smem S2048 .i32) (f1 : Bf (F := F) c M1)

/-- Token `k`'s two words, as the body loads them. -/
abbrev word0 (k : Fin k0_t1_loop.trips) : BitVec 32 :=
  M1.view.readAt (Elt F) (Rect.unit (s := S2048) (k0_off1 k) S1.size (k0_off1_inb k)).toLoadRect f1 (Shape.Idx.first (numel1_S1.symm ▸ Nat.one_pos))
abbrev word1 (k : Fin k0_t1_loop.trips) : BitVec 32 :=
  M1.view.readAt (Elt F) (Rect.unit (s := S2048) (k0_off4 k) S1.size (k0_off4_inb k)).toLoadRect f1 (Shape.Idx.first (numel1_S1.symm ▸ Nat.one_pos))

/-- Every word names a row. -/
structure InRange : Prop where
  first : ∀ k, k0_chk1 (word0 c M1 f1 k)
  second : ∀ k, k0_chk2 (word1 c M1 f1 k)

variable {c M1 f1} (hok : InRange c M1 f1) (g : Bf (F := F) c rows) (y : Bf (F := F) c outs)

/-- The contents `g` of the scratch and `y` of the experts' outputs, at a row's location. -/
abbrev at0 (k : Fin k0_t1_loop.trips) : Buf (Elt F) ((dst0 k).view.loc (c : Thread nD τ)) := g
abbrev at1 (k : Fin k0_t1_loop.trips) : Buf (Elt F) ((dst1 k).view.loc (c : Thread nD τ)) := g
abbrev from0 (k : Fin k0_t1_loop.trips) : Buf (Elt F) ((src0 _ (hok.first k)).view.loc (c : Thread nD τ)) := y
abbrev from1 (k : Fin k0_t1_loop.trips) : Buf (Elt F) ((src1 _ (hok.second k)).view.loc (c : Thread nD τ)) := y

/-- The copied row, written over the scratch's row. -/
abbrev copied0 (k : Fin k0_t1_loop.trips) : Buf (Elt F) ((dst0 k).view.loc (c : Thread nD τ)) :=
  (dst0 k).view.writes (Elt F) (at0 g k) [⟨Rect.whole S1x1024, ReadAs.same.apply ((src0 _ (hok.first k)).view.read (Elt F) (from0 hok y k))⟩]
abbrev copied1 (k : Fin k0_t1_loop.trips) : Buf (Elt F) ((dst1 k).view.loc (c : Thread nD τ)) :=
  (dst1 k).view.writes (Elt F) (at1 g k) [⟨Rect.whole S1x1024, ReadAs.same.apply ((src1 _ (hok.second k)).view.read (Elt F) (from1 hok y k))⟩]

/-- A source row at its copy's share. -/
abbrev lent0 (k : Fin k0_t1_loop.trips) : sProp 𝕄 :=
  (src0 _ (hok.first k)).view.loc (c : Thread nD τ) ↦[(src0 _ (hok.first k)).view.set]{Transfers.shareTokN fullShare (2 * k.val)} from0 hok y k
abbrev lent1 (k : Fin k0_t1_loop.trips) : sProp 𝕄 :=
  (src1 _ (hok.second k)).view.loc (c : Thread nD τ) ↦[(src1 _ (hok.second k)).view.set]{Transfers.shareTokN fullShare (2 * k.val + 1)} from1 hok y k
/-- A row of the scratch before its copy, and after it. -/
abbrev free0 (k : Fin k0_t1_loop.trips) : sProp 𝕄 := (dst0 k).view.loc (c : Thread nD τ) ↦[(dst0 k).view.set]{fullShare} at0 g k
abbrev free1 (k : Fin k0_t1_loop.trips) : sProp 𝕄 := (dst1 k).view.loc (c : Thread nD τ) ↦[(dst1 k).view.set]{fullShare} at1 g k
abbrev full0 (k : Fin k0_t1_loop.trips) : sProp 𝕄 := (dst0 k).view.loc (c : Thread nD τ) ↦[(dst0 k).view.set]{fullShare} copied0 hok g y k
abbrev full1 (k : Fin k0_t1_loop.trips) : sProp 𝕄 := (dst1 k).view.loc (c : Thread nD τ) ↦[(dst1 k).view.set]{fullShare} copied1 hok g y k

/-- What token `k`'s copies deliver. -/
abbrev got0 (k : ℕ) : sProp 𝕄 := if h : k < k0_t1_loop.trips then iprop(full0 hok g y ⟨k, h⟩ ∗ lent0 hok y ⟨k, h⟩) else iprop(emp)
abbrev got1 (k : ℕ) : sProp 𝕄 := if h : k < k0_t1_loop.trips then iprop(full1 hok g y ⟨k, h⟩ ∗ lent1 hok y ⟨k, h⟩) else iprop(emp)

instance got0_storable (k : ℕ) : BI.Storable (upEmb : UEmb _ 𝕄) (got0 hok g y k) := by
  unfold got0; split <;> infer_instance
instance got1_storable (k : ℕ) : BI.Storable (upEmb : UEmb _ 𝕄) (got1 hok g y k) := by
  unfold got1; split <;> infer_instance

abbrev delivered : Fin (2 * k0_t1_loop.trips) → sProp 𝕄 := Ring.interleaved k0_t1_loop.trips (got0 hok g y) (got1 hok g y)

/-- The copies, `j` started and `u` units waited for. -/
abbrev batch (j u : ℕ) : sProp 𝕄 := Transfers.Batch countersEmb (c : Thread nD τ) (.dma cc0_scratch1.sem) () 128 (delivered hok g y) j u

/-- Before trip `k` of the first loop. -/
def startAt (k : ℕ) (_ : Unit) : sProp 𝕄 :=
  iprop(batch hok g y (2 * k) 0
    ∗ bigSep (Ring.rangeSet k0_t1_loop.trips k k0_t1_loop.trips) (free0 (c := c) g) ∗ bigSep (Ring.rangeSet k0_t1_loop.trips k k0_t1_loop.trips) (free1 (c := c) g)
    ∗ bigSep (Ring.rangeSet k0_t1_loop.trips k k0_t1_loop.trips) (lent0 hok y) ∗ bigSep (Ring.rangeSet k0_t1_loop.trips k k0_t1_loop.trips) (lent1 hok y)
    ∗ pt c M1 f1)

set_option maxHeartbeats 4000000 in
/-- One trip starts a token's two copies. -/
theorem start_step [∀ e, Nonempty (Elt F e)] (i : grid0.Coords) (h1 : M1.IsWhole) (M2 : Memref sig .tc .vmem S1024x1024 .f32) (h2 : M2.IsWhole)
    (M3 : Memref sig .tc .vmem S1024x128 .f32) (h3 : M3.IsWhole) (M4 : Memref sig .tc .vmem S1x1024 .f32) (h4 : M4.IsWhole)
    (M6 : Memref sig .tc .vmem S1024x1024 .f32) (h6 : M6.IsWhole) (k : Fin k0_t1_loop.trips) (acc : Unit) :
    startAt hok g y k acc
      ⊢ wp frame (wpE (defs₀ (F := F)) Variants.none c none) Set.univ
          (k0_t1_body i M1 h1 M2 h2 M3 h3 M4 h4 outs (Memref.isWhole_whole _) M6 h6 rows (Memref.isWhole_whole _) cc0_scratch1 k acc)
          (startAt hok g y (k.val + 1)) := by
  have hk := k.isLt
  have hc1 := hok.first k
  have hc2 := hok.second k
  unfold startAt
  rw [Ring.bigSep_rangeSet_head (Φ := free0 (c := c) g) hk hk, Ring.bigSep_rangeSet_head (Φ := free1 (c := c) g) hk hk,
    Ring.bigSep_rangeSet_head (Φ := lent0 hok y) hk hk, Ring.bigSep_rangeSet_head (Φ := lent1 hok y) hk hk,
    show 2 * (k.val + 1) = 2 * k.val + 1 + 1 by omega]
  iintro ⟨HB, ⟨HP, HPs⟩, ⟨HQ, HQs⟩, ⟨HS, HSs⟩, ⟨HT, HTs⟩, H1⟩
  dsimp only [k0_t1_body]
  sl_exec (disch := first | exact hc1 | exact hc2)
  sl_step
  isplitl [HB]; · iexact HB
  isplitl [HPs]; · iexact HPs
  isplitl [HQs]; · iexact HQs
  isplitl [HSs]; · iexact HSs
  isplitl [HTs]; · iexact HTs
  iexact H1

/-- Before trip `k` of the second loop: the copies with `2k` waited for, or after the last trip every delivery. -/
def waitAt (k : ℕ) (_ : Unit) : sProp 𝕄 :=
  iprop((∃ W, owes (c : Thread nD τ) 0 W)
    ∗ (if k < k0_t1_loop.trips then batch hok g y (2 * k0_t1_loop.trips) (2 * k * 128)
       else iprop(semVal ((c : Thread nD τ), SemLoc.dma cc0_scratch1.sem) 0 ∗ bigSep Finset.univ (delivered hok g y))))

set_option maxHeartbeats 4000000 in
/-- One trip waits twice. -/
theorem wait_step [∀ e, Nonempty (Elt F e)] (i : grid0.Coords) (h1 : M1.IsWhole) (M2 : Memref sig .tc .vmem S1024x1024 .f32) (h2 : M2.IsWhole)
    (M3 : Memref sig .tc .vmem S1024x128 .f32) (h3 : M3.IsWhole) (M4 : Memref sig .tc .vmem S1x1024 .f32) (h4 : M4.IsWhole)
    (M6 : Memref sig .tc .vmem S1024x1024 .f32) (h6 : M6.IsWhole) (k : Fin k0_t2_loop.trips) (acc : Unit) :
    waitAt hok g y k acc
      ⊢ wp frame (wpE (defs₀ (F := F)) Variants.none c none) Set.univ
          (k0_t2_body i M1 h1 M2 h2 M3 h3 M4 h4 outs (Memref.isWhole_whole _) M6 h6 rows (Memref.isWhole_whole _) cc0_scratch1 k acc)
          (waitAt hok g y (k.val + 1)) := by
  have hk : k.val < k0_t1_loop.trips := (k.isLt.trans_eq trips2).trans_eq trips1.symm
  unfold waitAt
  simp only [if_pos hk]
  rcases Nat.lt_or_ge (k.val + 1) k0_t1_loop.trips with h | h
  · simp only [if_pos h]
    iintro ⟨⟨%W, HO⟩, HB⟩
    dsimp only [k0_t2_body]
    sl_exec
    sl_step
    isplitl [HO]; · iexists _; iexact HO
    rw [show 2 * (k.val + 1) * 128 = 2 * k.val * 128 + 128 + 128 by omega]
    iexact HB
  · simp only [if_neg (Nat.not_lt.mpr h)]
    iintro ⟨⟨%W, HO⟩, HB⟩
    dsimp only [k0_t2_body]
    sl_exec
    sl_step
    isplitl [HO]; · iexists _; iexact HO
    isplitl [HB]; · iexact HB
    iexact HB_all

end Copies

end Cert.CombIdeal.Combine
-- ==== Proof.CombRows.lean ====
/-
  THE SCRATCH OF THE COMBINING KERNEL BY ROWS: where each copy's destination lies, the scratch held whole as its 2048 rows
  held apart, and the scratch's contents once every copy has landed.
-/
module

public import proofs.«01_k».proof.Proof.CombBody

@[expose] public section

set_option maxRecDepth 16384

noncomputable section

namespace Cert.CombIdeal.Combine

open Cert.CombIdeal Cert.CombIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

/-! ## Where a row lies -/

/-- The element of the scratch under element `x` of token `k`'s row. -/
abbrev row0 (k : Fin k0_t1_loop.trips) (x : S1x1024.Idx) : S2x1024x1024.Idx := (dst0 k).view.emb x
abbrev row1 (k : Fin k0_t1_loop.trips) (x : S1x1024.Idx) : S2x1024x1024.Idx := (dst1 k).view.emb x

/-- Lane `j` of a row. -/
def lane (j : Fin 1024) : S1x1024.Idx := fun a => match a with | ⟨0, _⟩ => ⟨0, Nat.one_pos⟩ | ⟨1, _⟩ => j

theorem unit_emb_val {s : Shape} (off size : Fin s.rank → Nat) (inb : ∀ a, off a + size a ≤ s.size a) (y : (Rect.unit (s := s) off size inb).shape.Idx)
    (a : Fin s.rank) : ((Rect.unit (s := s) off size inb).emb y a).val = off a + (y a).val := by
  rw [Rect.emb_apply]
  show off a + 1 * (y a).val = _
  omega

theorem row0_at (k : Fin k0_t1_loop.trips) (x : S1x1024.Idx) :
    (row0 k x 0).val = 0 ∧ (row0 k x 1).val = k.val ∧ (row0 k x 2).val = (x 1).val := by
  have hr : row0 k x = (Rect.unit (s := S2x1024x1024) ![0, 0, 0] S1x1024x1024.size inb_S2x1024x1024_S1x1024x1024_0_0_0).emb
      (Fin.cons ⟨0, Nat.one_pos⟩ ((Rect.unit (s := S1024x1024) (k0_off2 k) S1x1024.size (k0_off2_inb k)).emb x)) := by
    refine Eq.trans (b := (Rect.unit (s := S2x1024x1024) ![0, 0, 0] S1x1024x1024.size inb_S2x1024x1024_S1x1024x1024_0_0_0).emb
      (Shape.reshapeEquiv (s := S1x1024x1024) (s' := S1024x1024) (by decide) ((Rect.unit (s := S1024x1024) (k0_off2 k) S1x1024.size (k0_off2_inb k)).emb x))) rfl ?_
    exact congrArg _ (Shape.reshapeEquiv_cons_one (n := 2) (d := ![1024, 1024]) _ _)
  have h0 : (x 0).val = 0 := Nat.lt_one_iff.mp (x 0).isLt
  have hk := k0_off2_eq k
  rw [hr]
  refine ⟨?_, ?_, ?_⟩
  · exact unit_emb_val _ _ _ _ _
  · refine (unit_emb_val _ _ _ _ _).trans ?_
    show 0 + ((Rect.unit (s := S1024x1024) (k0_off2 k) S1x1024.size (k0_off2_inb k)).emb x 0).val = k.val
    rw [unit_emb_val, congrFun hk 0, h0]
    show 0 + (k.val + 0) = k.val
    omega
  · refine (unit_emb_val _ _ _ _ _).trans ?_
    show 0 + ((Rect.unit (s := S1024x1024) (k0_off2 k) S1x1024.size (k0_off2_inb k)).emb x 1).val = (x 1).val
    rw [unit_emb_val, congrFun hk 1]
    show 0 + (0 + (x 1).val) = (x 1).val
    omega

theorem row1_at (k : Fin k0_t1_loop.trips) (x : S1x1024.Idx) :
    (row1 k x 0).val = 1 ∧ (row1 k x 1).val = k.val ∧ (row1 k x 2).val = (x 1).val := by
  have hr : row1 k x = (Rect.unit (s := S2x1024x1024) ![1, 0, 0] S1x1024x1024.size inb_S2x1024x1024_S1x1024x1024_1_0_0).emb
      (Fin.cons ⟨0, Nat.one_pos⟩ ((Rect.unit (s := S1024x1024) (k0_off5 k) S1x1024.size (k0_off5_inb k)).emb x)) := by
    refine Eq.trans (b := (Rect.unit (s := S2x1024x1024) ![1, 0, 0] S1x1024x1024.size inb_S2x1024x1024_S1x1024x1024_1_0_0).emb
      (Shape.reshapeEquiv (s := S1x1024x1024) (s' := S1024x1024) (by decide) ((Rect.unit (s := S1024x1024) (k0_off5 k) S1x1024.size (k0_off5_inb k)).emb x))) rfl ?_
    exact congrArg _ (Shape.reshapeEquiv_cons_one (n := 2) (d := ![1024, 1024]) _ _)
  have h0 : (x 0).val = 0 := Nat.lt_one_iff.mp (x 0).isLt
  have hk := k0_off5_eq k
  rw [hr]
  refine ⟨?_, ?_, ?_⟩
  · exact unit_emb_val _ _ _ _ _
  · refine (unit_emb_val _ _ _ _ _).trans ?_
    show 0 + ((Rect.unit (s := S1024x1024) (k0_off5 k) S1x1024.size (k0_off5_inb k)).emb x 0).val = k.val
    rw [unit_emb_val, congrFun hk 0, h0]
    show 0 + (k.val + 0) = k.val
    omega
  · refine (unit_emb_val _ _ _ _ _).trans ?_
    show 0 + ((Rect.unit (s := S1024x1024) (k0_off5 k) S1x1024.size (k0_off5_inb k)).emb x 1).val = (x 1).val
    rw [unit_emb_val, congrFun hk 1]
    show 0 + (0 + (x 1).val) = (x 1).val
    omega

/-- The elements of the scratch that a row holds. -/
abbrev set0 (k : Fin k0_t1_loop.trips) : Finset S2x1024x1024.Idx := (dst0 k).view.set
abbrev set1 (k : Fin k0_t1_loop.trips) : Finset S2x1024x1024.Idx := (dst1 k).view.set

theorem mem_set0 (k : Fin k0_t1_loop.trips) (z : S2x1024x1024.Idx) : z ∈ set0 k ↔ (z 0).val = 0 ∧ (z 1).val = k.val := by
  constructor
  · intro hz
    obtain ⟨x, -, rfl⟩ := Finset.mem_map.mp hz
    exact ⟨(row0_at k x).1, (row0_at k x).2.1⟩
  · rintro ⟨hz0, hz1⟩
    have e : row0 k (lane (z 2)) = z := by
      obtain ⟨a0, a1, a2⟩ := row0_at k (lane (z 2))
      funext a
      match a with
      | ⟨0, _⟩ => exact Fin.ext (a0.trans hz0.symm)
      | ⟨1, _⟩ => exact Fin.ext (a1.trans hz1.symm)
      | ⟨2, _⟩ => exact Fin.ext a2
    exact e ▸ View.emb_mem_set _ _

theorem set0_disjoint (k k' : Fin k0_t1_loop.trips) (hne : k ≠ k') : Disjoint (set0 k) (set0 k') := by
  rw [Finset.disjoint_left]
  intro z hz hz'
  exact hne (Fin.ext (((mem_set0 k z).mp hz).2.symm.trans ((mem_set0 k' z).mp hz').2))

theorem mem_set1 (k : Fin k0_t1_loop.trips) (z : S2x1024x1024.Idx) : z ∈ set1 k ↔ (z 0).val = 1 ∧ (z 1).val = k.val := by
  constructor
  · intro hz
    obtain ⟨x, -, rfl⟩ := Finset.mem_map.mp hz
    exact ⟨(row1_at k x).1, (row1_at k x).2.1⟩
  · rintro ⟨hz0, hz1⟩
    have e : row1 k (lane (z 2)) = z := by
      obtain ⟨a0, a1, a2⟩ := row1_at k (lane (z 2))
      funext a
      match a with
      | ⟨0, _⟩ => exact Fin.ext (a0.trans hz0.symm)
      | ⟨1, _⟩ => exact Fin.ext (a1.trans hz1.symm)
      | ⟨2, _⟩ => exact Fin.ext a2
    exact e ▸ View.emb_mem_set _ _

theorem set1_disjoint (k k' : Fin k0_t1_loop.trips) (hne : k ≠ k') : Disjoint (set1 k) (set1 k') := by
  rw [Finset.disjoint_left]
  intro z hz hz'
  exact hne (Fin.ext (((mem_set1 k z).mp hz).2.symm.trans ((mem_set1 k' z).mp hz').2))

theorem rest_set1 : Finset.univ \ Finset.univ.biUnion set0 = Finset.univ.biUnion set1 := by
  ext z
  have hz0 : (z 0).val < 2 := (z 0).isLt
  have hz1 : (z 1).val < k0_t1_loop.trips := (z 1).isLt.trans_eq trips1.symm
  simp only [Finset.mem_sdiff, Finset.mem_biUnion, Finset.mem_univ, true_and]
  constructor
  · intro hz
    refine ⟨⟨(z 1).val, hz1⟩, (mem_set1 _ z).mpr ⟨?_, rfl⟩⟩
    by_contra h1
    exact hz ⟨⟨(z 1).val, hz1⟩, (mem_set0 _ z).mpr ⟨by omega, rfl⟩⟩
  · rintro ⟨k, hk⟩ ⟨k', hk'⟩
    have h1 := ((mem_set1 k z).mp hk).1
    have h0 := ((mem_set0 k' z).mp hk').1
    omega

/-- The scratch held whole is its rows held apart. -/
theorem rows_split (c : Dev nD) (g : Bf (F := F) c rows) :
    (pt c rows g : sProp 𝕄) = iprop(bigSep Finset.univ (free0 (c := c) g) ∗ bigSep Finset.univ (free1 (c := c) g)) := by
  have h := pointsTo_split_subset (Ix := Unit) (Name := ℕ) (U := UC sig nD τ) (Lvl := ℕ) (Val := Elt F) (ℓ := rows.view.loc (c : Thread nD τ)) (q := fullShare) (f := g) (Finset.subset_univ (Finset.univ.biUnion set0))
  refine (BI.equiv_iff.mp ⟨h.1, h.2⟩).trans ?_
  rw [rest_set1]
  exact congrArg₂ (fun A B : sProp 𝕄 => iprop(A ∗ B))
    (pointsTo_biUnion (ℓ := rows.view.loc (c : Thread nD τ)) Finset.univ set0 fun k _ k' _ hne => set0_disjoint k k' hne)
    (pointsTo_biUnion (ℓ := rows.view.loc (c : Thread nD τ)) Finset.univ set1 fun k _ k' _ hne => set1_disjoint k k' hne)

/-! ## What the copies leave -/

section Gathered

variable {c : Dev nD} {M1 : Memref sig .tc .smem S2048 .i32} {f1 : Bf (F := F) c M1} (hok : InRange c M1 f1) (g : Bf (F := F) c rows) (y : Bf (F := F) c outs)

/-- The scratch once every copy has landed: row `k` of either half is the row its word names. -/
def gathered : Bf (F := F) c rows := fun (z : S2x1024x1024.Idx) =>
  if (z 0).val = 0 then (src0 _ (hok.first ⟨(z 1).val, (z 1).isLt.trans_eq trips1.symm⟩)).view.read (Elt F) (from0 hok y ⟨(z 1).val, (z 1).isLt.trans_eq trips1.symm⟩) (lane (z 2))
  else (src1 _ (hok.second ⟨(z 1).val, (z 1).isLt.trans_eq trips1.symm⟩)).view.read (Elt F) (from1 hok y ⟨(z 1).val, (z 1).isLt.trans_eq trips1.symm⟩) (lane (z 2))

theorem copied0_eq (k : Fin k0_t1_loop.trips) : ∀ z ∈ (dst0 k).view.set, copied0 hok g y k z = gathered hok y z := by
  intro z hz
  obtain ⟨x, -, rfl⟩ := Finset.mem_map.mp hz
  obtain ⟨a0, a1, a2⟩ := row0_at k x
  have e1 : copied0 hok g y k (row0 k x) = (src0 _ (hok.first k)).view.read (Elt F) (from0 hok y k) x := by
    show (dst0 k).view.writes (Elt F) (at0 g k) [⟨Rect.whole S1x1024, _⟩] ((dst0 k).view.emb x) = _
    rw [← View.write_univ_eq_writes_whole, View.writes_nil, View.write_emb_of_mem _ _ (Finset.mem_univ x)]
    rfl
  refine e1.trans ?_
  have hk : (⟨(row0 k x 1).val, (row0 k x 1).isLt.trans_eq trips1.symm⟩ : Fin k0_t1_loop.trips) = k := Fin.ext a1
  have hx : lane (row0 k x 2) = x := by
    funext a
    match a with
    | ⟨0, _⟩ => exact Fin.ext (Nat.lt_one_iff.mp (x 0).isLt).symm
    | ⟨1, _⟩ => exact Fin.ext a2
  refine Eq.trans ?_ (if_pos a0).symm
  refine Eq.trans (b := (src0 _ (hok.first k)).view.read (Elt F) (from0 hok y k) (lane (row0 k x 2))) (congrArg _ hx.symm) ?_
  exact (congrArg (fun u : Fin k0_t1_loop.trips => (src0 _ (hok.first u)).view.read (Elt F) (from0 hok y u) (lane (row0 k x 2))) hk).symm

theorem copied1_eq (k : Fin k0_t1_loop.trips) : ∀ z ∈ (dst1 k).view.set, copied1 hok g y k z = gathered hok y z := by
  intro z hz
  obtain ⟨x, -, rfl⟩ := Finset.mem_map.mp hz
  obtain ⟨a0, a1, a2⟩ := row1_at k x
  have e1 : copied1 hok g y k (row1 k x) = (src1 _ (hok.second k)).view.read (Elt F) (from1 hok y k) x := by
    show (dst1 k).view.writes (Elt F) (at1 g k) [⟨Rect.whole S1x1024, _⟩] ((dst1 k).view.emb x) = _
    rw [← View.write_univ_eq_writes_whole, View.writes_nil, View.write_emb_of_mem _ _ (Finset.mem_univ x)]
    rfl
  refine e1.trans ?_
  have hk : (⟨(row1 k x 1).val, (row1 k x 1).isLt.trans_eq trips1.symm⟩ : Fin k0_t1_loop.trips) = k := Fin.ext a1
  have hx : lane (row1 k x 2) = x := by
    funext a
    match a with
    | ⟨0, _⟩ => exact Fin.ext (Nat.lt_one_iff.mp (x 0).isLt).symm
    | ⟨1, _⟩ => exact Fin.ext a2
  refine Eq.trans ?_ (if_neg (by rw [a0]; decide)).symm
  refine Eq.trans (b := (src1 _ (hok.second k)).view.read (Elt F) (from1 hok y k) (lane (row1 k x 2))) (congrArg _ hx.symm) ?_
  exact (congrArg (fun u : Fin k0_t1_loop.trips => (src1 _ (hok.second u)).view.read (Elt F) (from1 hok y u) (lane (row1 k x 2))) hk).symm

/-- The landed rows are the scratch held whole at `gathered`. -/
theorem rows_join :
    (pt c rows (gathered hok y) : sProp 𝕄) = iprop(bigSep Finset.univ (full0 hok g y) ∗ bigSep Finset.univ (full1 hok g y)) := by
  rw [rows_split c (gathered hok y)]
  refine congrArg₂ _ (BI.bigSep_congr fun k _ => ?_) (BI.bigSep_congr fun k _ => ?_)
  · exact pointsTo_congr fun z hz => (copied0_eq hok g y k z hz).symm
  · exact pointsTo_congr fun z hz => (copied1_eq hok g y k z hz).symm

end Gathered

end Cert.CombIdeal.Combine
-- ==== Proof.CombRun.lean ====
/-
  THE COMBINING KERNEL'S BODY run whole: every word names a row, so the two loops gather the rows into the scratch, and the
  block is computed from them.
-/
module

public import Idealize.ShloMosaic.Lib.VecWindow
public import proofs.«01_k».proof.Proof.CombRows
public import Idealize.ShloMosaic.Lib.Pipeline.ReadBack
public import Idealize.ShloMosaic.Lib.Pipeline.ValueKit

@[expose] public section

set_option maxRecDepth 16384

noncomputable section

namespace Cert.CombIdeal.Combine

open Cert.CombIdeal Cert.CombIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC)

variable {F : FTy → Type} [FloatOps F]

local notation "𝕄" => MT nD τ sig Unit (Elt F) ℕ (UC sig nD τ) ℕ

/-- A family over numbers below a bound, by the bound's own numbers. -/
theorem bigSep_range_eq {n : ℕ} (Ψ : ℕ → sProp 𝕄) : bigSep (Finset.range n) Ψ = bigSep Finset.univ (fun k : Fin n => Ψ k.val) := by
  rw [← Ring.rangeSet_univ]
  exact (Ring.bigSep_rangeSet_eq_range (NB := n) (lo := 0) (hi := n) (Φ := fun k : Fin n => Ψ k.val) le_rfl Ψ
    (fun k h => congrArg Ψ (Nat.zero_add k).symm)).symm

theorem apart {n : ℕ} (Φ Ψ : Fin n → sProp 𝕄) :
    bigSep Finset.univ (fun k => iprop(Φ k ∗ Ψ k)) = iprop(bigSep Finset.univ Φ ∗ bigSep Finset.univ Ψ) := BI.bigSep_sep _ _ _

theorem regroup (A B C D : sProp 𝕄) : (iprop((A ∗ B) ∗ C ∗ D) : sProp 𝕄) = iprop((A ∗ C) ∗ B ∗ D) := by
  have h : ∀ A B C D : sProp 𝕄, iprop((A ∗ B) ∗ C ∗ D) ⊢ iprop((A ∗ C) ∗ B ∗ D) := fun A B C D => by
    iintro ⟨⟨A, B⟩, C, D⟩
    isplitl [A C]
    · isplitl [A] <;> iassumption
    isplitl [B] <;> iassumption
  exact BI.equiv_iff.mp ⟨h A B C D, h A C B D⟩

theorem rotate (A B C D E : sProp 𝕄) : (iprop(A ∗ (B ∗ C) ∗ D ∗ E) : sProp 𝕄) = iprop((B ∗ D) ∗ A ∗ C ∗ E) := by
  have h1 : iprop(A ∗ (B ∗ C) ∗ D ∗ E) ⊢ iprop((B ∗ D) ∗ A ∗ C ∗ E) := by
    iintro ⟨A, ⟨B, C⟩, D, E⟩
    isplitl [B D]
    · isplitl [B] <;> iassumption
    isplitl [A]; · iexact A
    isplitl [C] <;> iassumption
  have h2 : iprop((B ∗ D) ∗ A ∗ C ∗ E) ⊢ iprop(A ∗ (B ∗ C) ∗ D ∗ E) := by
    iintro ⟨⟨B, D⟩, A, C, E⟩
    isplitl [A]; · iexact A
    isplitl [B C]
    · isplitl [B] <;> iassumption
    isplitl [D] <;> iassumption
  exact BI.equiv_iff.mp ⟨h1, h2⟩

section Whole

variable {c : Dev nD} {M1 : Memref sig .tc .smem S2048 .i32} {f1 : Bf (F := F) c M1} (hok : InRange c M1 f1) (g : Bf (F := F) c rows) (y : Bf (F := F) c outs)

/-- What a copy's share of the experts' outputs leaves beside the row it reads. -/
abbrev left0 (k : Fin k0_t1_loop.trips) : sProp 𝕄 :=
  outs.view.loc (c : Thread nD τ) ↦[Finset.univ \ ((src0 _ (hok.first k)).view.set : Finset S36864x1024.Idx)]{Transfers.shareTokN fullShare (2 * k.val)} y
abbrev left1 (k : Fin k0_t1_loop.trips) : sProp 𝕄 :=
  outs.view.loc (c : Thread nD τ) ↦[Finset.univ \ ((src1 _ (hok.second k)).view.set : Finset S36864x1024.Idx)]{Transfers.shareTokN fullShare (2 * k.val + 1)} y

/-- What all the copies leave of the experts' outputs. -/
def spare : sProp 𝕄 :=
  iprop((outs.view.loc (c : Thread nD τ) ↦[Finset.univ]{Transfers.shareDrop fullShare (2 * k0_t1_loop.trips)} y)
    ∗ bigSep Finset.univ (left0 hok y) ∗ bigSep Finset.univ (left1 hok y))

theorem token0 (k : Fin k0_t1_loop.trips) :
    (outs.view.loc (c : Thread nD τ) ↦[Finset.univ]{Transfers.shareTokN fullShare (2 * k.val)} y : sProp 𝕄) = iprop(lent0 hok y k ∗ left0 hok y k) :=
  BI.equiv_iff.mp ⟨(pointsTo_split_subset (Finset.subset_univ _)).1, (pointsTo_split_subset (Finset.subset_univ _)).2⟩
theorem token1 (k : Fin k0_t1_loop.trips) :
    (outs.view.loc (c : Thread nD τ) ↦[Finset.univ]{Transfers.shareTokN fullShare (2 * k.val + 1)} y : sProp 𝕄) = iprop(lent1 hok y k ∗ left1 hok y k) :=
  BI.equiv_iff.mp ⟨(pointsTo_split_subset (Finset.subset_univ _)).1, (pointsTo_split_subset (Finset.subset_univ _)).2⟩

/-- The experts' outputs held whole are every copy's row at its share, and what the copies leave. -/
theorem outs_split :
    (pt c outs y : sProp 𝕄) = iprop((bigSep Finset.univ (lent0 hok y) ∗ bigSep Finset.univ (lent1 hok y)) ∗ spare hok y) := by
  have h := Transfers.pointsTo_toks_range (Ix := Unit) (Name := ℕ) (U := UC sig nD τ) (Lvl := ℕ) (Val := Elt F) (ℓ := outs.view.loc (c : Thread nD τ))
    (S := Finset.univ) (f := y) fullShare (2 * k0_t1_loop.trips)
  refine (BI.equiv_iff.mp ⟨h.1, h.2⟩).trans ?_
  rw [Ring.bigSep_range_deinterleave, bigSep_range_eq, bigSep_range_eq, BI.bigSep_congr (fun k _ => token0 hok y k),
    BI.bigSep_congr (fun k _ => token1 hok y k),
    apart (lent0 hok y) (left0 hok y), apart (lent1 hok y) (left1 hok y)]
  unfold spare
  exact rotate _ _ _ _ _

/-- All that the copies deliver: the scratch gathered, and every source row. -/
theorem delivered_eq :
    (bigSep Finset.univ (delivered hok g y) : sProp 𝕄)
      = iprop(pt c rows (gathered hok y) ∗ bigSep Finset.univ (lent0 hok y) ∗ bigSep Finset.univ (lent1 hok y)) := by
  have e0 : ∀ k : Fin k0_t1_loop.trips, got0 hok g y k.val = iprop(full0 hok g y k ∗ lent0 hok y k) := fun k => dif_pos k.isLt
  have e1 : ∀ k : Fin k0_t1_loop.trips, got1 hok g y k.val = iprop(full1 hok g y k ∗ lent1 hok y k) := fun k => dif_pos k.isLt
  rw [show delivered hok g y = Ring.interleaved k0_t1_loop.trips (got0 hok g y) (got1 hok g y) from rfl, Ring.bigSep_interleaved, bigSep_range_eq, bigSep_range_eq,
    BI.bigSep_congr (fun k _ => e0 k), BI.bigSep_congr (fun k _ => e1 k),
    apart (full0 hok g y) (lent0 hok y), apart (full1 hok g y) (lent1 hok y), rows_join hok g y]
  exact regroup _ _ _ _

theorem zeros2 : (![0, 0] : Fin 2 → Nat) = fun _ => 0 := funext fun a => by fin_cases a <;> rfl

/-- A block stored whole reads back as what was stored. -/
theorem read_block (v : View sig .tc .vmem S1024x1024 .f32) (f : v.ty.Contents (Elt F)) (w : Vec F S1024x1024 .f32) :
    v.read (Elt F) (v.writes (Elt F) f [⟨Rect.unit ![0, 0] S1024x1024.size inb_S1024x1024_S1024x1024_0_0, w⟩]) = w := by
  rw [View.read_writes_eq_canon _ _ _ fun y => ⟨_, List.mem_cons_self, View.mem_set_unit_zero zeros2 inb_S1024x1024_S1024x1024_0_0 y⟩, View.canon_cons_unit_zero zeros2]

/-- The two halves of the gathered scratch, as the body loads them. -/
abbrev half0 : Vec F S1x1024x1024 .f32 :=
  rows.view.readAt (Elt F) (Rect.unit (s := S2x1024x1024) ![0, 0, 0] S1x1024x1024.size inb_S2x1024x1024_S1x1024x1024_0_0_0).toLoadRect (gathered hok y)
abbrev half1 : Vec F S1x1024x1024 .f32 :=
  rows.view.readAt (Elt F) (Rect.unit (s := S2x1024x1024) ![1, 0, 0] S1x1024x1024.size inb_S2x1024x1024_S1x1024x1024_1_0_0).toLoadRect (gathered hok y)

set_option maxHeartbeats 8000000 in
/-- The body, from the words, the blocks, the experts' outputs, the scratch and the idle semaphore: the block it leaves is
    its computation on the gathered rows. -/
theorem kernelRun [∀ e, Nonempty (Elt F e)] (i : grid0.Coords) (h1 : M1.IsWhole) (M2 : Memref sig .tc .vmem S1024x1024 .f32) (h2 : M2.IsWhole)
    (M3 : Memref sig .tc .vmem S1024x128 .f32) (h3 : M3.IsWhole) (M4 : Memref sig .tc .vmem S1x1024 .f32) (h4 : M4.IsWhole)
    (M6 : Memref sig .tc .vmem S1024x1024 .f32) (h6 : M6.IsWhole)
    (f2 : Bf (F := F) c M2) (f3 : Bf (F := F) c M3) (f4 : Bf (F := F) c M4) (f6 : Bf (F := F) c M6) (W : Waits sig Unit) (Q : PUnit → sProp 𝕄) :
    iprop(pt c M1 f1 ∗ pt c M2 f2 ∗ pt c M3 f3 ∗ pt c M4 f4 ∗ pt c M6 f6 ∗ pt c outs y ∗ pt c rows g
      ∗ semVal ((c : Thread nD τ), SemLoc.dma cc0_scratch1.sem) 0 ∗ owes (c : Thread nD τ) 0 W
      ∗ (iprop(pt c M1 f1 ∗ pt c M2 f2 ∗ pt c M3 f3 ∗ pt c M4 f4
            ∗ (∃ f : Bf (F := F) c M6, ⌜M6.view.read (Elt F) f = k0_pay1 (M3.view.read (Elt F) f3) (M2.view.read (Elt F) f2) (half0 hok y) (half1 hok y) (M4.view.read (Elt F) f4)⌝ ∗ pt c M6 f)
            ∗ pt c outs y ∗ pt c rows (gathered hok y)
            ∗ semVal ((c : Thread nD τ), SemLoc.dma cc0_scratch1.sem) 0 ∗ ∃ W, owes (c : Thread nD τ) 0 W) -∗ Q ⟨⟩))
      ⊢ wp frame (wpE (defs₀ (F := F)) Variants.none c none) Set.univ
        (cc0_moe_combine i M1 h1 M2 h2 M3 h3 M4 h4 outs (Memref.isWhole_whole _) M6 h6 rows (Memref.isWhole_whole _) cc0_scratch1) Q := by
  have hpos : 0 < k0_t1_loop.trips := by rw [trips1]; decide
  rw [outs_split hok y, rows_split c g]
  iintro ⟨H1, H2, H3, H4, H6, ⟨⟨HS, HT⟩, Hspare⟩, ⟨HP, HQ⟩, Hc, HO, Hk⟩
  simp only [cc0_moe_combine_eq_skeleton]; unfold cc0_moe_combine_skel
  imod (Transfers.batch_alloc' (Lvl := ℕ) countersEmb (c : Thread nD τ) () 128 (delivered hok g y) (sm := .dma cc0_scratch1.sem) (E := Set.univ)) $$ Hc with HB
  sl_for (startAt hok g y) $$ [HB HP HQ HS HT H1]
  · intro k acc; exact start_step hok g y i h1 M2 h2 M3 h3 M4 h4 M6 h6 k acc
  · unfold startAt
    rw [Ring.rangeSet_univ]
    isplitl [HB]; · iexact HB
    isplitl [HP]; · iexact HP
    isplitl [HQ]; · iexact HQ
    isplitl [HS]; · iexact HS
    isplitl [HT]; · iexact HT
    iexact H1
  iintro %acc HL
  ihave HL' := (show startAt hok g y k0_t1_loop.trips acc ⊢ iprop(batch hok g y (2 * k0_t1_loop.trips) 0 ∗ pt c M1 f1) from by
    unfold startAt; simp only [Ring.bigSep_rangeSet_empty (Nat.le_refl _)]
    iintro ⟨A, -, -, -, -, B⟩; isplitl [A] <;> iassumption) $$ HL
  icases HL' with ⟨HB, H1⟩
  sl_exec
  sl_for (waitAt hok g y) $$ [HB HO]
  · intro k acc; exact wait_step hok g y i h1 M2 h2 M3 h3 M4 h4 M6 h6 k acc
  · unfold waitAt
    rw [if_pos hpos]
    isplitl [HO]; · iexists _; iexact HO
    iexact HB
  iintro %acc2 HL2
  ihave HL2' := (show waitAt hok g y k0_t2_loop.trips acc2
      ⊢ iprop((∃ W, owes (c : Thread nD τ) 0 W) ∗ semVal ((c : Thread nD τ), SemLoc.dma cc0_scratch1.sem) 0
          ∗ pt c rows (gathered hok y) ∗ bigSep Finset.univ (lent0 hok y) ∗ bigSep Finset.univ (lent1 hok y)) from by
    unfold waitAt; rw [if_neg (Nat.not_lt.mpr (trips1.trans trips2.symm).le), delivered_eq hok g y]) $$ HL2
  icases HL2' with ⟨⟨%W', HO⟩, Hc, HR, HS, HT⟩
  sl_exec
  sl_step
  iapply Hk
  isplitl [H1]; · iexact H1
  isplitl [H2]; · iexact H2
  isplitl [H3]; · iexact H3
  isplitl [H4]; · iexact H4
  isplitl [H6]
  · iexists _; isplitr; swap
    · iexact H6
    ipureintro
    sl_unfold_words
    rw [read_block, View.readAt_full, View.readAt_full, View.readAt_full]
  isplitl [HS HT Hspare]
  · isplitl [HS HT]
    · isplitl [HS] <;> iassumption
    iexact Hspare
  isplitl [HR]; · iexact HR
  isplitl [Hc]; · iexact Hc
  iexists _; iexact HO

end Whole

end Cert.CombIdeal.Combine
-- ==== Proof.CombTake.lean ====
/-
  THE GATHERED ROWS AS VALUES: what the two halves of the scratch hold is a function of the block of words and of the
  experts' outputs alone, and the words being row numbers is all that the copies ask.
-/
module

public import proofs.«01_k».proof.Proof.CombRun
public import Idealize.ShloMosaic.Lib.StableHlo.Predicate
public import Idealize.ShloMosaic.Lib.ReduceAll
public import proofs.«01_k».proof.Proof.Gen.Pre_rows_exist

@[expose] public section

set_option maxRecDepth 16384

noncomputable section

namespace Cert.CombIdeal.Combine

open Cert.CombIdeal Cert.CombIdeal.Gen
open Idealize.ShloMosaic Idealize.ShloMosaic.TcCoe Idealize.ShloMosaic.Tactic

variable {F : FTy → Type} [FloatOps F]

/-- A word as a row number; a word past the rows would name the last one. -/
def rowOf (v : BitVec 32) : Fin 36864 := ⟨min v.toNat 36863, by omega⟩

theorem rowOf_val {v : BitVec 32} (h : v.toNat < 36864) : (rowOf v).val = v.toNat := by
  show min v.toNat 36863 = v.toNat
  omega

/-- The word of token `k` for its expert `b`, among a block's words. -/
def wordAt (d : S2048.Idx → BitVec 32) (b : Fin 2) (k : Fin 1024) : BitVec 32 := d (ix1 ⟨2 * k.val + b.val, by omega⟩)

/-- The rows the words name, for expert `b` of each token. -/
def taken (b : Fin 2) (d : S2048.Idx → BitVec 32) (y : S36864x1024.Idx → Elt F .f32) : Vec F S1x1024x1024 .f32 := fun z =>
  y (ix2 (rowOf (wordAt d b (z 1))) (z 2))

section Words

variable (c : Dev nD) (M1 : Memref sig .tc .smem S2048 .i32) (f1 : Bf (F := F) c M1)

theorem word0_eq (k : Fin k0_t1_loop.trips) :
    word0 c M1 f1 k = wordAt (M1.view.read (Elt F) f1) 0 ⟨k.val, k.isLt.trans_eq trips1⟩ := by
  refine congrArg (M1.view.read (Elt F) f1) (funext fun a => Fin.ext ?_)
  match a with
  | ⟨0, _⟩ =>
    exact (unit_emb_val _ _ _ _ _).trans (congrArg (· + 0) (congrFun (k0_off1_eq k) 0))

theorem word1_eq (k : Fin k0_t1_loop.trips) :
    word1 c M1 f1 k = wordAt (M1.view.read (Elt F) f1) 1 ⟨k.val, k.isLt.trans_eq trips1⟩ := by
  refine congrArg (M1.view.read (Elt F) f1) (funext fun a => Fin.ext ?_)
  match a with
  | ⟨0, _⟩ =>
    exact (unit_emb_val _ _ _ _ _).trans (congrArg (· + 0) (congrFun (k0_off4_eq k) 0))

theorem inRange (h : ∀ i, (M1.view.read (Elt F) f1 i : BitVec 32).toNat < 36864) : InRange c M1 f1 where
  first k := by
    rw [word0_eq]
    intro a
    match a with
    | ⟨0, _⟩ => exact h _
    | ⟨1, _⟩ => exact Nat.le_refl 1024
  second k := by
    rw [word1_eq]
    intro a
    match a with
    | ⟨0, _⟩ => exact h _
    | ⟨1, _⟩ => exact Nat.le_refl 1024

variable {c M1 f1}

theorem src0_at (v : BitVec 32) (h : k0_chk1 v) (y : S36864x1024.Idx → Elt F .f32) (j : Fin 1024) :
    (src0 v h).view.read (Elt F) y (lane j) = y (ix2 (rowOf v) j) := by
  refine congrArg y (funext fun a => Fin.ext ?_)
  have hv : v.toNat < 36864 := h 0
  match a with
  | ⟨0, _⟩ => exact (unit_emb_val _ _ _ _ _).trans (rowOf_val hv).symm
  | ⟨1, _⟩ => exact (unit_emb_val _ _ _ _ _).trans (Nat.zero_add _)

theorem src1_at (v : BitVec 32) (h : k0_chk2 v) (y : S36864x1024.Idx → Elt F .f32) (j : Fin 1024) :
    (src1 v h).view.read (Elt F) y (lane j) = y (ix2 (rowOf v) j) := by
  refine congrArg y (funext fun a => Fin.ext ?_)
  have hv : v.toNat < 36864 := h 0
  match a with
  | ⟨0, _⟩ => exact (unit_emb_val _ _ _ _ _).trans (rowOf_val hv).symm
  | ⟨1, _⟩ => exact (unit_emb_val _ _ _ _ _).trans (Nat.zero_add _)

variable (hok : InRange c M1 f1) (y : Bf (F := F) c outs)

/-- An element of the scratch's first half, and of its second, as a token and a lane. -/
theorem gathered_first (z : S2x1024x1024.Idx) (k j : Fin 1024) (h0 : (z 0).val = 0) (h1 : z 1 = k) (h2 : z 2 = j) :
    gathered hok y z = y (ix2 (rowOf (wordAt (M1.view.read (Elt F) f1) 0 k)) j) := by
  subst h1 h2
  refine (if_pos h0).trans ((src0_at _ _ y _).trans ?_)
  rw [word0_eq]
  rfl

theorem gathered_second (z : S2x1024x1024.Idx) (k j : Fin 1024) (h0 : (z 0).val = 1) (h1 : z 1 = k) (h2 : z 2 = j) :
    gathered hok y z = y (ix2 (rowOf (wordAt (M1.view.read (Elt F) f1) 1 k)) j) := by
  subst h1 h2
  refine (if_neg (by rw [h0]; decide)).trans ((src1_at _ _ y _).trans ?_)
  rw [word1_eq]
  rfl

theorem half0_eq : half0 hok y = taken 0 (M1.view.read (Elt F) f1) y := by
  funext z
  have hz : (z 0).val = 0 := Nat.lt_one_iff.mp (z 0).isLt
  refine gathered_first hok y _ (z 1) (z 2) ?_ (Fin.ext ?_) (Fin.ext ?_)
  · exact (unit_emb_val _ _ _ _ _).trans ((Nat.zero_add _).trans hz)
  · exact (unit_emb_val _ _ _ _ _).trans (Nat.zero_add _)
  · exact (unit_emb_val _ _ _ _ _).trans (Nat.zero_add _)

theorem half1_eq : half1 hok y = taken 1 (M1.view.read (Elt F) f1) y := by
  funext z
  have hz : (z 0).val = 0 := Nat.lt_one_iff.mp (z 0).isLt
  refine gathered_second hok y _ (z 1) (z 2) ?_ (Fin.ext ?_) (Fin.ext ?_)
  · exact (unit_emb_val _ _ _ _ _).trans (congrArg (1 + ·) hz)
  · exact (unit_emb_val _ _ _ _ _).trans (Nat.zero_add _)
  · exact (unit_emb_val _ _ _ _ _).trans (Nat.zero_add _)

end Words

/-! ## The precondition -/

open Idealize.ShloMosaic.StableHlo.Predicate

variable (m : (ℓ : Loc nD τ sig) → Buf (Elt F) ℓ)

/-- The words the program is given. -/
def wordsOf (c : Dev nD) : S32768.Idx → BitVec 32 := m (c, Proc.tc.devRef main_arg0)

/-- The precondition, read: every word is a row number. -/
theorem rows_of_pre {c : Dev nD} (h : Cert.Pre_rows_exist.fn (F := F) (m (c, main_arg0)) (m (c, main_arg1)) (m (c, main_arg2)) (m (c, main_arg3)) (m (c, main_arg4)) = fun _ => 1#1)
    (i : S32768.Idx) : (wordsOf m c i).toNat < 36864 := by
  have h0 := congrFun h (Shape.Idx.first Cert.Pre_rows_exist.Gen.h_S_)
  dsimp only [Cert.Pre_rows_exist.fn] at h0
  have h1 := IntOp.andi_eq_one.mp (Host.reduce_andi_all _ _ _ _ _ h0 i)
  have ha : (0#32).toInt ≤ (wordsOf m c i).toInt := IntOp.cmpi_sge.mp h1.1
  have hb : (wordsOf m c i).toInt < (36864#32).toInt := IntOp.cmpi_slt.mp h1.2
  rw [show (0#32).toInt = 0 from rfl] at ha
  rw [show (36864#32).toInt = 36864 from rfl] at hb
  have hv := BitVec.toInt_eq_toNat_cond (wordsOf m c i)
  split at hv <;> omega

end Cert.CombIdeal.Combine
-- ==== Proof.CombLaunch.lean ====
/-
  THE COMBINING KERNEL LAUNCHED: every point reads its block of words, gathers the rows they name and writes its block of
  the output; the experts' outputs, read by the copies alone, pass through every point unchanged.
-/
module

public import proofs.«01_k».proof.Proof.CombTake
public import proofs.«01_k».proof.Proof.Gen.CombIdeal.Frame
public import Idealize.ShloMosaic.Lib.Pipeline.Routed
public import Idealize.ShloMosaic.Lib.Pipeline.FrameBody

@[expose] public section

set_option maxRecDepth 16384

noncomputable section

namespace Cert.CombIdeal.Combine

open Cert.CombIdeal Cert.CombIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UC Dat BodyObligation Ends RoutedPost routed_singleton)

variable {F : FTy → Type} [FloatOps F]

local notation "𝕄" => MT nD τ sig Unit (Elt F) ℕ (UC sig nD τ) ℕ

/-- A whole buffer held at what it reads. -/
theorem owns_held {sp : Space} {S : Shape} {e : EltTy} (c : Dev nD) (M : Memref sig .tc sp S e) (h : M.IsWhole) (X : S.Idx → Elt F e) :
    (owns (c : Thread nD τ) M fullShare X : sProp 𝕄) = iprop(∃ f : Bf (F := F) c M, ⌜M.view.read (Elt F) f = X⌝ ∗ pt c M f) := by
  unfold owns
  rw [h.set_eq_univ]

variable (m : (ℓ : Loc nD τ sig) → Buf (Elt F) ℓ) (ρ : Dev nD → PrngReg)

/-- The words the program is given are row numbers. -/
def RowsExist : Prop := ∀ (c : Dev nD) (i : S32768.Idx), (wordsOf m c i).toNat < 36864

/-- The experts' outputs. -/
abbrev outsOf (c : Dev nD) : S36864x1024.Idx → Elt F .f32 := V m c main_arg4

/-- The output block of a point. -/
def blockOut (c : Dev nD) (t : Fin cfg0.N) : Vec F S1024x1024 .f32 :=
  k0_pay1 (iblk m c 2 t) (iblk m c 1 t) (taken 0 (iblk m c 0 t) (outsOf m c)) (taken 1 (iblk m c 0 t) (outsOf m c)) (iblk m c 3 t)

variable {m} in
theorem words_block (hr : RowsExist m) (c : Dev nD) (t : Fin cfg0.N) (i : S2048.Idx) : (iblk m c 0 t i : BitVec 32).toNat < 36864 :=
  hr c (((cfg0.win 0).blk t).view.emb i)

abbrev osem : Unit → SemLoc sig := fun _ => .dma cc0_scratch1.sem

def dats (_ : Fin 1) (c : Dev nD) : Dat τ (Elt F) Unit ℕ (UC sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => blockOut m c t
  Φ _ := Ends spec0 osem {main_arg4} c (V m c)
  q _ := fullShare
  owed _ := 0

abbrev 𝒱₀ : Variants := Variants.none

theorem ends_eq (c : Dev nD) (W : (b : Ref sig .tc) → Buf (Elt F) ((c : Thread nD τ).loc b)) :
    (Ends spec0 osem {main_arg4} c W : sProp 𝕄)
      = iprop(pt c outs (W main_arg4) ∗ semVal ((c : Thread nD τ), SemLoc.dma cc0_scratch1.sem) 0 ∗ (∃ g : Bf (F := F) c rows, pt c rows g) ∗ ∃ r, prngReg c r) := by
  unfold Ends
  rw [routed_singleton, Pipeline.ownSems0_eq_of_list c osem [()] (by decide) (by decide), scopedRest0_eq]
  rfl

theorem before_0 (c : Dev nD) (t : Fin cfg0.N) (d) : (dats m 0 c).before 0 t d = iblk m c 0 t :=
  ((dats m 0 c).before_in_eq_fetched 0 rfl (fun _ => rfl) (fun _ _ _ => rfl) (fun t => rfl) t d).trans rfl
theorem before_1 (c : Dev nD) (t : Fin cfg0.N) (d) : (dats m 0 c).before 1 t d = iblk m c 1 t :=
  ((dats m 0 c).before_in_eq_fetched 1 rfl (fun _ => rfl) (fun _ _ _ => rfl) (fun t => rfl) t d).trans rfl
theorem before_2 (c : Dev nD) (t : Fin cfg0.N) (d) : (dats m 0 c).before 2 t d = iblk m c 2 t :=
  ((dats m 0 c).before_in_eq_fetched 2 rfl (fun _ => rfl) (fun _ _ _ => rfl) (fun t => rfl) t d).trans rfl
theorem before_3 (c : Dev nD) (t : Fin cfg0.N) (d) : (dats m 0 c).before 3 t d = iblk m c 3 t :=
  ((dats m 0 c).before_in_eq_fetched 3 rfl (fun _ => rfl) (fun _ _ _ => rfl) (fun t => rfl) t d).trans rfl

variable {m} in
set_option maxHeartbeats 4000000 in
/-- One point: the words of its block are row numbers, so the body runs and leaves the point's block. -/
theorem body_obligation [∀ e, Nonempty (Elt F e)] (hr : RowsExist m) (c : Dev nD) :
    BodyObligation (dats m 0 c) (defs₀ (F := F)) 𝒱₀ () Set.univ := fun t => by
  rw [bigSep_W0, bigSep_W0]
  rw [show (dats m 0 c).Φ t.castSucc = Ends spec0 osem {main_arg4} c (V m c) from rfl,
    show (dats m 0 c).Φ t.succ = Ends spec0 osem {main_arg4} c (V m c) from rfl, ends_eq]
  unfold Dat.owesAt Pipeline.owesWithin
  rw [show (dats m 0 c).owed t.castSucc = 0 from rfl, show (dats m 0 c).owed t.succ = 0 from rfl]
  have e0 := fun X => owns_held (F := F) c (st0_0 t) (hstage0_0 ((cfg0.slots t 0).cast nbuf0_0)) X
  have e1 := fun X => owns_held (F := F) c (st0_1 t) (hstage0_1 ((cfg0.slots t 1).cast nbuf0_1)) X
  have e2 := fun X => owns_held (F := F) c (st0_2 t) (hstage0_2 ((cfg0.slots t 2).cast nbuf0_2)) X
  have e3 := fun X => owns_held (F := F) c (st0_3 t) (hstage0_3 ((cfg0.slots t 3).cast nbuf0_3)) X
  have e4 := fun X => owns_held (F := F) c (st0_4 t) (hstage0_4 ((cfg0.slots t 4).cast nbuf0_4)) X
  show iprop((pt c outs (V m c main_arg4) ∗ semVal ((c : Thread nD τ), SemLoc.dma cc0_scratch1.sem) 0 ∗ (∃ g : Bf (F := F) c rows, pt c rows g) ∗ ∃ r, prngReg c r)
      ∗ (∃ W : Waits sig Unit, ⌜_⌝ ∗ owes (c : Thread nD τ) 0 W)
      ∗ (∃ d, owns (c : Thread nD τ) (st0_0 t) fullShare ((dats m 0 c).before (0 : Fin 5) t d))
      ∗ (∃ d, owns (c : Thread nD τ) (st0_1 t) fullShare ((dats m 0 c).before (1 : Fin 5) t d))
      ∗ (∃ d, owns (c : Thread nD τ) (st0_2 t) fullShare ((dats m 0 c).before (2 : Fin 5) t d))
      ∗ (∃ d, owns (c : Thread nD τ) (st0_3 t) fullShare ((dats m 0 c).before (3 : Fin 5) t d))
      ∗ (∃ d, owns (c : Thread nD τ) (st0_4 t) fullShare ((dats m 0 c).before (4 : Fin 5) t d)))
    ⊢ wp frame (wpE (defs₀ (F := F)) 𝒱₀ c none) Set.univ (bodyAt0 t) fun _ =>
        iprop((pt c outs (V m c main_arg4) ∗ semVal ((c : Thread nD τ), SemLoc.dma cc0_scratch1.sem) 0 ∗ (∃ g : Bf (F := F) c rows, pt c rows g) ∗ ∃ r, prngReg c r)
          ∗ (∃ W : Waits sig Unit, ⌜_⌝ ∗ owes (c : Thread nD τ) 0 W)
          ∗ owns (c : Thread nD τ) (st0_0 t) fullShare (iblk m c 0 t) ∗ owns (c : Thread nD τ) (st0_1 t) fullShare (iblk m c 1 t)
          ∗ owns (c : Thread nD τ) (st0_2 t) fullShare (iblk m c 2 t) ∗ owns (c : Thread nD τ) (st0_3 t) fullShare (iblk m c 3 t)
          ∗ owns (c : Thread nD τ) (st0_4 t) fullShare (blockOut m c t))
  simp only [before_0, before_1, before_2, before_3, e0, e1, e2, e3, e4]
  iintro ⟨⟨Hy, Hs, ⟨%g, Hg⟩, Hp⟩, ⟨%W, -, HO⟩, ⟨%d0, %f0, %hf0, H0⟩, ⟨%d1, %f1, %hf1, H1⟩, ⟨%d2, %f2, %hf2, H2⟩, ⟨%d3, %f3, %hf3, H3⟩, ⟨%d4, %f4, %hf4, H4⟩⟩
  have hok : InRange c (st0_0 t) f0 := inRange c (st0_0 t) f0 (fun i => by rw [hf0]; exact words_block hr c t i)
  iapply (kernelRun hok g (V m c main_arg4) (grid0.coords t) (hstage0_0 ((cfg0.slots t 0).cast nbuf0_0))
    (st0_1 t) (hstage0_1 ((cfg0.slots t 1).cast nbuf0_1)) (st0_2 t) (hstage0_2 ((cfg0.slots t 2).cast nbuf0_2))
    (st0_3 t) (hstage0_3 ((cfg0.slots t 3).cast nbuf0_3)) (st0_4 t) (hstage0_4 ((cfg0.slots t 4).cast nbuf0_4)) f1 f2 f3 f4 W)
  isplitl [H0]; · iexact H0
  isplitl [H1]; · iexact H1
  isplitl [H2]; · iexact H2
  isplitl [H3]; · iexact H3
  isplitl [H4]; · iexact H4
  isplitl [Hy]; · iexact Hy
  isplitl [Hg]; · iexact Hg
  isplitl [Hs]; · iexact Hs
  isplitl [HO]; · iexact HO
  iintro ⟨H0, H1, H2, H3, ⟨%f, %hf, H4⟩, Hy, Hg, Hs, ⟨%W', HO⟩⟩
  isplitl [Hy Hs Hg Hp]
  · isplitl [Hy]; · iexact Hy
    isplitl [Hs]; · iexact Hs
    isplitl [Hg]; · iexists _; iexact Hg
    iexact Hp
  isplitl [HO]
  · iexists W'; isplitr; · ipureintro; exact fun _ _ => Or.inl trivial
    iexact HO
  isplitl [H0]; · iexists f0; isplitr; · ipureintro; exact hf0
                  iexact H0
  isplitl [H1]; · iexists f1; isplitr; · ipureintro; exact hf1
                  iexact H1
  isplitl [H2]; · iexists f2; isplitr; · ipureintro; exact hf2
                  iexact H2
  isplitl [H3]; · iexists f3; isplitr; · ipureintro; exact hf3
                  iexact H3
  iexists f; isplitr
  · ipureintro
    rw [hf, half0_eq, half1_eq, hf0, hf1, hf2, hf3]
    rfl
  iexact H4

theorem ownSemFacts : Pipeline.OwnSemFacts spec0 osem := by decide

variable {m} in
/-- Every launch from row numbers ends, its arrays as the points leave them, the experts' outputs as they were and every
    semaphore idle. -/
theorem run_main [∀ e, Nonempty (Elt F e)] (hr : RowsExist m) :
    θ_run defs (onTc (τ := τ) (main (F := F))) (s₀ m ρ)
      (fun r => RoutedPost cfgs (dats m) 0 {main_arg4} (V m) (V m) r ∧ r.2.sem = fun _ => 0) :=
  Pipeline.θ_run_frame_routed cfgs (dats m) 0 launch0 ownSemFacts defs₀ 𝒱₀ m ρ main
    (hbody := fun c => (body_obligation hr c).loose) (hshare := fun c => (dats m 0 c).share_full fun _ => rfl)
    (howed := fun _ _ => rfl) (V := V m)
    (hmain := Pipeline.hmain_region cfgs 0 defs₀ 𝒱₀ m main fun c => (main_chain c).trans rfl)
    (hA := fun _ _ => rfl) (R := {main_arg4}) (hR := by decide) (Y := V m) (hin := fun _ => .rfl) (hout := fun _ => .rfl) (Q' := _)

end Cert.CombIdeal.Combine
-- ==== Proof.CombValue.lean ====
module
public import proofs.«01_k».proof.Proof.CombLaunch
public import proofs.«01_k».proof.Proof.ExpertMath
public import Idealize.ShloMosaic.Lib.StableHlo.ReadAt
/-!
# The array the combining kernel leaves, in exact arithmetic

A point's block of 1024 rows: each row plus the two rows its words name, each times its weight, over the root mean square,
times the gain.
-/
@[expose] public section
set_option maxRecDepth 16384
noncomputable section
namespace Cert.CombIdeal.Combine
open Cert.CombIdeal Cert.CombIdeal.Gen Cert.ExpertMath
open Idealize.ShloMosaic
open Idealize.ShloMosaic.TcCoe Idealize.ShloMosaic.Tactic

/-- The block's computation at a row and column. -/
theorem pay_at (w : Vec Ideal S1024x128 .f32) (x : Vec Ideal S1024x1024 .f32) (a b : Vec Ideal S1x1024x1024 .f32) (g : Vec Ideal S1x1024 .f32) (r j : Fin 1024) :
    k0_pay1 w x a b g (ix2 r j)
      = normed (fun k => (x (ix2 r k) + w (ix2 r 4) * a (ix3 0 r k) + w (ix2 r 5) * b (ix3 0 r k) : EReal)) (fun k => g (ix2 0 k)) j := by
  pointwise [k0_pay1]
  rfl

variable (m : (ℓ : Loc nD τ sig) → Buf (Elt Ideal) ℓ) (c : Dev nD)

/-- The row of the experts' outputs that a word names, at a column. -/
abbrev outAt (q : Fin 32768) (k : Fin 1024) : EReal := m ((c.tc : Thread nD τ).loc main_arg4) (ix2 (rowOf (wordsOf m c (ix1 q))) k)

/-- A number of a token's row, and a weight of a token. -/
abbrev tokenAt (i : Fin 16384) (k : Fin 1024) : EReal := m ((c.tc : Thread nD τ).loc main_arg1) (ix2 i k)
abbrev weightAt (i : Fin 16384) (l : Fin 128) : EReal := m ((c.tc : Thread nD τ).loc main_arg2) (ix2 i l)

/-- Row `i` before the normalisation, and the result there. -/
def sumAt (i : Fin 16384) (k : Fin 1024) : EReal :=
  tokenAt m c i k + weightAt m c i 4 * outAt m c ⟨2 * i.val, by omega⟩ k + weightAt m c i 5 * outAt m c ⟨2 * i.val + 1, by omega⟩ k
def combinedAt (i : Fin 16384) (j : Fin 1024) : EReal := normed (sumAt m c i) (fun k => m ((c.tc : Thread nD τ).loc main_arg3) (ix2 0 k)) j

/-! ## The blocks a point reads -/

theorem index0 : ∀ t : Fin grid0.N, win0_0.index t = ![t.val] := by decide +kernel
theorem index1 : ∀ t : Fin grid0.N, win0_1.index t = ![t.val, 0] := by decide +kernel
theorem index2 : ∀ t : Fin grid0.N, win0_2.index t = ![t.val, 0] := by decide +kernel
theorem index3 : ∀ t : Fin grid0.N, win0_3.index t = ![0, 0] := by decide +kernel
theorem index4 : ∀ t : Fin grid0.N, win0_4.index t = ![t.val, 0] := by decide +kernel

variable (t : Fin cfg0.N)

theorem words_at (k : Fin 2048) (h : t.val * 2048 + k.val < 32768) : iblk m c 0 t (ix1 k) = wordsOf m c (ix1 ⟨t.val * 2048 + k.val, h⟩) := by
  refine congrArg (wordsOf m c) (funext fun d => Fin.ext ((Pipeline.Window.rect_emb_val win0_0 t (ix1 k) d rfl).trans ?_))
  rw [index0]
  match d with
  | ⟨0, _⟩ => rfl
theorem rows_at (r k : Fin 1024) (h : t.val * 1024 + r.val < 16384) :
    iblk m c 1 t (ix2 r k) = m ((c.tc : Thread nD τ).loc main_arg1) (ix2 ⟨t.val * 1024 + r.val, h⟩ k) := by
  refine congrArg (m ((c.tc : Thread nD τ).loc main_arg1)) (funext fun d => Fin.ext ((Pipeline.Window.rect_emb_val win0_1 t (ix2 r k) d rfl).trans ?_))
  rw [index1]
  match d with
  | ⟨0, _⟩ => rfl
  | ⟨1, _⟩ => exact Nat.zero_add _
theorem weights_at (r : Fin 1024) (k : Fin 128) (h : t.val * 1024 + r.val < 16384) :
    iblk m c 2 t (ix2 r k) = m ((c.tc : Thread nD τ).loc main_arg2) (ix2 ⟨t.val * 1024 + r.val, h⟩ k) := by
  refine congrArg (m ((c.tc : Thread nD τ).loc main_arg2)) (funext fun d => Fin.ext ((Pipeline.Window.rect_emb_val win0_2 t (ix2 r k) d rfl).trans ?_))
  rw [index2]
  match d with
  | ⟨0, _⟩ => rfl
  | ⟨1, _⟩ => exact Nat.zero_add _
theorem gain_at (k : Fin 1024) : iblk m c 3 t (ix2 0 k) = m ((c.tc : Thread nD τ).loc main_arg3) (ix2 0 k) := by
  refine congrArg (m ((c.tc : Thread nD τ).loc main_arg3)) (funext fun d => Fin.ext ((Pipeline.Window.rect_emb_val win0_3 t (ix2 0 k) d rfl).trans ?_))
  rw [index3]
  match d with
  | ⟨0, _⟩ => rfl
  | ⟨1, _⟩ => exact Nat.zero_add _

theorem block_at (r j : Fin 1024) (i : Fin 16384) (hi : i.val = t.val * 1024 + r.val) : blockOut m c t (ix2 r j) = combinedAt m c i j := by
  have hlt : t.val * 1024 + r.val < 16384 := hi ▸ i.isLt
  have ei : (⟨t.val * 1024 + r.val, hlt⟩ : Fin 16384) = i := Fin.ext hi.symm
  unfold blockOut combinedAt
  rw [pay_at]
  have hw (b : Fin 2) : wordAt (iblk m c 0 t) b r = wordsOf m c (ix1 ⟨2 * i.val + b.val, by omega⟩) :=
    (words_at m c t _ (by show t.val * 2048 + (2 * r.val + b.val) < 32768; omega)).trans
      (congrArg (fun q => wordsOf m c (ix1 q)) (Fin.ext (by show t.val * 2048 + (2 * r.val + b.val) = 2 * i.val + b.val; omega)))
  refine congrArg₂ (fun x g => normed x g j) (funext fun k => ?_) (funext fun k => gain_at m c t k)
  rw [rows_at m c t r k hlt, weights_at m c t r 4 hlt, weights_at m c t r 5 hlt, ei]
  unfold sumAt
  refine congrArg₂ (fun a b : EReal => _ + _ * a + _ * b) ?_ ?_
  · exact congrArg (fun q => m ((c.tc : Thread nD τ).loc main_arg4) (ix2 (rowOf q) k)) (hw 0)
  · exact congrArg (fun q => m ((c.tc : Thread nD τ).loc main_arg4) (ix2 (rowOf q) k)) (hw 1)

theorem final : (dats m 0 c).arrAt 4 cfg0.N = (fun y : S16384x1024.Idx => combinedAt m c (y 0) (y 1) : S16384x1024.Idx → EReal) := by
  refine (dats m 0 c).arrAt_eq_of_covers 4 _ (by decide +kernel) fun t _ y => ?_
  have e0 := (Pipeline.Window.rect_emb_val win0_4 t y 0 rfl).trans (congrArg (· * 1024 + (y 0).val) (congrFun (index4 t) 0))
  have e1 := (Pipeline.Window.rect_emb_val win0_4 t y 1 rfl).trans (congrArg (· * 1024 + (y 1).val) (congrFun (index4 t) 1))
  obtain ⟨r, j, rfl⟩ : ∃ (r j : Fin 1024), y = ix2 r j := ⟨y 0, y 1, (ix2_eta y).symm⟩
  refine (block_at m c t r j (((cfg0.win 4).blk t).view.emb (ix2 r j) 0) e0).trans ?_
  have hj : (((cfg0.win 4).blk t).view.emb (ix2 r j) 1) = j := Fin.ext (e1.trans (Nat.zero_add _))
  show _ = combinedAt m c (((cfg0.win 4).blk t).view.emb (ix2 r j) 0) (((cfg0.win 4).blk t).view.emb (ix2 r j) 1)
  rw [hj]

end Cert.CombIdeal.Combine
end
-- ==== Proof.CombRefValue.lean ====
module
public import proofs.«01_k».proof.Proof.Gen.CombRefIdeal.Run
public import proofs.«01_k».proof.Proof.ExpertMath
public import Idealize.ShloMosaic.Lib.StableHlo.ReadAt
public import Idealize.ShloMosaic.Lib.Routing.Ops
/-!
# What the combination's reference computes

A token's row plus its two experts' rows, each times its weight, divided by the root mean square and times the gain.
-/
@[expose] public section
set_option maxRecDepth 16384
noncomputable section
namespace Cert.CombRefIdeal.Combine
open Cert.CombRefIdeal Cert.CombRefIdeal.Gen Cert.CombRefIdeal.Value Cert.ExpertMath
open Idealize.ShloMosaic Idealize.SL.Sem
open Idealize.ShloMosaic.TcCoe Idealize.ShloMosaic.Tactic

variable (d : IVec S32768 32) (x : FVec Ideal S16384x1024 .f32) (w : FVec Ideal S16384x128 .f32) (g : FVec Ideal S1x1024 .f32) (ys : FVec Ideal S36864x1024 .f32)

/-- The words of the tokens' first experts, and of their second. -/
def firsts : IVec S16384x1 32 :=
  broadcastInDim S16384x1 ![0] bcast_S16384_S16384x1_0 (shapeCast _ (extractStridedSlice S16384x1 ![0, 0] (shapeCast _ d shapeCasts_S32768_S16384x2) slices_S16384x2_S16384x1_0_0) shapeCasts_S16384x1_S16384)
def seconds : IVec S16384x1 32 :=
  broadcastInDim S16384x1 ![0] bcast_S16384_S16384x1_0 (shapeCast _ (extractStridedSlice S16384x1 ![0, 1] (shapeCast _ d shapeCasts_S32768_S16384x2) slices_S16384x2_S16384x1_0_1) shapeCasts_S16384x1_S16384)

theorem firsts_at (i : Fin 16384) : firsts d (ix2 i 0) = d (ix1 ⟨2 * i.val, by omega⟩) := by
  pointwise [firsts]
  exact congrArg (fun q => d (ix1 q)) (Fin.ext (Nat.mul_comm _ _))
theorem seconds_at (i : Fin 16384) : seconds d (ix2 i 0) = d (ix1 ⟨2 * i.val + 1, by omega⟩) := by
  pointwise [seconds]
  exact congrArg (fun q => d (ix1 q)) (Fin.ext (congrArg (· + 1) (Nat.mul_comm _ _)))

/-- The rows the words name. -/
def named (v : IVec S16384x1 32) : FVec Ideal S16384x1024 .f32 := Host.gather gather_S36864x1024_S16384x1_S16384x1024_1_0_n_n_0_1_11024 ys v

theorem named_at (v : IVec S16384x1 32) (i : Fin 16384) (j : Fin 1024) (r : Fin 36864) (h : (v (ix2 i 0)).toNat = r.val) : named ys v (ix2 i j) = ys (ix2 r j) :=
  Routing.gather_row (nb := 36864) (B := 1024) (n := 16384) _ rfl rfl rfl rfl rfl ys v i j r (by rw [← h, BitVec.ofNat_toNat, BitVec.setWidth_eq]; rfl) (by decide)

/-- The rows before the normalisation. -/
def sums : FVec Ideal S16384x1024 .f32 :=
  addf (addf x (mulf (broadcastInDim S16384x1024 ![0, 1] bcast_S16384x1_S16384x1024_0_1 (extractStridedSlice S16384x1 ![0, 4] w slices_S16384x128_S16384x1_0_4)) (named ys (firsts d))))
    (mulf (broadcastInDim S16384x1024 ![0, 1] bcast_S16384x1_S16384x1024_0_1 (extractStridedSlice S16384x1 ![0, 5] w slices_S16384x128_S16384x1_0_5)) (named ys (seconds d)))

theorem sums_at (i : Fin 16384) (j : Fin 1024) :
    sums d x w ys (ix2 i j) = (x (ix2 i j) + w (ix2 i 4) * named ys (firsts d) (ix2 i j) + w (ix2 i 5) * named ys (seconds d) (ix2 i j) : EReal) := by
  pointwise [sums]

/-- The rows over their root mean squares, times the gain. -/
def normal (s : FVec Ideal S16384x1024 .f32) : FVec Ideal S16384x1024 .f32 :=
  mulf (mulf s (broadcastInDim S16384x1024 ![0, 1] bcast_S16384x1_S16384x1024_0_1 (Host.rsqrt (addf (Host.divf (broadcastInDim S16384x1 ![0] bcast_S16384_S16384x1_0
    (Host.reduceAdd (mulf s s) (constant S_ .f32 0x00000000#32) reducesTo_S16384x1024_S16384_d1 h_S_)) (broadcastInDim S16384x1 ![] bcast_S_S16384x1 (constant S_ .f32 0x44800000#32)))
    (broadcastInDim S16384x1 ![] bcast_S_S16384x1 (constant S_ .f32 0x3727C5AC#32))))))
    (broadcastInDim S16384x1024 ![0, 1] bcast_S1x1024_S16384x1024_0_1 g)

theorem normal_at (s : FVec Ideal S16384x1024 .f32) (i : Fin 16384) (j : Fin 1024) :
    normal g s (ix2 i j) = normed (fun k => s (ix2 i k)) (fun k => g (ix2 0 k)) j := by
  pointwise [normal]
  rfl

variable (m : (ℓ : Loc nD τ sig) → Buf (Elt Ideal) ℓ) (ρ : Dev nD → PrngReg)

theorem run_at : θ_run defs (onTc (τ := τ) (main (F := Ideal))) ⟨m, fun _ => 0, ρ⟩ fun r => ∀ c : Dev nD,
      r.2.mem ((c.tc : Thread nD τ).loc main_v26) = normal (m ((c.tc : Thread nD τ).loc main_arg3)) (sums (m ((c.tc : Thread nD τ).loc main_arg0)) (m ((c.tc : Thread nD τ).loc main_arg1))
        (m ((c.tc : Thread nD τ).loc main_arg2)) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans rfl, (h c).2⟩) (run m ρ)

end Cert.CombRefIdeal.Combine
end
-- ==== Proof.CombClaims.lean ====
module
public import proofs.«01_k».proof.Defs
public import proofs.«01_k».proof.Proof.Gen.Comb
public import proofs.«01_k».proof.Proof.Gen.Comb.Launch
public import proofs.«01_k».proof.Proof.CombValue
public import proofs.«01_k».proof.Proof.CombRefValue
public import Idealize.ShloMosaic.Adequacy
public import Idealize.ShloMosaic.Init
/-!
# The claims about the combining kernel

The kernel and its idealisation are one program, so both frames are the one run. The value claim: on both sides a number
is the token's row plus its two experts' weighted rows, normalised.
-/
@[expose] public section
set_option maxRecDepth 16384
noncomputable section
namespace Cert.CombIdeal.Combine
open Cert.CombIdeal Cert.CombIdeal.Gen Cert.ExpertMath
open Idealize.ShloMosaic Idealize.SL.Sem
open Idealize.ShloMosaic.TcCoe Idealize.ShloMosaic.Tactic

section Run
variable {F : FTy → Type} [FloatOps F]

/-! ## One program -/

theorem body_eq (i a1 h1 a2 h2 a3 h3 a4 h4 a5 h5 a6 h6 a7 h7 a8) :
    Cert.Comb.cc0_moe_combine (F := F) i a1 h1 a2 h2 a3 h3 a4 h4 a5 h5 a6 h6 a7 h7 a8 = cc0_moe_combine (F := F) i a1 h1 a2 h2 a3 h3 a4 h4 a5 h5 a6 h6 a7 h7 a8 := rfl

theorem defs0_eq : Cert.Comb.defs₀ (F := F) = defs₀ (F := F) := by
  unfold Cert.Comb.defs₀ defs₀
  refine congrArg Defs.onTc (funext fun l => funext fun a => ?_)
  match l, a with
  | 0, (t, s) => exact body_eq (F := F) _ _ _ _ _ _ _ _ _ _ _ _ _ _ _ _
  | ⟨_ + 1, h⟩, _ => exact absurd h (Nat.not_lt.2 (Nat.le_add_left _ _))

theorem defs_eq : Cert.Comb.defs (F := F) = defs (F := F) := congrArg (Pipeline.defs (pcfgs (F := F))) defs0_eq

theorem main_eq : Cert.Comb.main (F := F) = main (F := F) := funext fun c =>
  (Cert.Comb.Gen.main_chain (F := F) c).trans (main_chain (F := F) c).symm

/-! ## The run, read -/

variable {m : (ℓ : Loc nD τ sig) → Buf (Elt F) ℓ} (ρ : Dev nD → PrngReg)

theorem run_read [∀ e, Nonempty (Elt F e)] (hr : RowsExist m) :
    θ_run (defs (F := F)) (onTc (τ := τ) (main (F := F))) ⟨m, fun _ => 0, ρ⟩ fun r =>
      (∀ c : Dev nD, r.2.mem ((c.tc : Thread nD τ).loc main_v0) = (dats m 0 c).arrAt (4 : Fin 5) cfg0.N
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
      ∧ r.2.sem = fun _ => 0 :=
  (θ_run (defs (F := F)) _ _).mono (fun r h => ⟨fun c => ⟨(h.1 c).1 (4 : Fin 5),
      ((h.1 c).1 (0 : Fin 5)).trans (((dats m 0 c).arrAt_in (0 : Fin 5) rfl _).trans (V_main_arg0 m c)),
      ((h.1 c).1 (1 : Fin 5)).trans (((dats m 0 c).arrAt_in (1 : Fin 5) rfl _).trans (V_main_arg1 m c)),
      ((h.1 c).1 (2 : Fin 5)).trans (((dats m 0 c).arrAt_in (2 : Fin 5) rfl _).trans (V_main_arg2 m c)),
      ((h.1 c).1 (3 : Fin 5)).trans (((dats m 0 c).arrAt_in (3 : Fin 5) rfl _).trans (V_main_arg3 m c)),
      ((h.1 c).2.1 main_arg4 (Finset.mem_singleton.mpr rfl)).trans (V_main_arg4 m c)⟩, h.2⟩)
    (run_main ρ hr)

theorem run_args [∀ e, Nonempty (Elt F e)] (hr : RowsExist m) :
    θ_run (defs (F := F)) (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
      ∧ r.2.sem = fun _ => 0 :=
  (θ_run (defs (F := F)) _ _).mono (fun _ h => ⟨fun c => (h.1 c).2, h.2⟩) (run_read ρ hr)

end Run

theorem frame_comb : Cert.quiescent_Comb := fun m ρ hp => by
  rw [defs_eq, main_eq]
  exact run_args (F := Bits) (m := m) ρ fun c i => rows_of_pre m (hp c) i

theorem frame_comb_ideal : Cert.quiescent_CombIdeal := fun m ρ hp => run_args (F := Ideal) ρ fun c i => rows_of_pre m (hp c) i

theorem frame_comb_ref : Cert.quiescent_CombRefIdeal := fun m ρ _ =>
  (θ_run Cert.CombRefIdeal.defs _ _).mono (fun r h => ⟨fun c => (h c).2, sem_eq_zero_of_no_sems (by decide) r.2⟩)
    (Cert.CombRefIdeal.Value.run (F := Ideal) m ρ)

theorem algebraic_comb : Cert.algebraic_CombIdeal_CombRefIdeal := fun m ρ m' ρ' hp hagree => by
  have hr : RowsExist m := fun c i => rows_of_pre m (hp c) i
  refine ⟨fun c => (dats m 0 c).arrAt (4 : Fin 5) cfg0.N,
    (θ_run (Cert.CombIdeal.defs (F := Ideal)) _ _).mono (fun _ h c => h.1 c) (run_read (F := Ideal) ρ hr),
    (θ_run Cert.CombRefIdeal.defs _ _).mono (fun r h c => ⟨(h c).1.trans ?_, (h c).2⟩) (Cert.CombRefIdeal.Combine.run_at m' ρ')⟩
  obtain ⟨e0, e1, e2, e3, e4⟩ := hagree c
  refine funext fun y => ?_
  obtain ⟨i, j, rfl⟩ : ∃ (i : Fin 16384) (j : Fin 1024), y = ix2 i j := ⟨y 0, y 1, (ix2_eta y).symm⟩
  refine ((Cert.CombRefIdeal.Combine.normal_at _ _ i j).trans ?_).trans (congrFun (final m c) (ix2 i j)).symm
  show _ = combinedAt m c i j
  refine congrArg₂ (fun x g => normed x g j) (funext fun k => ?_) (funext fun k => congrFun e3 (ix2 0 k))
  have hv (q : Fin 32768) : (wordsOf m c (ix1 q)).toNat = (rowOf (wordsOf m c (ix1 q))).val := (rowOf_val (hr c _)).symm
  refine (Cert.CombRefIdeal.Combine.sums_at _ _ _ _ i k).trans ?_
  rw [e0, e1, e2, e4]
  unfold sumAt
  refine congrArg₂ (fun a b : EReal => _ + _ * a + _ * b) ?_ ?_
  · exact Cert.CombRefIdeal.Combine.named_at _ _ i k _ ((congrArg BitVec.toNat (Cert.CombRefIdeal.Combine.firsts_at _ i)).trans (hv ⟨2 * i.val, by omega⟩))
  · exact Cert.CombRefIdeal.Combine.named_at _ _ i k _ ((congrArg BitVec.toNat (Cert.CombRefIdeal.Combine.seconds_at _ i)).trans (hv ⟨2 * i.val + 1, by omega⟩))

end Cert.CombIdeal.Combine
end
-- ==== Proof.PostClaims.lean ====
module
public import proofs.«01_k».proof.Defs
public import proofs.«01_k».proof.Proof.Gen.Post.Frame
public import proofs.«01_k».proof.Proof.Gen.PostIdeal.Value
public import proofs.«01_k».proof.Proof.Gen.PostRefIdeal.Run
public import Idealize.ShloMosaic.Lib.Pointwise
public import Idealize.ShloMosaic.Lib.Pipeline.ReadBack
public import Idealize.ShloMosaic.Lib.Pipeline.ValueKit
public import Idealize.ShloMosaic.Lib.StableHlo.ReadAt
public import Idealize.ShloMosaic.Adequacy
public import Idealize.ShloMosaic.Init
/-!
# The claims about the kernel of the time mix's output projection

On both sides a number is the input's plus the product of the gated row with a column of the weight. The kernel takes a
tile of 512 rows at each of its 32 points.
-/
@[expose] public section
set_option maxRecDepth 16384
noncomputable section
namespace Cert.PostIdeal.Mix
open Cert.PostIdeal Cert.PostIdeal.Gen
open Idealize.ShloMosaic Idealize.SL.Sem
open Idealize.ShloMosaic.TcCoe Idealize.ShloMosaic.Tactic

/-- The result at one row and column. -/
def mixAt {n : ℕ} (x : EReal) (z g w : Fin n → EReal) : EReal := x + ∑ k, z k * g k * w k

theorem stored_at (x z g : Vec Ideal S512x1024 .f32) (w : Vec Ideal S1024x1024 .bf16) (r : Fin 512) (j : Fin 1024) :
    k0_pay1 x z g w (ix2 r j) = mixAt (x (ix2 r j)) (fun k : Fin 1024 => z (ix2 r k)) (fun k => g (ix2 r k)) (fun k => w (ix2 k j)) := by
  pointwise [k0_pay1]
  rfl

theorem block_eq (z g x : Vec Ideal S512x1024 .f32) (w : Vec Ideal S1024x1024 .bf16) : out0_4 z g x w = k0_pay1 x z g w := by
  frame_out

variable (m : (ℓ : Loc nD τ sig) → Buf (Elt Ideal) ℓ) (c : Dev nD)

theorem index0 : ∀ t : Fin grid0.N, win0_0.index t = ![t.val, 0] := by decide +kernel
theorem index1 : ∀ t : Fin grid0.N, win0_1.index t = ![t.val, 0] := by decide +kernel
theorem index2 : ∀ t : Fin grid0.N, win0_2.index t = ![t.val, 0] := by decide +kernel
theorem index3 : ∀ t : Fin grid0.N, win0_3.index t = ![0, 0] := by decide +kernel
theorem index4 : ∀ t : Fin grid0.N, win0_4.index t = ![t.val, 0] := by decide +kernel

theorem weight_at (y : S1024x1024.Idx) : V m c main_v1 y = m ((c.tc : Thread nD τ).loc main_arg3) (ix3 0 (y 0) (y 1)) := by
  after_reads_at

variable (t : Fin cfg0.N)

theorem z_at (r : Fin 512) (k : Fin 1024) (i : Fin 16384) (hi : i.val = t.val * 512 + r.val) :
    iblk m c 0 t (ix2 r k) = m ((c.tc : Thread nD τ).loc main_arg0) (ix2 i k) := by
  refine Eq.trans (congrArg (V m c main_arg0) (?_ : _ = ix2 i k)) (congrFun (V_main_arg0 m c) _)
  refine funext fun d => Fin.ext ((Pipeline.Window.rect_emb_val win0_0 t (ix2 r k) d rfl).trans ?_)
  rw [index0]
  match d with
  | ⟨0, _⟩ => exact hi.symm
  | ⟨1, _⟩ => exact Nat.zero_add _
theorem g_at (r : Fin 512) (k : Fin 1024) (i : Fin 16384) (hi : i.val = t.val * 512 + r.val) :
    iblk m c 1 t (ix2 r k) = m ((c.tc : Thread nD τ).loc main_arg1) (ix2 i k) := by
  refine Eq.trans (congrArg (V m c main_arg1) (?_ : _ = ix2 i k)) (congrFun (V_main_arg1 m c) _)
  refine funext fun d => Fin.ext ((Pipeline.Window.rect_emb_val win0_1 t (ix2 r k) d rfl).trans ?_)
  rw [index1]
  match d with
  | ⟨0, _⟩ => exact hi.symm
  | ⟨1, _⟩ => exact Nat.zero_add _
theorem x_at (r : Fin 512) (k : Fin 1024) (i : Fin 16384) (hi : i.val = t.val * 512 + r.val) :
    iblk m c 2 t (ix2 r k) = m ((c.tc : Thread nD τ).loc main_arg2) (ix2 i k) := by
  refine Eq.trans (congrArg (V m c main_arg2) (?_ : _ = ix2 i k)) (congrFun (V_main_arg2 m c) _)
  refine funext fun d => Fin.ext ((Pipeline.Window.rect_emb_val win0_2 t (ix2 r k) d rfl).trans ?_)
  rw [index2]
  match d with
  | ⟨0, _⟩ => exact hi.symm
  | ⟨1, _⟩ => exact Nat.zero_add _
theorem w_at (k j : Fin 1024) : iblk m c 3 t (ix2 k j) = m ((c.tc : Thread nD τ).loc main_arg3) (ix3 0 k j) := by
  refine Eq.trans (congrArg (V m c main_v1) (?_ : _ = ix2 k j)) (weight_at m c _)
  refine funext fun d => Fin.ext ((Pipeline.Window.rect_emb_val win0_3 t (ix2 k j) d rfl).trans ?_)
  rw [index3]
  match d with
  | ⟨0, _⟩ => exact Nat.zero_add _
  | ⟨1, _⟩ => exact Nat.zero_add _

/-- The result at a row and column of the whole array. -/
def result (i : Fin 16384) (j : Fin 1024) : EReal :=
  mixAt (m ((c.tc : Thread nD τ).loc main_arg2) (ix2 i j)) (fun k : Fin 1024 => m ((c.tc : Thread nD τ).loc main_arg0) (ix2 i k))
    (fun k => m ((c.tc : Thread nD τ).loc main_arg1) (ix2 i k)) (fun k => m ((c.tc : Thread nD τ).loc main_arg3) (ix3 0 k j))

theorem block_at (r : Fin 512) (j : Fin 1024) (i : Fin 16384) (hi : i.val = t.val * 512 + r.val) :
    out0_4 (iblk m c 0 t) (iblk m c 1 t) (iblk m c 2 t) (iblk m c 3 t) (ix2 r j) = result m c i j := by
  have ez : (fun k => iblk m c 0 t (ix2 r k)) = _ := funext fun k => z_at m c t r k i hi
  have eg : (fun k => iblk m c 1 t (ix2 r k)) = _ := funext fun k => g_at m c t r k i hi
  have ew : (fun k => iblk m c 3 t (ix2 k j)) = _ := funext fun k => w_at m c t k j
  rw [block_eq]
  refine (stored_at ..).trans ?_
  rw [x_at m c t r j i hi, ez, eg, ew]
  rfl

/-- Every row is written at its tile's point. -/
theorem final : (dats m 0 c).arrAt 4 cfg0.N = (fun y : S16384x1024.Idx => result m c (y 0) (y 1) : S16384x1024.Idx → EReal) := by
  refine (dats m 0 c).arrAt_eq_of_covers 4 _ (by decide +kernel) fun t _ y => ?_
  have e0 := (Pipeline.Window.rect_emb_val win0_4 t y 0 rfl).trans (congrArg (· * 512 + (y 0).val) (congrFun (index4 t) 0))
  have e1 := (Pipeline.Window.rect_emb_val win0_4 t y 1 rfl).trans (congrArg (· * 1024 + (y 1).val) (congrFun (index4 t) 1))
  show (dats m 0 c).after 4 t y = _
  rw [after0_4]
  obtain ⟨r, j, rfl⟩ : ∃ (r : Fin 512) (j : Fin 1024), y = ix2 r j := ⟨y 0, y 1, (ix2_eta y).symm⟩
  refine (block_at m c t r j (((cfg0.win 4).blk t).view.emb (ix2 r j) 0) e0).trans ?_
  have hj : (((cfg0.win 4).blk t).view.emb (ix2 r j) 1) = j := Fin.ext (e1.trans (Nat.zero_add _))
  show _ = result m c (((cfg0.win 4).blk t).view.emb (ix2 r j) 0) (((cfg0.win 4).blk t).view.emb (ix2 r j) 1)
  rw [hj]

/-- The reference's term at a row and column. -/
theorem reference_at (z g x : FVec Ideal Cert.PostRefIdeal.S16384x1024 .f32) (w : FVec Ideal Cert.PostRefIdeal.S1x1024x1024 .f32) (i : Fin 16384) (j : Fin 1024) :
    (addf x (Host.dotGeneral Cert.PostRefIdeal.dot_S16384x1024_S1024x1024_S16384x1024_1_0_0_1_n_n none (mulf z g) (shapeCast _ w Cert.PostRefIdeal.Facts₀.shapeCasts_S1x1024x1024_S1024x1024)) : FVec Ideal _ .f32) (ix2 i j)
      = mixAt (x (ix2 i j)) (fun k : Fin 1024 => z (ix2 i k)) (fun k => g (ix2 i k)) (fun k => w (ix3 0 k j)) := by
  pointwise []
  rfl

theorem frame_post : Cert.quiescent_Post := fun m ρ _ => Cert.Post.Gen.frame m ρ

theorem frame_post_ideal : Cert.quiescent_PostIdeal := fun m ρ _ => Cert.PostIdeal.Gen.frame m ρ

theorem frame_post_ref : Cert.quiescent_PostRefIdeal := fun m ρ _ =>
  (θ_run Cert.PostRefIdeal.defs _ _).mono (fun r h => ⟨fun c => (h c).2, sem_eq_zero_of_no_sems (by decide) r.2⟩)
    (Cert.PostRefIdeal.Value.run (F := Ideal) m ρ)

theorem algebraic_post : Cert.algebraic_PostIdeal_PostRefIdeal := fun m ρ m' ρ' _ hagree => by
  refine ⟨fun c => (dats m 0 c).arrAt 4 cfg0.N, Cert.PostIdeal.Value.run_blocks m ρ,
    (θ_run Cert.PostRefIdeal.defs _ _).mono (fun r hr c => ⟨?_, (hr c).2⟩) (Cert.PostRefIdeal.Value.run (F := Ideal) m' ρ')⟩
  obtain ⟨e0, e1, e2, e3⟩ := hagree c
  refine funext fun y => ?_
  obtain ⟨i, j, rfl⟩ : ∃ (i : Fin 16384) (j : Fin 1024), y = ix2 i j := ⟨y 0, y 1, (ix2_eta y).symm⟩
  refine ((congrFun (hr c).1 (ix2 i j)).trans (reference_at _ _ _ _ i j)).trans (Eq.trans ?_ (congrFun (final m c) (ix2 i j)).symm)
  rw [e0, e1, e2, e3]
  rfl

end Cert.PostIdeal.Mix
end
-- ==== Proof.ProjBody.lean ====
module
public import proofs.«01_k».proof.Proof.Gen.ProjIdeal.Value
public import proofs.«01_k».proof.Proof.ExpertMath
public import Idealize.ShloMosaic.Lib.Pipeline.ReadBack
public import Idealize.ShloMosaic.Lib.Pipeline.ValueKit
/-!
# What a point of the attention's projections writes

Each of the nine blocks is a product of the normalised tile with 512 columns of a weight, with the rows by their residue.
-/
@[expose] public section
set_option maxRecDepth 16384
noncomputable section
namespace Cert.ProjIdeal.Attn
open Cert.ProjIdeal Cert.ProjIdeal.Gen Cert.ExpertMath
open Idealize.ShloMosaic
open Idealize.ShloMosaic.TcCoe Idealize.ShloMosaic.Tactic

/-- A row times a column of a block of 512 columns. -/
def projected (h : Vec Ideal S512x1024 .bf16) (w : Vec Ideal S1024x512 .bf16) (r j : Fin 512) : EReal :=
  ∑ k : Fin 1024, (h (ix2 r k) : EReal) * w (ix2 k j)

/-- The same times the word of 1/8. -/
def scaled (h : Vec Ideal S512x1024 .bf16) (w : Vec Ideal S1024x512 .bf16) (r j : Fin 512) : EReal :=
  projected h w r j * Ideal.ofBits .f32 0x3E000000#32

theorem product_at (h : Vec Ideal S512x1024 .bf16) (w : Vec Ideal S1024x512 .bf16) (r j : Fin 512) :
    k0_pay13 h w (ix2 r j) = projected h w r j := by
  pointwise [k0_pay13]
  rfl

/-- The four tiles of 128 columns of a block. -/
def tile (o : ℕ) (s : S512x512.Slices ![0, o] S512x128) (y : FVec Ideal S512x512 .f32) : FVec Ideal S1x512x128 .f32 :=
  shapeCast S1x512x128 (extractStridedSlice S512x128 ![0, o] y s) shapeCasts_S512x128_S1x512x128

theorem tile_at (o : ℕ) (s : S512x512.Slices ![0, o] S512x128) (y : FVec Ideal S512x512 .f32) (r : Fin 512) (l : Fin 128) (h : o + l.val < 512) : tile o s y (ix3 0 r l) = y (ix2 r ⟨o + l.val, h⟩) := by
  pointwise [tile]

def tileScaled (o : ℕ) (s : S512x512.Slices ![0, o] S512x128) (y : FVec Ideal S512x512 .f32) : FVec Ideal S1x512x128 .f32 :=
  shapeCast S1x512x128 (mulf (extractStridedSlice S512x128 ![0, o] y s) (broadcast S512x128 (Scalar.ofBits .f32 0x3E000000#32))) shapeCasts_S512x128_S1x512x128

theorem tileScaled_at (o : ℕ) (s : S512x512.Slices ![0, o] S512x128) (y : FVec Ideal S512x512 .f32) (r : Fin 512) (l : Fin 128) (h : o + l.val < 512) :
    tileScaled o s y (ix3 0 r l) = (y (ix2 r ⟨o + l.val, h⟩) : EReal) * Ideal.ofBits .f32 0x3E000000#32 := by
  pointwise [tileScaled]

theorem row_q (x : Vec Ideal S1x512x1024 .f32) (g : Vec Ideal S8x1024 .f32) (r : Fin 512) (k : Fin 1024) :
    k0_pay6 x g (ix2 r k) = normed (fun k => x (ix3 0 r k)) (fun k => g (ix2 0 k)) k := by
  pointwise [k0_pay6, k0_pay5, k0_pay4]
  rfl
theorem row_kv (x : Vec Ideal S1x512x1024 .f32) (g : Vec Ideal S8x1024 .f32) (r : Fin 512) (k : Fin 1024) :
    k0_pay7 x g (ix2 r k) = normed (fun k => x (ix3 0 r k)) (fun k => g (ix2 1 k)) k := by
  pointwise [k0_pay7, k0_pay5, k0_pay4]
  rfl

theorem down512 (v : Vec Ideal S1x512x128 .f32) (p : Fin 512) (l : Fin 128) : k0_pay18 v (ix4 0 0 p l) = v (ix3 0 p l) := by
  pointwise [k0_pay18]
theorem down128 (v : Vec Ideal S1x128x128 .f32) (p : Fin 128) (l : Fin 128) : k0_pay28 v (ix4 0 0 p l) = v (ix3 0 p l) := by
  pointwise [k0_pay28]

theorem tileScaled_eq (o : ℕ) (s : S512x512.Slices ![0, o] S512x128) (h : Vec Ideal S512x1024 .bf16) (w : Vec Ideal S1024x512 .bf16) (r : Fin 512) (l : Fin 128) (hl : o + l.val < 512) :
    tileScaled o s (k0_pay13 h w) (ix3 0 r l) = scaled h w r ⟨o + l.val, hl⟩ :=
  (tileScaled_at o s _ r l hl).trans (congrArg (fun a : EReal => a * Ideal.ofBits .f32 0x3E000000#32) (product_at h w r _))
theorem tile_eq (o : ℕ) (s : S512x512.Slices ![0, o] S512x128) (h : Vec Ideal S512x1024 .bf16) (w : Vec Ideal S1024x512 .bf16) (r : Fin 512) (l : Fin 128) (hl : o + l.val < 512) :
    tile o s (k0_pay13 h w) (ix3 0 r l) = projected h w r ⟨o + l.val, hl⟩ :=
  (tile_at o s _ r l hl).trans (product_at h w r _)

/-- A strided load of a tile reads its stored rows. -/
theorem strided_at {n : ℕ} (v : View sig .tc .vmem ⟨3, ![n, 512, 128]⟩ .f32) (L) (w : Vec Ideal S1x512x128 .f32) (c res d P : ℕ) (inb inb')
    (p : Fin P) (l : Fin 128) (h : res + d * p.val < 512) :
    v.readCov ((⟨Rect.unit (s := ⟨3, ![n, 512, 128]⟩) ![c, 0, 0] ![1, 512, 128] inb, w⟩ : View.Piece (Elt Ideal) _ .f32) :: L) ⟨![c, res, 0], ![1, P, 128], ![1, d, 1], inb'⟩ (ix3 0 p l)
      = w (ix3 0 ⟨res + d * p.val, h⟩ l) := by
  rw [View.readCov_eq_canon']
  have e : (⟨![c, res, 0], ![1, P, 128], ![1, d, 1], inb'⟩ : LoadRect ⟨3, ![n, 512, 128]⟩).idx (ix3 0 p l)
      = (Rect.unit (s := ⟨3, ![n, 512, 128]⟩) ![c, 0, 0] ![1, 512, 128] inb).emb (ix3 0 ⟨res + d * p.val, h⟩ l) := by
    refine funext fun a => Fin.ext ?_
    match a with
    | ⟨0, _⟩ => rfl
    | ⟨1, _⟩ => show res + d * p.val = 0 + 1 * (res + d * p.val); omega
    | ⟨2, _⟩ => rfl
  show View.canon _ ((⟨![c, res, 0], ![1, P, 128], ![1, d, 1], inb'⟩ : LoadRect ⟨3, ![n, 512, 128]⟩).idx (ix3 0 p l)) = _
  rw [e]
  exact View.canon_cons_emb (Rect.unit (s := ⟨3, ![n, 512, 128]⟩) ![c, 0, 0] ![1, 512, 128] inb) w L (ix3 0 ⟨res + d * p.val, h⟩ l)

theorem down32 (v : Vec Ideal S1x32x128 .f32) (p : Fin 32) (l : Fin 128) : k0_pay1 v (ix4 0 0 p l) = v (ix3 0 p l) := by
  pointwise [k0_pay1]

/-- An array of one batch, `d` residues, `P` rows each and 512 columns, from the values of 512 rows. -/
def residues (d P : ℕ) (hd : P * d = 512) (F : Fin 512 → Fin 512 → EReal) : (⟨4, ![1, d, P, 512]⟩ : Shape).Idx → EReal := fun y =>
  F ⟨(y 1).val + d * (y 2).val, by
    have h1 : (y 1).val < d := (y 1).isLt
    have h2 : (y 2).val + 1 ≤ P := (y 2).isLt
    calc (y 1).val + d * (y 2).val < d + d * (y 2).val := by omega
      _ = ((y 2).val + 1) * d := by ring
      _ ≤ P * d := Nat.mul_le_mul_right _ h2
      _ = 512 := hd⟩ (y 3)

theorem piece {n d P : ℕ} (hd : P * d = 512) (F : Fin 512 → Fin 512 → EReal) (out : Vec Ideal ⟨4, ![1, 1, P, 128]⟩ .bf16) (down : Vec Ideal ⟨3, ![1, P, 128]⟩ .f32 → Vec Ideal ⟨4, ![1, 1, P, 128]⟩ .bf16)
    (hdown : ∀ v p l, down v (ix4 0 0 p l) = v (ix3 0 p l)) (v : View sig .tc .vmem ⟨3, ![n, 512, 128]⟩ .f32) (L) (w w' : Vec Ideal S1x512x128 .f32) (c res o : ℕ) (inb inb' inb4)
    (e : out = down (v.readCov ((⟨Rect.unit (s := ⟨3, ![n, 512, 128]⟩) ![c, 0, 0] ![1, 512, 128] inb, w⟩ : View.Piece (Elt Ideal) _ .f32) :: L) ⟨![c, res, 0], ![1, P, 128], ![1, d, 1], inb'⟩))
    (hw : ∀ r (l : Fin 128) (h : o + l.val < 512), w' (ix3 0 r l) = F r ⟨o + l.val, h⟩) (ew : w = w') (x : (⟨4, ![1, 1, P, 128]⟩ : Shape).Idx) :
    out x = residues d P hd F ((Rect.unit (s := ⟨4, ![1, d, P, 512]⟩) ![0, res, 0, o] ![1, 1, P, 128] inb4).emb x) := by
  subst e ew
  obtain ⟨p, l, rfl⟩ : ∃ (p : Fin P) (l : Fin 128), x = ix4 0 0 p l := ⟨x 2, x 3, funext fun a => by
    match a with
    | ⟨0, _⟩ => exact Subsingleton.elim (α := Fin 1) _ _
    | ⟨1, _⟩ => exact Subsingleton.elim (α := Fin 1) _ _
    | ⟨2, _⟩ => rfl
    | ⟨3, _⟩ => rfl⟩
  have ho : o + l.val < 512 := by have h : o + 128 ≤ 512 := inb4 3; omega
  have hr : res + d * p.val < 512 := by
    have h : res + 1 ≤ d := inb4 1
    have h2 : p.val + 1 ≤ P := p.isLt
    calc res + d * p.val < d + d * p.val := by omega
      _ = (p.val + 1) * d := by ring
      _ ≤ P * d := Nat.mul_le_mul_right _ h2
      _ = 512 := hd
  refine (hdown _ p l).trans ((strided_at v L w c res d P inb inb' p l hr).trans ((hw _ l ho).trans ?_))
  unfold residues
  refine congrArg₂ F (Fin.ext ?_) (Fin.ext ?_)
  · show res + d * p.val = (res + 1 * 0) + d * (0 + 1 * p.val)
    simp only [Nat.one_mul, Nat.mul_zero, Nat.add_zero, Nat.zero_add]
  · show o + l.val = o + 1 * l.val; omega

/-- A whole tile, stored where its columns belong. -/
theorem piece_whole (F : Fin 512 → Fin 512 → EReal) (out : Vec Ideal S1x1x512x128 .bf16) (w w' : Vec Ideal S1x512x128 .f32) (o : ℕ) (inb4) (e : out = k0_pay18 w)
    (hw : ∀ r (l : Fin 128) (h : o + l.val < 512), w' (ix3 0 r l) = F r ⟨o + l.val, h⟩) (ew : w = w') (x : S1x1x512x128.Idx) :
    out x = residues 1 512 rfl F ((Rect.unit (s := S1x1x512x512) ![0, 0, 0, o] ![1, 1, 512, 128] inb4).emb x) := by
  subst e ew
  obtain ⟨p, l, rfl⟩ : ∃ (p : Fin 512) (l : Fin 128), x = ix4 0 0 p l := ⟨x 2, x 3, funext fun a => by
    match a with
    | ⟨0, _⟩ => exact Subsingleton.elim (α := Fin 1) _ _
    | ⟨1, _⟩ => exact Subsingleton.elim (α := Fin 1) _ _
    | ⟨2, _⟩ => rfl
    | ⟨3, _⟩ => rfl⟩
  have ho : o + l.val < 512 := by have h : o + 128 ≤ 512 := inb4 3; omega
  refine (down512 w p l).trans ((hw _ l ho).trans ?_)
  unfold residues
  refine congrArg₂ F (Fin.ext ?_) (Fin.ext ?_)
  · show p.val = (0 + 1 * 0) + 1 * (0 + 1 * p.val); omega
  · show o + l.val = o + 1 * l.val; omega

/-- A list of stored pieces, a whole tile or a tile's residue at its head. -/
theorem cons_whole (F : Fin 512 → Fin 512 → EReal) (out : Vec Ideal S1x1x512x128 .bf16) (w w' : Vec Ideal S1x512x128 .f32) (o : ℕ) (inb4) (rest) (e : out = k0_pay18 w)
    (hw : ∀ r (l : Fin 128) (h : o + l.val < 512), w' (ix3 0 r l) = F r ⟨o + l.val, h⟩) (ew : w = w') (t : View.PiecesOf (residues 1 512 rfl F) rest) :
    View.PiecesOf (residues 1 512 rfl F) ((⟨Rect.unit (s := S1x1x512x512) ![0, 0, 0, o] ![1, 1, 512, 128] inb4, out⟩ : View.Piece (Elt Ideal) _ .bf16) :: rest) :=
  ⟨fun x => piece_whole F out w w' o inb4 e hw ew x, t⟩

theorem cons_piece {n d P : ℕ} (hd : P * d = 512) (F : Fin 512 → Fin 512 → EReal) (out : Vec Ideal ⟨4, ![1, 1, P, 128]⟩ .bf16) (down : Vec Ideal ⟨3, ![1, P, 128]⟩ .f32 → Vec Ideal ⟨4, ![1, 1, P, 128]⟩ .bf16)
    (hdown : ∀ v p l, down v (ix4 0 0 p l) = v (ix3 0 p l)) (v : View sig .tc .vmem ⟨3, ![n, 512, 128]⟩ .f32) (L) (w w' : Vec Ideal S1x512x128 .f32) (c res o : ℕ) (inb inb' inb4) (rest)
    (e : out = down (v.readCov ((⟨Rect.unit (s := ⟨3, ![n, 512, 128]⟩) ![c, 0, 0] ![1, 512, 128] inb, w⟩ : View.Piece (Elt Ideal) _ .f32) :: L) ⟨![c, res, 0], ![1, P, 128], ![1, d, 1], inb'⟩))
    (hw : ∀ r (l : Fin 128) (h : o + l.val < 512), w' (ix3 0 r l) = F r ⟨o + l.val, h⟩) (ew : w = w') (t : View.PiecesOf (residues d P hd F) rest) :
    View.PiecesOf (residues d P hd F) ((⟨Rect.unit (s := ⟨4, ![1, d, P, 512]⟩) ![0, res, 0, o] ![1, 1, P, 128] inb4, out⟩ : View.Piece (Elt Ideal) _ .bf16) :: rest) :=
  ⟨fun x => piece hd F out down hdown v L w w' c res o inb inb' inb4 e hw ew x, t⟩

section Point
variable (c : Dev nD) (i : grid0.Coords) (arg2 : Memref sig .tc .vmem S1x512x1024 .f32) (harg2 : arg2.IsWhole) (arg3 : Memref sig .tc .vmem S8x1024 .f32) (harg3 : arg3.IsWhole)
  (arg4 : Memref sig .tc .vmem S1024x1536 .bf16) (harg4 : arg4.IsWhole) (arg5 : Memref sig .tc .vmem S1024x3072 .bf16) (harg5 : arg5.IsWhole)
  (arg6 : Memref sig .tc .vmem S1x1x512x512 .bf16) (harg6 : arg6.IsWhole) (arg7 : Memref sig .tc .vmem S1x1x512x512 .bf16) (harg7 : arg7.IsWhole) (arg8 : Memref sig .tc .vmem S1x1x512x512 .bf16) (harg8 : arg8.IsWhole)
  (arg9 : Memref sig .tc .vmem S1x4x128x512 .bf16) (harg9 : arg9.IsWhole) (arg10 : Memref sig .tc .vmem S1x4x128x512 .bf16) (harg10 : arg10.IsWhole) (arg11 : Memref sig .tc .vmem S1x4x128x512 .bf16) (harg11 : arg11.IsWhole)
  (arg12 : Memref sig .tc .vmem S1x16x32x512 .bf16) (harg12 : arg12.IsWhole) (arg13 : Memref sig .tc .vmem S1x16x32x512 .bf16) (harg13 : arg13.IsWhole) (arg14 : Memref sig .tc .vmem S1x16x32x512 .bf16) (harg14 : arg14.IsWhole)
  (arg15 : Memref sig .tc .vmem S12x512x128 .f32) (harg15 : arg15.IsWhole) (arg16 : Memref sig .tc .vmem S24x512x128 .f32) (harg16 : arg16.IsWhole)
  (x0 : Vec Ideal S1x512x1024 .f32) (x1 : Vec Ideal S8x1024 .f32) (x2 : Vec Ideal S1024x1536 .bf16) (x3 : Vec Ideal S1024x3072 .bf16)

theorem block4 : out0_A_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3
    = residues 1 512 rfl (scaled (k0_pay6 x0 x1) (View.ld x2 (Rect.unit ![0, 0] ![1024, 512] inb_S1024x1536_S1024x512_0_0))) := by
  frame_open
  try simp (disch := decide) only [↓ View.readCov_skip, ↓ View.readCov_cons_toLoadRect]
  try frame_out
  funext y
  refine View.canon_apply_of_pieces _ _ (View.PiecesOf.mem ?_) y (View.cover_of_tiledL _ ![1, 1, 512, 128] (by sl_kernel_rfl) y)
  iterate 1
    refine cons_whole _ _ _ _ 384 _ _ rfl (tileScaled_eq 384 slices_S512x512_o0_384_S512x128 _ _) rfl ?_
    refine cons_whole _ _ _ _ 256 _ _ rfl (tileScaled_eq 256 slices_S512x512_o0_256_S512x128 _ _) rfl ?_
    refine cons_whole _ _ _ _ 128 _ _ rfl (tileScaled_eq 128 slices_S512x512_o0_128_S512x128 _ _) rfl ?_
    refine cons_whole _ _ _ _ 0 _ _ rfl (tileScaled_eq 0 slices_S512x512_o0_0_S512x128 _ _) rfl ?_
  exact trivial

theorem block5 : out0_A_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3
    = residues 1 512 rfl (projected (k0_pay7 x0 x1) (View.ld x3 (Rect.unit ![0, 0] ![1024, 512] inb_S1024x3072_S1024x512_0_0))) := by
  frame_open
  try simp (disch := decide) only [↓ View.readCov_skip, ↓ View.readCov_cons_toLoadRect]
  try frame_out
  funext y
  refine View.canon_apply_of_pieces _ _ (View.PiecesOf.mem ?_) y (View.cover_of_tiledL _ ![1, 1, 512, 128] (by sl_kernel_rfl) y)
  iterate 1
    refine cons_whole _ _ _ _ 384 _ _ rfl (tile_eq 384 slices_S512x512_o0_384_S512x128 _ _) rfl ?_
    refine cons_whole _ _ _ _ 256 _ _ rfl (tile_eq 256 slices_S512x512_o0_256_S512x128 _ _) rfl ?_
    refine cons_whole _ _ _ _ 128 _ _ rfl (tile_eq 128 slices_S512x512_o0_128_S512x128 _ _) rfl ?_
    refine cons_whole _ _ _ _ 0 _ _ rfl (tile_eq 0 slices_S512x512_o0_0_S512x128 _ _) rfl ?_
  exact trivial

theorem block6 : out0_A_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3
    = residues 1 512 rfl (projected (k0_pay7 x0 x1) (View.ld x3 (Rect.unit ![0, 1536] ![1024, 512] inb_S1024x3072_S1024x512_0_1536))) := by
  frame_open
  try simp (disch := decide) only [↓ View.readCov_skip, ↓ View.readCov_cons_toLoadRect]
  try frame_out
  funext y
  refine View.canon_apply_of_pieces _ _ (View.PiecesOf.mem ?_) y (View.cover_of_tiledL _ ![1, 1, 512, 128] (by sl_kernel_rfl) y)
  iterate 1
    refine cons_whole _ _ _ _ 384 _ _ rfl (tile_eq 384 slices_S512x512_o0_384_S512x128 _ _) rfl ?_
    refine cons_whole _ _ _ _ 256 _ _ rfl (tile_eq 256 slices_S512x512_o0_256_S512x128 _ _) rfl ?_
    refine cons_whole _ _ _ _ 128 _ _ rfl (tile_eq 128 slices_S512x512_o0_128_S512x128 _ _) rfl ?_
    refine cons_whole _ _ _ _ 0 _ _ rfl (tile_eq 0 slices_S512x512_o0_0_S512x128 _ _) rfl ?_
  exact trivial

theorem block7 : out0_A_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3
    = residues 4 128 rfl (scaled (k0_pay6 x0 x1) (View.ld x2 (Rect.unit ![0, 512] ![1024, 512] inb_S1024x1536_S1024x512_0_512))) := by
  frame_open
  try simp (disch := decide) only [↓ View.readCov_skip]
  try frame_out
  funext y
  refine View.canon_apply_of_pieces _ _ (View.PiecesOf.mem ?_) y (View.cover_of_tiledL _ ![1, 1, 128, 128] (by sl_kernel_rfl) y)
  iterate 4
    refine cons_piece (n := 12) rfl _ _ k0_pay28 down128 _ _ _ _ _ _ 384 _ _ _ _ rfl (tileScaled_eq 384 slices_S512x512_o0_384_S512x128 _ _) rfl ?_
    refine cons_piece (n := 12) rfl _ _ k0_pay28 down128 _ _ _ _ _ _ 256 _ _ _ _ rfl (tileScaled_eq 256 slices_S512x512_o0_256_S512x128 _ _) rfl ?_
    refine cons_piece (n := 12) rfl _ _ k0_pay28 down128 _ _ _ _ _ _ 128 _ _ _ _ rfl (tileScaled_eq 128 slices_S512x512_o0_128_S512x128 _ _) rfl ?_
    refine cons_piece (n := 12) rfl _ _ k0_pay28 down128 _ _ _ _ _ _ 0 _ _ _ _ rfl (tileScaled_eq 0 slices_S512x512_o0_0_S512x128 _ _) rfl ?_
  exact trivial

theorem block8 : out0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3
    = residues 4 128 rfl (projected (k0_pay7 x0 x1) (View.ld x3 (Rect.unit ![0, 512] ![1024, 512] inb_S1024x3072_S1024x512_0_512))) := by
  frame_open
  try simp (disch := decide) only [↓ View.readCov_skip]
  try frame_out
  funext y
  refine View.canon_apply_of_pieces _ _ (View.PiecesOf.mem ?_) y (View.cover_of_tiledL _ ![1, 1, 128, 128] (by sl_kernel_rfl) y)
  iterate 4
    refine cons_piece (n := 24) rfl _ _ k0_pay28 down128 _ _ _ _ _ _ 384 _ _ _ _ rfl (tile_eq 384 slices_S512x512_o0_384_S512x128 _ _) rfl ?_
    refine cons_piece (n := 24) rfl _ _ k0_pay28 down128 _ _ _ _ _ _ 256 _ _ _ _ rfl (tile_eq 256 slices_S512x512_o0_256_S512x128 _ _) rfl ?_
    refine cons_piece (n := 24) rfl _ _ k0_pay28 down128 _ _ _ _ _ _ 128 _ _ _ _ rfl (tile_eq 128 slices_S512x512_o0_128_S512x128 _ _) rfl ?_
    refine cons_piece (n := 24) rfl _ _ k0_pay28 down128 _ _ _ _ _ _ 0 _ _ _ _ rfl (tile_eq 0 slices_S512x512_o0_0_S512x128 _ _) rfl ?_
  exact trivial

theorem block9 : out0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3
    = residues 4 128 rfl (projected (k0_pay7 x0 x1) (View.ld x3 (Rect.unit ![0, 2048] ![1024, 512] inb_S1024x3072_S1024x512_0_2048))) := by
  frame_open
  try simp (disch := decide) only [↓ View.readCov_skip]
  try frame_out
  funext y
  refine View.canon_apply_of_pieces _ _ (View.PiecesOf.mem ?_) y (View.cover_of_tiledL _ ![1, 1, 128, 128] (by sl_kernel_rfl) y)
  iterate 4
    refine cons_piece (n := 24) rfl _ _ k0_pay28 down128 _ _ _ _ _ _ 384 _ _ _ _ rfl (tile_eq 384 slices_S512x512_o0_384_S512x128 _ _) rfl ?_
    refine cons_piece (n := 24) rfl _ _ k0_pay28 down128 _ _ _ _ _ _ 256 _ _ _ _ rfl (tile_eq 256 slices_S512x512_o0_256_S512x128 _ _) rfl ?_
    refine cons_piece (n := 24) rfl _ _ k0_pay28 down128 _ _ _ _ _ _ 128 _ _ _ _ rfl (tile_eq 128 slices_S512x512_o0_128_S512x128 _ _) rfl ?_
    refine cons_piece (n := 24) rfl _ _ k0_pay28 down128 _ _ _ _ _ _ 0 _ _ _ _ rfl (tile_eq 0 slices_S512x512_o0_0_S512x128 _ _) rfl ?_
  exact trivial

theorem block10 : out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3
    = residues 16 32 rfl (scaled (k0_pay6 x0 x1) (View.ld x2 (Rect.unit ![0, 1024] ![1024, 512] inb_S1024x1536_S1024x512_0_1024))) := by
  frame_open
  try simp (disch := decide) only [↓ View.readCov_skip]
  try frame_out
  funext y
  refine View.canon_apply_of_pieces _ _ (View.PiecesOf.mem ?_) y (View.cover_of_tiledL _ ![1, 1, 32, 128] (by sl_kernel_rfl) y)
  iterate 16
    refine cons_piece (n := 12) rfl _ _ k0_pay1 down32 _ _ _ _ _ _ 384 _ _ _ _ rfl (tileScaled_eq 384 slices_S512x512_o0_384_S512x128 _ _) rfl ?_
    refine cons_piece (n := 12) rfl _ _ k0_pay1 down32 _ _ _ _ _ _ 256 _ _ _ _ rfl (tileScaled_eq 256 slices_S512x512_o0_256_S512x128 _ _) rfl ?_
    refine cons_piece (n := 12) rfl _ _ k0_pay1 down32 _ _ _ _ _ _ 128 _ _ _ _ rfl (tileScaled_eq 128 slices_S512x512_o0_128_S512x128 _ _) rfl ?_
    refine cons_piece (n := 12) rfl _ _ k0_pay1 down32 _ _ _ _ _ _ 0 _ _ _ _ rfl (tileScaled_eq 0 slices_S512x512_o0_0_S512x128 _ _) rfl ?_
  exact trivial

theorem block11 : out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3
    = residues 16 32 rfl (projected (k0_pay7 x0 x1) (View.ld x3 (Rect.unit ![0, 1024] ![1024, 512] inb_S1024x3072_S1024x512_0_1024))) := by
  frame_open
  try simp (disch := decide) only [↓ View.readCov_skip]
  try frame_out
  funext y
  refine View.canon_apply_of_pieces _ _ (View.PiecesOf.mem ?_) y (View.cover_of_tiledL _ ![1, 1, 32, 128] (by sl_kernel_rfl) y)
  iterate 16
    refine cons_piece (n := 24) rfl _ _ k0_pay1 down32 _ _ _ _ _ _ 384 _ _ _ _ rfl (tile_eq 384 slices_S512x512_o0_384_S512x128 _ _) rfl ?_
    refine cons_piece (n := 24) rfl _ _ k0_pay1 down32 _ _ _ _ _ _ 256 _ _ _ _ rfl (tile_eq 256 slices_S512x512_o0_256_S512x128 _ _) rfl ?_
    refine cons_piece (n := 24) rfl _ _ k0_pay1 down32 _ _ _ _ _ _ 128 _ _ _ _ rfl (tile_eq 128 slices_S512x512_o0_128_S512x128 _ _) rfl ?_
    refine cons_piece (n := 24) rfl _ _ k0_pay1 down32 _ _ _ _ _ _ 0 _ _ _ _ rfl (tile_eq 0 slices_S512x512_o0_0_S512x128 _ _) rfl ?_
  exact trivial

theorem block12 : out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3
    = residues 16 32 rfl (projected (k0_pay7 x0 x1) (View.ld x3 (Rect.unit ![0, 2560] ![1024, 512] inb_S1024x3072_S1024x512_0_2560))) := by
  frame_open
  try simp (disch := decide) only [↓ View.readCov_skip]
  try frame_out
  funext y
  refine View.canon_apply_of_pieces _ _ (View.PiecesOf.mem ?_) y (View.cover_of_tiledL _ ![1, 1, 32, 128] (by sl_kernel_rfl) y)
  iterate 16
    refine cons_piece (n := 24) rfl _ _ k0_pay1 down32 _ _ _ _ _ _ 384 _ _ _ _ rfl (tile_eq 384 slices_S512x512_o0_384_S512x128 _ _) rfl ?_
    refine cons_piece (n := 24) rfl _ _ k0_pay1 down32 _ _ _ _ _ _ 256 _ _ _ _ rfl (tile_eq 256 slices_S512x512_o0_256_S512x128 _ _) rfl ?_
    refine cons_piece (n := 24) rfl _ _ k0_pay1 down32 _ _ _ _ _ _ 128 _ _ _ _ rfl (tile_eq 128 slices_S512x512_o0_128_S512x128 _ _) rfl ?_
    refine cons_piece (n := 24) rfl _ _ k0_pay1 down32 _ _ _ _ _ _ 0 _ _ _ _ rfl (tile_eq 0 slices_S512x512_o0_0_S512x128 _ _) rfl ?_
  exact trivial
end Point

end Cert.ProjIdeal.Attn
end
-- ==== Proof.ProjMath.lean ====
module
public import proofs.«01_k».proof.Proof.ExpertMath
/-!
# The numbers of the attention's projections

A query is an eighth of the product of a normalised row with a column of the query weight; a key or value is the product
with a column of the other weight, of the row normalised with the other gain. A branch of dilation `d` keeps the rows by
their residue modulo `d`.
-/
@[expose] public section
noncomputable section
namespace Cert.ProjMath
open Idealize.ShloMosaic Cert.ExpertMath

variable (x : FVec Ideal ⟨3, ![8, 2048, 1024]⟩ .f32) (g : FVec Ideal ⟨1, ![1024]⟩ .f32) (b : Fin 8) (r : Fin 2048)

/-- A query: `0x3E000000` is the word of 1/8. -/
def queryAt (w : FVec Ideal ⟨3, ![1, 1024, 1536]⟩ .f32) (j : Fin 1536) : EReal :=
  (∑ k, normed (fun k => x (ix3 b r k)) (fun k => g (ix1 k)) k * w (ix3 0 k j)) * Ideal.ofBits .f32 0x3E000000#32

/-- A key or a value. -/
def keyAt (w : FVec Ideal ⟨2, ![1024, 3072]⟩ .f32) (j : Fin 3072) : EReal :=
  ∑ k, normed (fun k => x (ix3 b r k)) (fun k => g (ix1 k)) k * w (ix2 k j)

theorem row_lt {d P D s p : ℕ} (h : P * d = D) (hs : s < d) (hp : p < P) : s + d * p < D := by
  calc s + d * p < d + d * p := by omega
    _ = (p + 1) * d := by ring
    _ ≤ P * d := Nat.mul_le_mul_right _ hp
    _ = D := h

/-- The rows of each batch entry by their residue modulo `d`. -/
def strided (d P : ℕ) (h : P * d = 2048) (f : Fin 8 → Fin 2048 → Fin 512 → EReal) (y : (⟨4, ![8, d, P, 512]⟩ : Shape).Idx) : EReal :=
  f (y 0) ⟨(y 1).val + d * (y 2).val, row_lt h (y 1).isLt (y 2).isLt⟩ (y 3)

end Cert.ProjMath
end
-- ==== Proof.ProjValue.lean ====
module
public import proofs.«01_k».proof.Proof.ProjBody
public import proofs.«01_k».proof.Proof.ProjMath
public import Idealize.ShloMosaic.Lib.StableHlo.ReadAt
/-!
# The nine arrays the attention's projections leave, in exact arithmetic

The point of a batch entry and a tile of 512 rows writes the tile's block of every array.
-/
@[expose] public section
set_option maxRecDepth 16384
noncomputable section
namespace Cert.ProjIdeal.Attn
open Cert.ProjIdeal Cert.ProjIdeal.Gen Cert.ExpertMath Cert.ProjMath
open Idealize.ShloMosaic
open Idealize.ShloMosaic.TcCoe Idealize.ShloMosaic.Tactic

variable (m : (ℓ : Loc nD τ sig) → Buf (Elt Ideal) ℓ) (c : Dev nD)

/-! ## The blocks a point reads -/

theorem index0 : ∀ t : Fin grid0.N, win0_0.index t = ![t.val / 4, t.val % 4, 0] := by decide +kernel
theorem index1 : ∀ t : Fin grid0.N, win0_1.index t = ![0, 0] := by decide +kernel
theorem index2 : ∀ t : Fin grid0.N, win0_2.index t = ![0, 0] := by decide +kernel
theorem index3 : ∀ t : Fin grid0.N, win0_3.index t = ![0, 0] := by decide +kernel
theorem index4 : ∀ t : Fin grid0.N, win0_4.index t = ![t.val / 4, 0, t.val % 4, 0] := by decide +kernel
theorem index5 : ∀ t : Fin grid0.N, win0_5.index t = ![t.val / 4, 0, t.val % 4, 0] := by decide +kernel
theorem index6 : ∀ t : Fin grid0.N, win0_6.index t = ![t.val / 4, 0, t.val % 4, 0] := by decide +kernel
theorem index7 : ∀ t : Fin grid0.N, win0_7.index t = ![t.val / 4, 0, t.val % 4, 0] := by decide +kernel
theorem index8 : ∀ t : Fin grid0.N, win0_8.index t = ![t.val / 4, 0, t.val % 4, 0] := by decide +kernel
theorem index9 : ∀ t : Fin grid0.N, win0_9.index t = ![t.val / 4, 0, t.val % 4, 0] := by decide +kernel
theorem index10 : ∀ t : Fin grid0.N, win0_10.index t = ![t.val / 4, 0, t.val % 4, 0] := by decide +kernel
theorem index11 : ∀ t : Fin grid0.N, win0_11.index t = ![t.val / 4, 0, t.val % 4, 0] := by decide +kernel
theorem index12 : ∀ t : Fin grid0.N, win0_12.index t = ![t.val / 4, 0, t.val % 4, 0] := by decide +kernel

theorem gain_q (k : Fin 1024) : V m c main_v9 (ix2 0 k) = m ((c.tc : Thread nD τ).loc main_arg1) (ix1 k) := by
  after_reads_at
  refine (congrFun (StableHlo.unary_result' ..) _).trans ?_
  after_reads_at
theorem gain_kv (k : Fin 1024) : V m c main_v9 (ix2 1 k) = m ((c.tc : Thread nD τ).loc main_arg2) (ix1 k) := by
  after_reads_at
  refine (congrFun (StableHlo.unary_result' ..) _).trans ?_
  after_reads_at
theorem weight_q (y : S1024x1536.Idx) : V m c main_v11 y = m ((c.tc : Thread nD τ).loc main_arg3) (ix3 0 (y 0) (y 1)) := by
  after_reads_at
theorem weight_kv (y : S1024x3072.Idx) : V m c main_v12 y = m ((c.tc : Thread nD τ).loc main_arg4) y := by
  after_reads_at

variable (t : Fin cfg0.N)

theorem x_at (r : Fin 512) (k : Fin 1024) (b : Fin 8) (i : Fin 2048) (hb : b.val = t.val / 4) (hi : i.val = t.val % 4 * 512 + r.val) :
    iblk m c 0 t (ix3 0 r k) = m ((c.tc : Thread nD τ).loc main_arg0) (ix3 b i k) := by
  refine Eq.trans (congrArg (V m c main_arg0) (?_ : _ = ix3 b i k)) (congrFun (V_main_arg0 m c) _)
  refine funext fun d => Fin.ext ((Pipeline.Window.rect_emb_val win0_0 t (ix3 0 r k) d rfl).trans ?_)
  rw [index0]
  match d with
  | ⟨0, _⟩ => exact (Nat.mul_one _).trans hb.symm
  | ⟨1, _⟩ => exact hi.symm
  | ⟨2, _⟩ => exact Nat.zero_add _
theorem gain_at (n : Fin 8) (k : Fin 1024) : iblk m c 1 t (ix2 n k) = V m c main_v9 (ix2 n k) := by
  refine congrArg (V m c main_v9) (?_ : _ = ix2 n k)
  refine funext fun d => Fin.ext ((Pipeline.Window.rect_emb_val win0_1 t (ix2 n k) d rfl).trans ?_)
  rw [index1]
  match d with
  | ⟨0, _⟩ => exact Nat.zero_add _
  | ⟨1, _⟩ => exact Nat.zero_add _
theorem wq_at (k : Fin 1024) (j : Fin 1536) : iblk m c 2 t (ix2 k j) = m ((c.tc : Thread nD τ).loc main_arg3) (ix3 0 k j) := by
  refine Eq.trans (congrArg (V m c main_v11) (?_ : _ = ix2 k j)) (weight_q m c _)
  refine funext fun d => Fin.ext ((Pipeline.Window.rect_emb_val win0_2 t (ix2 k j) d rfl).trans ?_)
  rw [index2]
  match d with
  | ⟨0, _⟩ => exact Nat.zero_add _
  | ⟨1, _⟩ => exact Nat.zero_add _
theorem wkv_at (k : Fin 1024) (j : Fin 3072) : iblk m c 3 t (ix2 k j) = m ((c.tc : Thread nD τ).loc main_arg4) (ix2 k j) := by
  refine Eq.trans (congrArg (V m c main_v12) (?_ : _ = ix2 k j)) (weight_kv m c _)
  refine funext fun d => Fin.ext ((Pipeline.Window.rect_emb_val win0_3 t (ix2 k j) d rfl).trans ?_)
  rw [index3]
  match d with
  | ⟨0, _⟩ => exact Nat.zero_add _
  | ⟨1, _⟩ => exact Nat.zero_add _

section products
/-! ## The products of a tile -/

/-- A query of the launch. -/
def query (b : Fin 8) (i : Fin 2048) (j : Fin 1536) : EReal :=
  queryAt (m ((c.tc : Thread nD τ).loc main_arg0)) (m ((c.tc : Thread nD τ).loc main_arg1)) b i (m ((c.tc : Thread nD τ).loc main_arg3)) j
/-- A key or value of the launch. -/
def key (b : Fin 8) (i : Fin 2048) (j : Fin 3072) : EReal :=
  keyAt (m ((c.tc : Thread nD τ).loc main_arg0)) (m ((c.tc : Thread nD τ).loc main_arg2)) b i (m ((c.tc : Thread nD τ).loc main_arg4)) j

variable (b : Fin 8) (r : Fin 512) (i : Fin 2048) (l : Fin 512) (hb : b.val = t.val / 4) (hi : i.val = t.val % 4 * 512 + r.val) (o : ℕ)
include hb hi

theorem query_block (inb) (j : Fin 1536) (hj : j.val = o + l.val) :
    scaled (k0_pay6 (F := Ideal) (iblk m c 0 t) (iblk m c 1 t)) (View.ld (iblk m c 2 t) (Rect.unit (s := S1024x1536) ![0, o] ![1024, 512] inb)) r l = query m c b i j := by
  have e0 : (fun k => iblk m c 0 t (ix3 0 r k)) = _ := funext fun k => x_at m c t r k b i hb hi
  have e1 : (fun k => iblk m c 1 t (ix2 0 k)) = _ := funext fun k => (gain_at m c t 0 k).trans (gain_q m c k)
  refine congrArg (· * Ideal.ofBits .f32 0x3E000000#32) (Finset.sum_congr rfl fun k _ => congrArg₂ (· * ·) ?_ ?_)
  · refine (row_q _ _ r k).trans ?_
    rw [e0, e1]
  · refine (View.ld_unit_apply_of _ _ _ inb (ix2 k l) (ix2 k j) fun a => ?_).trans (wq_at m c t k j)
    match a with
    | ⟨0, _⟩ => exact (Nat.zero_add _).symm
    | ⟨1, _⟩ => exact hj

theorem key_block (inb) (j : Fin 3072) (hj : j.val = o + l.val) :
    projected (k0_pay7 (F := Ideal) (iblk m c 0 t) (iblk m c 1 t)) (View.ld (iblk m c 3 t) (Rect.unit (s := S1024x3072) ![0, o] ![1024, 512] inb)) r l = key m c b i j := by
  have e0 : (fun k => iblk m c 0 t (ix3 0 r k)) = _ := funext fun k => x_at m c t r k b i hb hi
  have e1 : (fun k => iblk m c 1 t (ix2 1 k)) = _ := funext fun k => (gain_at m c t 1 k).trans (gain_kv m c k)
  unfold projected key keyAt
  refine Finset.sum_congr rfl fun k _ => congrArg₂ (fun a b : EReal => a * b) ?_ ?_
  · refine (row_kv _ _ r k).trans ?_
    rw [e0, e1]
  · refine (View.ld_unit_apply_of _ _ _ inb (ix2 k l) (ix2 k j) fun a => ?_).trans (wkv_at m c t k j)
    match a with
    | ⟨0, _⟩ => exact (Nat.zero_add _).symm
    | ⟨1, _⟩ => exact hj
end products

/-! ## The arrays at the end -/

/-- A number of a block is the array's where the block lies. -/
theorem place {d p P : ℕ} (hd : p * d = 512) (hD : P * d = 2048) (F : Fin 512 → Fin 512 → EReal) (f : Fin 8 → Fin 2048 → Fin 512 → EReal) (a u : ℕ)
    (y : (⟨4, ![1, d, p, 512]⟩ : Shape).Idx) (z : (⟨4, ![8, d, P, 512]⟩ : Shape).Idx)
    (e0 : (z 0).val = a * 1 + (y 0).val) (e1 : (z 1).val = 0 * d + (y 1).val) (e2 : (z 2).val = u * p + (y 2).val) (e3 : (z 3).val = 0 * 512 + (y 3).val)
    (hF : ∀ (b : Fin 8) (r : Fin 512) (i : Fin 2048) (l : Fin 512), b.val = a → i.val = u * 512 + r.val → F r l = f b i l) :
    residues d p hd F y = strided d P hD f z := by
  have h0 : (y 0).val = 0 := Nat.lt_one_iff.mp (y 0).isLt
  unfold residues strided
  refine (hF (z 0) _ ⟨(z 1).val + d * (z 2).val, row_lt hD (z 1).isLt (z 2).isLt⟩ _ ?_ ?_).trans (congrArg (f (z 0) _) (Fin.ext ?_))
  · rw [e0, h0, Nat.mul_one, Nat.add_zero]
  · show (z 1).val + d * (z 2).val = u * 512 + ((y 1).val + d * (y 2).val)
    rw [e1, e2, ← hd]
    ring
  · show (y 3).val = (z 3).val
    omega

theorem out4 : (outsAt0 m c t).1 = residues 1 512 rfl (scaled (k0_pay6 (F := Ideal) (iblk m c 0 t) (iblk m c 1 t)) (View.ld (iblk m c 2 t) (Rect.unit ![0, 0] ![1024, 512] inb_S1024x1536_S1024x512_0_0))) := by
  dsimp only [outsAt0]
  exact block4 c _ _ _ _ _ _ _ _ _ _ _ _ _ _ _ _ _ _ _ _ _ _ _ _ _ _ _ _ _ _ _ _ _ _ _
theorem final4 : (dats m 0 c).arrAt 4 cfg0.N = strided 1 2048 rfl (fun b i l => query m c b i ⟨0 + l.val, by omega⟩) := by
  refine (dats m 0 c).arrAt_eq_of_covers 4 _ (by decide +kernel) fun t _ y => ?_
  have e (a) := Pipeline.Window.rect_emb_val win0_4 t y a rfl
  simp only [index4 t] at e
  show (dats m 0 c).after 4 t y = _
  rw [after0_4, out4]
  exact place rfl rfl _ _ _ _ y _ (e 0) (e 1) (e 2) (e 3) fun b r i l hb hi => query_block m c t b r i l hb hi 0 _ _ rfl
theorem out5 : (outsAt0 m c t).2.1 = residues 1 512 rfl (projected (k0_pay7 (F := Ideal) (iblk m c 0 t) (iblk m c 1 t)) (View.ld (iblk m c 3 t) (Rect.unit ![0, 0] ![1024, 512] inb_S1024x3072_S1024x512_0_0))) := by
  dsimp only [outsAt0]
  exact block5 c _ _ _ _ _ _ _ _ _ _ _ _ _ _ _ _ _ _ _ _ _ _ _ _ _ _ _ _ _ _ _ _ _ _ _
theorem final5 : (dats m 0 c).arrAt 5 cfg0.N = strided 1 2048 rfl (fun b i l => key m c b i ⟨0 + l.val, by omega⟩) := by
  refine (dats m 0 c).arrAt_eq_of_covers 5 _ (by decide +kernel) fun t _ y => ?_
  have e (a) := Pipeline.Window.rect_emb_val win0_5 t y a rfl
  simp only [index5 t] at e
  show (dats m 0 c).after 5 t y = _
  rw [after0_5, out5]
  exact place rfl rfl _ _ _ _ y _ (e 0) (e 1) (e 2) (e 3) fun b r i l hb hi => key_block m c t b r i l hb hi 0 _ _ rfl
theorem out6 : (outsAt0 m c t).2.2.1 = residues 1 512 rfl (projected (k0_pay7 (F := Ideal) (iblk m c 0 t) (iblk m c 1 t)) (View.ld (iblk m c 3 t) (Rect.unit ![0, 1536] ![1024, 512] inb_S1024x3072_S1024x512_0_1536))) := by
  dsimp only [outsAt0]
  exact block6 c _ _ _ _ _ _ _ _ _ _ _ _ _ _ _ _ _ _ _ _ _ _ _ _ _ _ _ _ _ _ _ _ _ _ _
theorem final6 : (dats m 0 c).arrAt 6 cfg0.N = strided 1 2048 rfl (fun b i l => key m c b i ⟨1536 + l.val, by omega⟩) := by
  refine (dats m 0 c).arrAt_eq_of_covers 6 _ (by decide +kernel) fun t _ y => ?_
  have e (a) := Pipeline.Window.rect_emb_val win0_6 t y a rfl
  simp only [index6 t] at e
  show (dats m 0 c).after 6 t y = _
  rw [after0_6, out6]
  exact place rfl rfl _ _ _ _ y _ (e 0) (e 1) (e 2) (e 3) fun b r i l hb hi => key_block m c t b r i l hb hi 1536 _ _ rfl
theorem out7 : (outsAt0 m c t).2.2.2.1 = residues 4 128 rfl (scaled (k0_pay6 (F := Ideal) (iblk m c 0 t) (iblk m c 1 t)) (View.ld (iblk m c 2 t) (Rect.unit ![0, 512] ![1024, 512] inb_S1024x1536_S1024x512_0_512))) := by
  dsimp only [outsAt0]
  exact block7 c _ _ _ _ _ _ _ _ _ _ _ _ _ _ _ _ _ _ _ _ _ _ _ _ _ _ _ _ _ _ _ _ _ _ _
theorem final7 : (dats m 0 c).arrAt 7 cfg0.N = strided 4 512 rfl (fun b i l => query m c b i ⟨512 + l.val, by omega⟩) := by
  refine (dats m 0 c).arrAt_eq_of_covers 7 _ (by decide +kernel) fun t _ y => ?_
  have e (a) := Pipeline.Window.rect_emb_val win0_7 t y a rfl
  simp only [index7 t] at e
  show (dats m 0 c).after 7 t y = _
  rw [after0_7, out7]
  exact place rfl rfl _ _ _ _ y _ (e 0) (e 1) (e 2) (e 3) fun b r i l hb hi => query_block m c t b r i l hb hi 512 _ _ rfl
theorem out8 : (outsAt0 m c t).2.2.2.2.1 = residues 4 128 rfl (projected (k0_pay7 (F := Ideal) (iblk m c 0 t) (iblk m c 1 t)) (View.ld (iblk m c 3 t) (Rect.unit ![0, 512] ![1024, 512] inb_S1024x3072_S1024x512_0_512))) := by
  dsimp only [outsAt0]
  exact block8 c _ _ _ _ _ _ _ _ _ _ _ _ _ _ _ _ _ _ _ _ _ _ _ _ _ _ _ _ _ _ _ _ _ _ _
theorem final8 : (dats m 0 c).arrAt 8 cfg0.N = strided 4 512 rfl (fun b i l => key m c b i ⟨512 + l.val, by omega⟩) := by
  refine (dats m 0 c).arrAt_eq_of_covers 8 _ (by decide +kernel) fun t _ y => ?_
  have e (a) := Pipeline.Window.rect_emb_val win0_8 t y a rfl
  simp only [index8 t] at e
  show (dats m 0 c).after 8 t y = _
  rw [after0_8, out8]
  exact place rfl rfl _ _ _ _ y _ (e 0) (e 1) (e 2) (e 3) fun b r i l hb hi => key_block m c t b r i l hb hi 512 _ _ rfl
theorem out9 : (outsAt0 m c t).2.2.2.2.2.1 = residues 4 128 rfl (projected (k0_pay7 (F := Ideal) (iblk m c 0 t) (iblk m c 1 t)) (View.ld (iblk m c 3 t) (Rect.unit ![0, 2048] ![1024, 512] inb_S1024x3072_S1024x512_0_2048))) := by
  dsimp only [outsAt0]
  exact block9 c _ _ _ _ _ _ _ _ _ _ _ _ _ _ _ _ _ _ _ _ _ _ _ _ _ _ _ _ _ _ _ _ _ _ _
theorem final9 : (dats m 0 c).arrAt 9 cfg0.N = strided 4 512 rfl (fun b i l => key m c b i ⟨2048 + l.val, by omega⟩) := by
  refine (dats m 0 c).arrAt_eq_of_covers 9 _ (by decide +kernel) fun t _ y => ?_
  have e (a) := Pipeline.Window.rect_emb_val win0_9 t y a rfl
  simp only [index9 t] at e
  show (dats m 0 c).after 9 t y = _
  rw [after0_9, out9]
  exact place rfl rfl _ _ _ _ y _ (e 0) (e 1) (e 2) (e 3) fun b r i l hb hi => key_block m c t b r i l hb hi 2048 _ _ rfl
theorem out10 : (outsAt0 m c t).2.2.2.2.2.2.1 = residues 16 32 rfl (scaled (k0_pay6 (F := Ideal) (iblk m c 0 t) (iblk m c 1 t)) (View.ld (iblk m c 2 t) (Rect.unit ![0, 1024] ![1024, 512] inb_S1024x1536_S1024x512_0_1024))) := by
  dsimp only [outsAt0]
  exact block10 c _ _ _ _ _ _ _ _ _ _ _ _ _ _ _ _ _ _ _ _ _ _ _ _ _ _ _ _ _ _ _ _ _ _ _
theorem final10 : (dats m 0 c).arrAt 10 cfg0.N = strided 16 128 rfl (fun b i l => query m c b i ⟨1024 + l.val, by omega⟩) := by
  refine (dats m 0 c).arrAt_eq_of_covers 10 _ (by decide +kernel) fun t _ y => ?_
  have e (a) := Pipeline.Window.rect_emb_val win0_10 t y a rfl
  simp only [index10 t] at e
  show (dats m 0 c).after 10 t y = _
  rw [after0_10, out10]
  exact place rfl rfl _ _ _ _ y _ (e 0) (e 1) (e 2) (e 3) fun b r i l hb hi => query_block m c t b r i l hb hi 1024 _ _ rfl
theorem out11 : (outsAt0 m c t).2.2.2.2.2.2.2.1 = residues 16 32 rfl (projected (k0_pay7 (F := Ideal) (iblk m c 0 t) (iblk m c 1 t)) (View.ld (iblk m c 3 t) (Rect.unit ![0, 1024] ![1024, 512] inb_S1024x3072_S1024x512_0_1024))) := by
  dsimp only [outsAt0]
  exact block11 c _ _ _ _ _ _ _ _ _ _ _ _ _ _ _ _ _ _ _ _ _ _ _ _ _ _ _ _ _ _ _ _ _ _ _
theorem final11 : (dats m 0 c).arrAt 11 cfg0.N = strided 16 128 rfl (fun b i l => key m c b i ⟨1024 + l.val, by omega⟩) := by
  refine (dats m 0 c).arrAt_eq_of_covers 11 _ (by decide +kernel) fun t _ y => ?_
  have e (a) := Pipeline.Window.rect_emb_val win0_11 t y a rfl
  simp only [index11 t] at e
  show (dats m 0 c).after 11 t y = _
  rw [after0_11, out11]
  exact place rfl rfl _ _ _ _ y _ (e 0) (e 1) (e 2) (e 3) fun b r i l hb hi => key_block m c t b r i l hb hi 1024 _ _ rfl
theorem out12 : (outsAt0 m c t).2.2.2.2.2.2.2.2 = residues 16 32 rfl (projected (k0_pay7 (F := Ideal) (iblk m c 0 t) (iblk m c 1 t)) (View.ld (iblk m c 3 t) (Rect.unit ![0, 2560] ![1024, 512] inb_S1024x3072_S1024x512_0_2560))) := by
  dsimp only [outsAt0]
  exact block12 c _ _ _ _ _ _ _ _ _ _ _ _ _ _ _ _ _ _ _ _ _ _ _ _ _ _ _ _ _ _ _ _ _ _ _
theorem final12 : (dats m 0 c).arrAt 12 cfg0.N = strided 16 128 rfl (fun b i l => key m c b i ⟨2560 + l.val, by omega⟩) := by
  refine (dats m 0 c).arrAt_eq_of_covers 12 _ (by decide +kernel) fun t _ y => ?_
  have e (a) := Pipeline.Window.rect_emb_val win0_12 t y a rfl
  simp only [index12 t] at e
  show (dats m 0 c).after 12 t y = _
  rw [after0_12, out12]
  exact place rfl rfl _ _ _ _ y _ (e 0) (e 1) (e 2) (e 3) fun b r i l hb hi => key_block m c t b r i l hb hi 2560 _ _ rfl

end Cert.ProjIdeal.Attn
end
-- ==== Proof.ProjRefValue.lean ====
module
public import proofs.«01_k».proof.Proof.Gen.ProjRefIdeal.Run
public import proofs.«01_k».proof.Proof.ProjMath
public import Idealize.ShloMosaic.Lib.StableHlo.ReadAt
/-!
# What the reference of the attention's projections computes

Its nine results are columns of the queries and of the keys and values, with the rows by their residue.
-/
@[expose] public section
set_option maxRecDepth 16384
noncomputable section
namespace Cert.ProjRefIdeal.Attn
open Cert.ProjRefIdeal Cert.ProjRefIdeal.Gen Cert.ProjRefIdeal.Value Cert.ExpertMath Cert.ProjMath
open Idealize.ShloMosaic
open Idealize.ShloMosaic.TcCoe Idealize.ShloMosaic.Tactic

variable (x : FVec Ideal S8x2048x1024 .f32) (g : FVec Ideal S1024 .f32) (wq : FVec Ideal S1x1024x1536 .f32) (wkv : FVec Ideal S1024x3072 .f32)

/-- The normalised rows. -/
def rows : FVec Ideal S8x2048x1024 .f32 :=
  mulf (mulf x (broadcastInDim S8x2048x1024 ![0, 1, 2] bcast_S8x2048x1_S8x2048x1024_0_1_2 (Host.rsqrt (addf (Host.divf (broadcastInDim S8x2048x1 ![0, 1] bcast_S8x2048_S8x2048x1_0_1
    (Host.reduceAdd (mulf x x) (constant S_ .f32 0x00000000#32) reducesTo_S8x2048x1024_S8x2048_d2 h_S_)) (broadcastInDim S8x2048x1 ![] bcast_S_S8x2048x1 (constant S_ .f32 0x44800000#32)))
    (broadcastInDim S8x2048x1 ![] bcast_S_S8x2048x1 (constant S_ .f32 0x3727C5AC#32))))))
    (broadcastInDim S8x2048x1024 ![0, 1, 2] bcast_S1x1x1024_S8x2048x1024_0_1_2 (broadcastInDim S1x1x1024 ![2] bcast_S1024_S1x1x1024_2 g))

theorem rows_at (b : Fin 8) (r : Fin 2048) (k : Fin 1024) : rows x g (ix3 b r k) = normed (fun k => x (ix3 b r k)) (fun k => g (ix1 k)) k := by
  pointwise [rows]
  rfl

/-- The queries of the three branches side by side. -/
def queries : FVec Ideal S8x2048x1536 .f32 :=
  mulf (Host.dotGeneral dot_S8x2048x1024_S1024x1536_S8x2048x1536_2_0_01_1_n_n none (rows x g) (shapeCast _ wq shapeCasts_S1x1024x1536_S1024x1536))
    (broadcastInDim S8x2048x1536 ![] bcast_S_S8x2048x1536 (constant S_ .f32 0x3E000000#32))

/-- The keys of the three branches side by side, then the values. -/
def keys : FVec Ideal S8x2048x3072 .f32 := Host.dotGeneral dot_S8x2048x1024_S1024x3072_S8x2048x3072_2_0_01_1_n_n none (rows x g) wkv

theorem queries_at (b : Fin 8) (r : Fin 2048) (j : Fin 1536) : queries x g wq (ix3 b r j) = queryAt x g b r wq j := by
  pointwise [queries]
  simp only [rows_at]
  rfl

theorem keys_at (b : Fin 8) (r : Fin 2048) (j : Fin 3072) : keys x g wkv (ix3 b r j) = keyAt x g b r wkv j := by
  pointwise [keys]
  simp only [rows_at]
  rfl

/-! ## The nine results -/

theorem result4 (y : FVec Ideal S8x2048x1536 .f32) (f : Fin 8 → Fin 2048 → Fin 1536 → EReal) (h : ∀ b i j, y (ix3 b i j) = f b i j) :
    (truncf .bf16 (transpose S8x1x2048x512 [0, 2, 1, 3] (shapeCast _ (shapeCast _ (extractStridedSlice S8x2048x1x512 ![0, 0, 0, 0] (shapeCast _ y shapeCasts_S8x2048x1536_S8x2048x3x512) slices_S8x2048x3x512_S8x2048x1x512_0_0_0_0) shapeCasts_S8x2048x1x512_S8x2048x512) shapeCasts_S8x2048x512_S8x2048x1x512) transposes_S8x2048x1x512_S8x1x2048x512_0_2_1_3) bitsLt_bf16_f32 : FVec Ideal S8x1x2048x512 .bf16)
      = strided 1 2048 rfl fun b i l => f b i ⟨0 + l.val, by omega⟩ := by
  funext z
  obtain ⟨b, s, p, l, rfl⟩ : ∃ (b : Fin 8) (s : Fin 1) (p : Fin 2048) (l : Fin 512), z = ix4 b s p l := ⟨z 0, z 1, z 2, z 3, (ix4_eta z).symm⟩
  refine Eq.trans ?_ (h _ _ _)
  pointwise []
theorem result5 (y : FVec Ideal S8x2048x3072 .f32) (f : Fin 8 → Fin 2048 → Fin 3072 → EReal) (h : ∀ b i j, y (ix3 b i j) = f b i j) :
    (truncf .bf16 (transpose S8x1x2048x512 [0, 2, 1, 3] (shapeCast _ (shapeCast _ (extractStridedSlice S8x2048x1x1x512 ![0, 0, 0, 0, 0] (shapeCast _ y shapeCasts_S8x2048x3072_S8x2048x2x3x512) slices_S8x2048x2x3x512_S8x2048x1x1x512_0_0_0_0_0) shapeCasts_S8x2048x1x1x512_S8x2048x512) shapeCasts_S8x2048x512_S8x2048x1x512) transposes_S8x2048x1x512_S8x1x2048x512_0_2_1_3) bitsLt_bf16_f32 : FVec Ideal S8x1x2048x512 .bf16)
      = strided 1 2048 rfl fun b i l => f b i ⟨0 + l.val, by omega⟩ := by
  funext z
  obtain ⟨b, s, p, l, rfl⟩ : ∃ (b : Fin 8) (s : Fin 1) (p : Fin 2048) (l : Fin 512), z = ix4 b s p l := ⟨z 0, z 1, z 2, z 3, (ix4_eta z).symm⟩
  refine Eq.trans ?_ (h _ _ _)
  pointwise []
theorem result6 (y : FVec Ideal S8x2048x3072 .f32) (f : Fin 8 → Fin 2048 → Fin 3072 → EReal) (h : ∀ b i j, y (ix3 b i j) = f b i j) :
    (truncf .bf16 (transpose S8x1x2048x512 [0, 2, 1, 3] (shapeCast _ (shapeCast _ (extractStridedSlice S8x2048x1x1x512 ![0, 0, 1, 0, 0] (shapeCast _ y shapeCasts_S8x2048x3072_S8x2048x2x3x512) slices_S8x2048x2x3x512_S8x2048x1x1x512_0_0_1_0_0) shapeCasts_S8x2048x1x1x512_S8x2048x512) shapeCasts_S8x2048x512_S8x2048x1x512) transposes_S8x2048x1x512_S8x1x2048x512_0_2_1_3) bitsLt_bf16_f32 : FVec Ideal S8x1x2048x512 .bf16)
      = strided 1 2048 rfl fun b i l => f b i ⟨1536 + l.val, by omega⟩ := by
  funext z
  obtain ⟨b, s, p, l, rfl⟩ : ∃ (b : Fin 8) (s : Fin 1) (p : Fin 2048) (l : Fin 512), z = ix4 b s p l := ⟨z 0, z 1, z 2, z 3, (ix4_eta z).symm⟩
  refine Eq.trans ?_ (h _ _ _)
  pointwise []
theorem result7 (y : FVec Ideal S8x2048x1536 .f32) (f : Fin 8 → Fin 2048 → Fin 1536 → EReal) (h : ∀ b i j, y (ix3 b i j) = f b i j) :
    (truncf .bf16 (transpose S8x4x512x512 [0, 2, 1, 3] (shapeCast _ (shapeCast _ (extractStridedSlice S8x2048x1x512 ![0, 0, 1, 0] (shapeCast _ y shapeCasts_S8x2048x1536_S8x2048x3x512) slices_S8x2048x3x512_S8x2048x1x512_0_0_1_0) shapeCasts_S8x2048x1x512_S8x2048x512) shapeCasts_S8x2048x512_S8x512x4x512) transposes_S8x512x4x512_S8x4x512x512_0_2_1_3) bitsLt_bf16_f32 : FVec Ideal S8x4x512x512 .bf16)
      = strided 4 512 rfl fun b i l => f b i ⟨512 + l.val, by omega⟩ := by
  funext z
  obtain ⟨b, s, p, l, rfl⟩ : ∃ (b : Fin 8) (s : Fin 4) (p : Fin 512) (l : Fin 512), z = ix4 b s p l := ⟨z 0, z 1, z 2, z 3, (ix4_eta z).symm⟩
  refine Eq.trans ?_ (h _ _ _)
  pointwise []
  exact congrArg (fun i => y (ix3 b i _)) (Fin.ext (by show _ * _ + _ = _ + _ * _; omega))
theorem result8 (y : FVec Ideal S8x2048x3072 .f32) (f : Fin 8 → Fin 2048 → Fin 3072 → EReal) (h : ∀ b i j, y (ix3 b i j) = f b i j) :
    (truncf .bf16 (transpose S8x4x512x512 [0, 2, 1, 3] (shapeCast _ (shapeCast _ (extractStridedSlice S8x2048x1x1x512 ![0, 0, 0, 1, 0] (shapeCast _ y shapeCasts_S8x2048x3072_S8x2048x2x3x512) slices_S8x2048x2x3x512_S8x2048x1x1x512_0_0_0_1_0) shapeCasts_S8x2048x1x1x512_S8x2048x512) shapeCasts_S8x2048x512_S8x512x4x512) transposes_S8x512x4x512_S8x4x512x512_0_2_1_3) bitsLt_bf16_f32 : FVec Ideal S8x4x512x512 .bf16)
      = strided 4 512 rfl fun b i l => f b i ⟨512 + l.val, by omega⟩ := by
  funext z
  obtain ⟨b, s, p, l, rfl⟩ : ∃ (b : Fin 8) (s : Fin 4) (p : Fin 512) (l : Fin 512), z = ix4 b s p l := ⟨z 0, z 1, z 2, z 3, (ix4_eta z).symm⟩
  refine Eq.trans ?_ (h _ _ _)
  pointwise []
  exact congrArg (fun i => y (ix3 b i _)) (Fin.ext (by show _ * _ + _ = _ + _ * _; omega))
theorem result9 (y : FVec Ideal S8x2048x3072 .f32) (f : Fin 8 → Fin 2048 → Fin 3072 → EReal) (h : ∀ b i j, y (ix3 b i j) = f b i j) :
    (truncf .bf16 (transpose S8x4x512x512 [0, 2, 1, 3] (shapeCast _ (shapeCast _ (extractStridedSlice S8x2048x1x1x512 ![0, 0, 1, 1, 0] (shapeCast _ y shapeCasts_S8x2048x3072_S8x2048x2x3x512) slices_S8x2048x2x3x512_S8x2048x1x1x512_0_0_1_1_0) shapeCasts_S8x2048x1x1x512_S8x2048x512) shapeCasts_S8x2048x512_S8x512x4x512) transposes_S8x512x4x512_S8x4x512x512_0_2_1_3) bitsLt_bf16_f32 : FVec Ideal S8x4x512x512 .bf16)
      = strided 4 512 rfl fun b i l => f b i ⟨2048 + l.val, by omega⟩ := by
  funext z
  obtain ⟨b, s, p, l, rfl⟩ : ∃ (b : Fin 8) (s : Fin 4) (p : Fin 512) (l : Fin 512), z = ix4 b s p l := ⟨z 0, z 1, z 2, z 3, (ix4_eta z).symm⟩
  refine Eq.trans ?_ (h _ _ _)
  pointwise []
  exact congrArg (fun i => y (ix3 b i _)) (Fin.ext (by show _ * _ + _ = _ + _ * _; omega))
theorem result10 (y : FVec Ideal S8x2048x1536 .f32) (f : Fin 8 → Fin 2048 → Fin 1536 → EReal) (h : ∀ b i j, y (ix3 b i j) = f b i j) :
    (truncf .bf16 (transpose S8x16x128x512 [0, 2, 1, 3] (shapeCast _ (shapeCast _ (extractStridedSlice S8x2048x1x512 ![0, 0, 2, 0] (shapeCast _ y shapeCasts_S8x2048x1536_S8x2048x3x512) slices_S8x2048x3x512_S8x2048x1x512_0_0_2_0) shapeCasts_S8x2048x1x512_S8x2048x512) shapeCasts_S8x2048x512_S8x128x16x512) transposes_S8x128x16x512_S8x16x128x512_0_2_1_3) bitsLt_bf16_f32 : FVec Ideal S8x16x128x512 .bf16)
      = strided 16 128 rfl fun b i l => f b i ⟨1024 + l.val, by omega⟩ := by
  funext z
  obtain ⟨b, s, p, l, rfl⟩ : ∃ (b : Fin 8) (s : Fin 16) (p : Fin 128) (l : Fin 512), z = ix4 b s p l := ⟨z 0, z 1, z 2, z 3, (ix4_eta z).symm⟩
  refine Eq.trans ?_ (h _ _ _)
  pointwise []
  exact congrArg (fun i => y (ix3 b i _)) (Fin.ext (by show _ * _ + _ = _ + _ * _; omega))
theorem result11 (y : FVec Ideal S8x2048x3072 .f32) (f : Fin 8 → Fin 2048 → Fin 3072 → EReal) (h : ∀ b i j, y (ix3 b i j) = f b i j) :
    (truncf .bf16 (transpose S8x16x128x512 [0, 2, 1, 3] (shapeCast _ (shapeCast _ (extractStridedSlice S8x2048x1x1x512 ![0, 0, 0, 2, 0] (shapeCast _ y shapeCasts_S8x2048x3072_S8x2048x2x3x512) slices_S8x2048x2x3x512_S8x2048x1x1x512_0_0_0_2_0) shapeCasts_S8x2048x1x1x512_S8x2048x512) shapeCasts_S8x2048x512_S8x128x16x512) transposes_S8x128x16x512_S8x16x128x512_0_2_1_3) bitsLt_bf16_f32 : FVec Ideal S8x16x128x512 .bf16)
      = strided 16 128 rfl fun b i l => f b i ⟨1024 + l.val, by omega⟩ := by
  funext z
  obtain ⟨b, s, p, l, rfl⟩ : ∃ (b : Fin 8) (s : Fin 16) (p : Fin 128) (l : Fin 512), z = ix4 b s p l := ⟨z 0, z 1, z 2, z 3, (ix4_eta z).symm⟩
  refine Eq.trans ?_ (h _ _ _)
  pointwise []
  exact congrArg (fun i => y (ix3 b i _)) (Fin.ext (by show _ * _ + _ = _ + _ * _; omega))
theorem result12 (y : FVec Ideal S8x2048x3072 .f32) (f : Fin 8 → Fin 2048 → Fin 3072 → EReal) (h : ∀ b i j, y (ix3 b i j) = f b i j) :
    (truncf .bf16 (transpose S8x16x128x512 [0, 2, 1, 3] (shapeCast _ (shapeCast _ (extractStridedSlice S8x2048x1x1x512 ![0, 0, 1, 2, 0] (shapeCast _ y shapeCasts_S8x2048x3072_S8x2048x2x3x512) slices_S8x2048x2x3x512_S8x2048x1x1x512_0_0_1_2_0) shapeCasts_S8x2048x1x1x512_S8x2048x512) shapeCasts_S8x2048x512_S8x128x16x512) transposes_S8x128x16x512_S8x16x128x512_0_2_1_3) bitsLt_bf16_f32 : FVec Ideal S8x16x128x512 .bf16)
      = strided 16 128 rfl fun b i l => f b i ⟨2560 + l.val, by omega⟩ := by
  funext z
  obtain ⟨b, s, p, l, rfl⟩ : ∃ (b : Fin 8) (s : Fin 16) (p : Fin 128) (l : Fin 512), z = ix4 b s p l := ⟨z 0, z 1, z 2, z 3, (ix4_eta z).symm⟩
  refine Eq.trans ?_ (h _ _ _)
  pointwise []
  exact congrArg (fun i => y (ix3 b i _)) (Fin.ext (by show _ * _ + _ = _ + _ * _; omega))

end Cert.ProjRefIdeal.Attn
end
-- ==== Proof.ProjClaims.lean ====
module
public import proofs.«01_k».proof.Defs
public import proofs.«01_k».proof.Proof.ProjValue
public import proofs.«01_k».proof.Proof.ProjRefValue
public import proofs.«01_k».proof.Proof.Gen.Proj.Frame
public import proofs.«01_k».proof.Proof.Gen.ProjIdeal.Frame
/-!
# The claims of the attention's projections
-/
@[expose] public section
set_option maxRecDepth 16384
noncomputable section
namespace Cert.ProjIdeal.Attn
open Cert.ProjIdeal Cert.ProjIdeal.Gen Cert.ProjMath
open Cert.ProjRefIdeal.Attn (queries_at keys_at)
open Idealize.ShloMosaic Idealize.SL.Sem
open Idealize.ShloMosaic.TcCoe

theorem frame_proj : Cert.quiescent_Proj := fun m ρ _ => Cert.Proj.Gen.frame m ρ

theorem frame_proj_ideal : Cert.quiescent_ProjIdeal := fun m ρ _ => Cert.ProjIdeal.Gen.frame m ρ

theorem frame_proj_ref : Cert.quiescent_ProjRefIdeal := fun m ρ _ =>
  (θ_run Cert.ProjRefIdeal.defs _ _).mono (fun r h => ⟨fun c => (h c).2.2.2.2.2.2.2.2.2, sem_eq_zero_of_no_sems (by decide) r.2⟩)
    (Cert.ProjRefIdeal.Value.run (F := Ideal) m ρ)

theorem algebraic_proj : Cert.algebraic_ProjIdeal_ProjRefIdeal := fun m ρ m' ρ' _ hagree => by
  have hq (c) (b : Fin 8) (i : Fin 2048) (j : Fin 1536) : _ = query m c b i j := (queries_at (m' ((c.tc : Thread Cert.ProjRefIdeal.nD Cert.ProjRefIdeal.τ).loc Cert.ProjRefIdeal.main_arg0))
      (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg3)) b i j).trans (by
    obtain ⟨e0, e1, _, e3, _⟩ := hagree c
    rw [e0, e1, e3]
    rfl)
  have hk (c) (b : Fin 8) (i : Fin 2048) (j : Fin 3072) : _ = key m c b i j := (keys_at (m' ((c.tc : Thread Cert.ProjRefIdeal.nD Cert.ProjRefIdeal.τ).loc Cert.ProjRefIdeal.main_arg0))
      (m' ((c.tc : Thread Cert.ProjRefIdeal.nD Cert.ProjRefIdeal.τ).loc Cert.ProjRefIdeal.main_arg2)) (m' ((c.tc : Thread Cert.ProjRefIdeal.nD Cert.ProjRefIdeal.τ).loc Cert.ProjRefIdeal.main_arg4)) b i j).trans (by
    obtain ⟨e0, _, e2, _, e4⟩ := hagree c
    rw [e0, e2, e4]
    rfl)
  refine ⟨fun c => (dats m 0 c).arrAt 4 cfg0.N,
    fun c => (dats m 0 c).arrAt 5 cfg0.N,
    fun c => (dats m 0 c).arrAt 6 cfg0.N,
    fun c => (dats m 0 c).arrAt 7 cfg0.N,
    fun c => (dats m 0 c).arrAt 8 cfg0.N,
    fun c => (dats m 0 c).arrAt 9 cfg0.N,
    fun c => (dats m 0 c).arrAt 10 cfg0.N,
    fun c => (dats m 0 c).arrAt 11 cfg0.N,
    fun c => (dats m 0 c).arrAt 12 cfg0.N,
    Cert.ProjIdeal.Value.run_blocks m ρ, (θ_run Cert.ProjRefIdeal.defs _ _).mono (fun r hr c => ?_) (Cert.ProjRefIdeal.Value.run (F := Ideal) m' ρ')⟩
  obtain ⟨r4, r5, r6, r7, r8, r9, r10, r11, r12, rest⟩ := hr c
  exact ⟨r4.trans ((Cert.ProjRefIdeal.Attn.result4 _ _ (hq c)).trans (final4 m c).symm),
    r5.trans ((Cert.ProjRefIdeal.Attn.result5 _ _ (hk c)).trans (final5 m c).symm),
    r6.trans ((Cert.ProjRefIdeal.Attn.result6 _ _ (hk c)).trans (final6 m c).symm),
    r7.trans ((Cert.ProjRefIdeal.Attn.result7 _ _ (hq c)).trans (final7 m c).symm),
    r8.trans ((Cert.ProjRefIdeal.Attn.result8 _ _ (hk c)).trans (final8 m c).symm),
    r9.trans ((Cert.ProjRefIdeal.Attn.result9 _ _ (hk c)).trans (final9 m c).symm),
    r10.trans ((Cert.ProjRefIdeal.Attn.result10 _ _ (hq c)).trans (final10 m c).symm),
    r11.trans ((Cert.ProjRefIdeal.Attn.result11 _ _ (hk c)).trans (final11 m c).symm),
    r12.trans ((Cert.ProjRefIdeal.Attn.result12 _ _ (hk c)).trans (final12 m c).symm), rest⟩

end Cert.ProjIdeal.Attn
end
-- ==== Proof.MixMath.lean ====
module
public import proofs.«01_k».proof.Proof.ExpertMath
/-!
# The numbers that the time mix's recurrence takes

Each is made from a blend of a normalised row with the one before it (zero before the first).
-/
@[expose] public section
noncomputable section
namespace Cert.MixMath
open Idealize.ShloMosaic Cert.ExpertMath

theorem word_zero : (FloatOps.sitofp .f32 (0#32) : Ideal .f32) = (0 : EReal) := by
  show ((((0#32 : BitVec 32).toInt : ℤ) : ℝ) : EReal) = 0
  simp

def logistic (z : EReal) : EReal := Ideal.div 1 (1 + Ideal.exp (-z))

/-- A row's number `n` moved towards the earlier row's `s`. -/
def blend (n s μ : EReal) : EReal := n + (s - n) * μ

/-- A row through `h` hidden units with the activation `f`. -/
def hidden {h : ℕ} (f : EReal → EReal) (y : Fin 1024 → EReal) (w : Fin 1024 → Fin h → EReal) (v : Fin h → EReal) : EReal :=
  ∑ u, f (∑ k, y k * w k u) * v u

/-- Hidden units with zero weight add nothing. -/
theorem hidden_pad (f : EReal → EReal) (y : Fin 1024 → EReal) (w : Fin 1024 → Fin 64 → EReal) (v : Fin 64 → EReal) (w' : Fin 1024 → Fin 128 → EReal) (v' : Fin 128 → EReal)
    (hw : ∀ k (u : Fin 64), w' k ⟨u.val, by omega⟩ = w k u) (hv : ∀ u : Fin 64, v' ⟨u.val, by omega⟩ = v u) (h0 : ∀ u : Fin 128, 64 ≤ u.val → v' u = 0) :
    hidden f y w' v' = hidden f y w v := by
  unfold hidden
  refine (Fin.sum_univ_add (a := 64) (b := 64) _).trans ?_
  have z : ∑ u : Fin 64, f (∑ k, y k * w' k (Fin.natAdd 64 u)) * v' (Fin.natAdd 64 u) = 0 :=
    Finset.sum_eq_zero fun u _ => by rw [h0 _ (Nat.le_add_right 64 u.val), mul_zero]
  refine (congrArg (_ + ·) z).trans ((add_zero _).trans ?_)
  refine Finset.sum_congr rfl fun u _ => ?_
  have e : (fun k => y k * w' k (Fin.castAdd 64 u)) = fun k => y k * w k u := funext fun k => congrArg (y k * ·) (hw k u)
  exact congrArg₂ (fun a b : EReal => a * b) (congrArg (fun q : Fin 1024 → EReal => f (∑ k, q k)) e) (hv u)

variable (x : FVec Ideal ⟨3, ![8, 2048, 1024]⟩ .f32) (g : FVec Ideal ⟨1, ![1024]⟩ .f32) (mu : FVec Ideal ⟨3, ![1, 6, 1024]⟩ .f32) (b : Fin 8) (t : Fin 2048)

def rowAt (k : Fin 1024) : EReal := normed (fun k => x (ix3 b t k)) (fun k => g (ix1 k)) k

def earlierAt (k : Fin 1024) : EReal := if t.val = 0 then 0 else rowAt x g b ⟨t.val - 1, by omega⟩ k

/-- The `q`-th of the six blends. -/
def mixAt (q : Fin 6) (k : Fin 1024) : EReal := blend (rowAt x g b t k) (earlierAt x g b t k) (mu (ix3 0 q k))

variable (wr wk wv : FVec Ideal ⟨3, ![1, 1024, 1024]⟩ .f32) (w0 a0 kk ka : FVec Ideal ⟨2, ![1, 1024]⟩ .f32)
  (w1 a1 : FVec Ideal ⟨3, ![1, 1024, 64]⟩ .f32) (w2 a2 : FVec Ideal ⟨3, ![1, 64, 1024]⟩ .f32)
  (g1 : FVec Ideal ⟨3, ![1, 1024, 128]⟩ .f32) (g2 : FVec Ideal ⟨3, ![1, 128, 1024]⟩ .f32) (j : Fin 1024)

/-- A blend's product with a square weight. -/
def projectAt (q : Fin 6) (w : FVec Ideal ⟨3, ![1, 1024, 1024]⟩ .f32) : EReal := ∑ k, mixAt x g mu b t q k * w (ix3 0 k j)

/-- The logarithm of the decay: `0xBF1B4598` is the word of the number next to `-exp (-1/2)`. -/
def decayAt : EReal :=
  logistic (w0 (ix2 0 j) + hidden Ideal.tanh (mixAt x g mu b t 1) (fun k u => w1 (ix3 0 k u)) fun u => w2 (ix3 0 u j)) * Ideal.ofBits .f32 0xBF1B4598#32

/-- The learning rate. -/
def rateAt : EReal := logistic (a0 (ix2 0 j) + hidden (fun z => z) (mixAt x g mu b t 4) (fun k u => a1 (ix3 0 k u)) fun u => a2 (ix3 0 u j))

/-- The gate. -/
def gateAt : EReal := hidden logistic (mixAt x g mu b t 5) (fun k u => g1 (ix3 0 k u)) fun u => g2 (ix3 0 u j)

/-- The key, scaled by the learning rate. -/
def keyAt : EReal := projectAt x g mu b t j 2 wk * (1 + (rateAt x g mu b t a0 a1 a2 j - 1) * ka (ix2 0 j))

/-- The key whose direction is removed from the state. -/
def removeAt : EReal := projectAt x g mu b t j 2 wk * kk (ix2 0 j)

end Cert.MixMath
end
-- ==== Proof.MixBody.lean ====
module
public import proofs.«01_k».proof.Proof.Gen.MixIdeal.Value
public import proofs.«01_k».proof.Proof.MixMath
public import Idealize.ShloMosaic.Lib.Pipeline.ReadBack
public import Idealize.ShloMosaic.Lib.Pipeline.ValueKit
/-!
# What a point of the time mix's projections computes
-/
@[expose] public section
set_option maxRecDepth 16384
noncomputable section
namespace Cert.MixIdeal.Pre
open Cert.MixIdeal Cert.MixIdeal.Gen Cert.ExpertMath Cert.MixMath
open Idealize.ShloMosaic
open Idealize.ShloMosaic.TcCoe Idealize.ShloMosaic.Tactic

theorem row_at (v : Vec Ideal S8x1024 .f32) (x : Vec Ideal S1x512x1024 .f32) (r : Fin 512) (k : Fin 1024) :
    k0_pay10 v x (ix2 r k) = normed (fun k => x (ix3 0 r k)) (fun k => v (ix2 0 k)) k := by
  pointwise [k0_pay10, k0_pay5, k0_pay4]
  rfl

theorem edge_at (i : grid0.Coords) (v : Vec Ideal S8x1024 .f32) (x : Vec Ideal S1x8x1024 .f32) (k : Fin 1024) :
    k0_pay11 i v x (ix2 0 k) = if (i 1).val = 0 then 0 else normed (fun k => x (ix3 0 7 k)) (fun k => v (ix2 0 k)) k := by
  have e : ∀ n : Fin 4, Scalar.cmpi .sgt (BitVec.ofNat 32 n.val) 0#32 = if n.val = 0 then 0#1 else 1#1 := by decide
  pointwise [k0_pay11, k0_pay5, k0_pay4]
  rw [e ⟨(i 1).val, (i 1).isLt⟩]
  by_cases hi : (i 1).val = 0
  · simp only [hi, if_pos]
    rfl
  · simp only [hi, if_false]
    rfl

/-- The row before row `r` of a tile: the row above it, or the one before the tile. -/
def before (h : FVec Ideal S512x1024 .f32) (p : FVec Ideal S1x1024 .f32) (r : Fin 512) (k : Fin 1024) : EReal :=
  if r.val = 0 then p (ix2 0 k) else h (ix2 ⟨r.val - 1, by omega⟩ k)

theorem difference_at (h : FVec Ideal S512x1024 .f32) (p : FVec Ideal S1x1024 .f32) (r : Fin 512) (k : Fin 1024) :
    k0_pay13 h p k0_pay12 (ix2 r k) = before h p r k - h (ix2 r k) := by
  have e : ∀ r : Fin 512, IntOp.cmpi .eq (BitVec.ofNat 32 r.val) 0#32 = if r.val = 0 then 1#1 else 0#1 := by decide +kernel
  pointwise [k0_pay13, k0_pay12]
  rw [e r]
  refine congrArg (· - (h (ix2 r k) : EReal)) ?_
  unfold before
  by_cases hr : r.val = 0
  · simp only [hr, if_pos]
    rfl
  · simp only [hr, if_false]
    exact congrArg (fun q => h (ix2 q k)) (Fin.ext (by show (r.val + 512 - 1) % 512 = r.val - 1; omega))

section blends
variable (h : FVec Ideal S512x1024 .f32) (p : FVec Ideal S1x1024 .f32) (mu : Vec Ideal S6x1024 .f32) (r : Fin 512)

theorem blend_r (k : Fin 1024) : k0_pay15 h p k0_pay12 mu (ix2 r k) = blend (h (ix2 r k)) (before h p r k) (mu (ix2 0 k)) := by
  have e := difference_at h p r
  generalize hd : k0_pay13 h p k0_pay12 = d at e
  pointwise [k0_pay15, k0_pay14]
  rw [hd, e]
  rfl
theorem blend_k (k : Fin 1024) : k0_pay16 h p k0_pay12 mu (ix2 r k) = blend (h (ix2 r k)) (before h p r k) (mu (ix2 2 k)) := by
  have e := difference_at h p r
  generalize hd : k0_pay13 h p k0_pay12 = d at e
  pointwise [k0_pay16, k0_pay14]
  rw [hd, e]
  rfl
theorem blend_v (k : Fin 1024) : k0_pay17 h p k0_pay12 mu (ix2 r k) = blend (h (ix2 r k)) (before h p r k) (mu (ix2 3 k)) := by
  have e := difference_at h p r
  generalize hd : k0_pay13 h p k0_pay12 = d at e
  pointwise [k0_pay17, k0_pay14]
  rw [hd, e]
  rfl
theorem low_w (w : Vec Ideal S1024x128 .bf16) (u : Fin 128) : k0_pay18 h p k0_pay12 mu w (ix2 r u) = ∑ k, blend (h (ix2 r k)) (before h p r k) (mu (ix2 1 k)) * w (ix2 k u) := by
  have e := difference_at h p r
  generalize hd : k0_pay13 h p k0_pay12 = d at e
  pointwise [k0_pay18, k0_pay14]
  rw [hd]
  simp only [e]
  rfl
theorem low_a (w : Vec Ideal S1024x128 .bf16) (u : Fin 128) : k0_pay19 h p k0_pay12 mu w (ix2 r u) = ∑ k, blend (h (ix2 r k)) (before h p r k) (mu (ix2 4 k)) * w (ix2 k u) := by
  have e := difference_at h p r
  generalize hd : k0_pay13 h p k0_pay12 = d at e
  pointwise [k0_pay19, k0_pay14]
  rw [hd]
  simp only [e]
  rfl
theorem low_g (w : Vec Ideal S1024x128 .bf16) (u : Fin 128) : k0_pay20 h p k0_pay12 mu w (ix2 r u) = ∑ k, blend (h (ix2 r k)) (before h p r k) (mu (ix2 5 k)) * w (ix2 k u) := by
  have e := difference_at h p r
  generalize hd : k0_pay13 h p k0_pay12 = d at e
  pointwise [k0_pay20, k0_pay14]
  rw [hd]
  simp only [e]
  rfl
end blends

section products
variable (y : FVec Ideal S512x1024 .bf16) (w : Vec Ideal S1024x1024 .bf16) (l : FVec Ideal S512x128 .f32) (w' : Vec Ideal S128x1024 .bf16) (a k : FVec Ideal S512x1024 .f32) (z : FVec Ideal S1x1024 .f32) (v : Vec Ideal S8x1024 .f32) (r : Fin 512) (j : Fin 1024)

theorem out_r : k0_pay30 (k0_pay21 y w) (ix3 0 r j) = ∑ k : Fin 1024, (y (ix2 r k) : EReal) * w (ix2 k j) := by
  pointwise [k0_pay30, k0_pay21]
theorem out_v : k0_pay32 (k0_pay23 y w) (ix3 0 r j) = ∑ k : Fin 1024, (y (ix2 r k) : EReal) * w (ix2 k j) := by
  pointwise [k0_pay32, k0_pay23]
theorem key : k0_pay22 y w (ix2 r j) = ∑ k : Fin 1024, (y (ix2 r k) : EReal) * w (ix2 k j) := by
  pointwise [k0_pay22]
theorem out_decay : k0_pay29 (k0_pay24 (k0_pay6 v) l w') (ix3 0 r j)
    = logistic (v (ix2 1 j) + ∑ u : Fin 128, Ideal.tanh (l (ix2 r u)) * w' (ix2 u j)) * Ideal.ofBits .f32 0xBF1B4598#32 := by
  pointwise [k0_pay29, k0_pay24, k0_pay6, k0_pay4]
  simp only [zero_sub]
  rfl
theorem rate : k0_pay25 (k0_pay7 v) l w' (ix2 r j) = logistic (v (ix2 2 j) + ∑ u : Fin 128, (l (ix2 r u) : EReal) * w' (ix2 u j)) := by
  pointwise [k0_pay25, k0_pay7, k0_pay4]
  simp only [zero_sub]
  rfl
theorem out_rate : k0_pay2 a (ix3 0 r j) = a (ix2 r j) := by
  pointwise [k0_pay2]
theorem out_gate : k0_pay3 (k0_pay28 (k0_pay26 l) (k0_pay27 w')) (ix3 0 r j) = ∑ u : Fin 128, logistic (l (ix2 r u)) * w' (ix2 u j) := by
  pointwise [k0_pay3, k0_pay28, k0_pay26, k0_pay27]
  simp only [zero_sub]
  rfl
theorem out_key : k0_pay31 (k0_pay9 v) k a (ix3 0 r j) = (k (ix2 r j) : EReal) * (1 + ((a (ix2 r j) : EReal) - 1) * v (ix2 4 j)) := by
  pointwise [k0_pay31, k0_pay9, k0_pay4]
theorem out_remove : k0_pay1 (k0_pay33 (k0_pay8 v) k) (ix3 0 r j) = (k (ix2 r j) : EReal) * v (ix2 3 j) := by
  pointwise [k0_pay1, k0_pay33, k0_pay8, k0_pay4]
end products

/-! ## The seven blocks -/

section blocks
variable (i : grid0.Coords) (x0 : Vec Ideal S1x512x1024 .f32) (x1 : Vec Ideal S1x8x1024 .f32) (x2 : Vec Ideal S8x1024 .f32) (x3 : Vec Ideal S6x1024 .f32) (x4 x5 x6 : Vec Ideal S1024x1024 .bf16)
  (x7 : Vec Ideal S1024x128 .bf16) (x8 : Vec Ideal S128x1024 .bf16) (x9 : Vec Ideal S1024x128 .bf16) (x10 : Vec Ideal S128x1024 .bf16) (x11 : Vec Ideal S1024x128 .bf16) (x12 : Vec Ideal S128x1024 .bf16)

theorem pay34 : k0_pay34 i x0 x1 x2 x3 x4 x5 x6 x7 x8 x9 x10 x11 x12 = k0_pay10 x2 x0 := by
  unfold k0_pay34
  frame_out
theorem pay35 : k0_pay35 i x0 x1 x2 x3 x4 x5 x6 x7 x8 x9 x10 x11 x12 = k0_pay11 i x2 x1 := by
  unfold k0_pay35
  frame_out
theorem pay36 : k0_pay36 i x0 x1 x2 x3 x4 x5 x6 x7 x8 x9 x10 x11 x12 = k0_pay12 := by
  unfold k0_pay36
  frame_out
theorem pay37 : k0_pay37 i x0 x1 x2 x3 x4 x5 x6 x7 x8 x9 x10 x11 x12 = (k0_pay22 (k0_pay16 (k0_pay10 x2 x0) (k0_pay11 i x2 x1) k0_pay12 x3) x5) := by
  unfold k0_pay37
  frame_out
  simp only [pay34, pay35, pay36]
theorem pay38 : k0_pay38 i x0 x1 x2 x3 x4 x5 x6 x7 x8 x9 x10 x11 x12 = (k0_pay25 (k0_pay7 x2) (k0_pay19 (k0_pay10 x2 x0) (k0_pay11 i x2 x1) k0_pay12 x3 x9) x10) := by
  unfold k0_pay38
  frame_out
  simp only [pay34, pay35, pay36]
theorem block13 : out0_13 i x0 x1 x2 x3 x4 x5 x6 x7 x8 x9 x10 x11 x12 = k0_pay30 (k0_pay21 (k0_pay15 (k0_pay10 x2 x0) (k0_pay11 i x2 x1) k0_pay12 x3) x4) := by
  frame_out
  simp only [pay34, pay35, pay36]
theorem block14 : out0_14 i x0 x1 x2 x3 x4 x5 x6 x7 x8 x9 x10 x11 x12 = k0_pay29 (k0_pay24 (k0_pay6 x2) (k0_pay18 (k0_pay10 x2 x0) (k0_pay11 i x2 x1) k0_pay12 x3 x7) x8) := by
  frame_out
  simp only [pay34, pay35, pay36]
theorem block15 : out0_15 i x0 x1 x2 x3 x4 x5 x6 x7 x8 x9 x10 x11 x12 = k0_pay31 (k0_pay9 x2) (k0_pay22 (k0_pay16 (k0_pay10 x2 x0) (k0_pay11 i x2 x1) k0_pay12 x3) x5) (k0_pay25 (k0_pay7 x2) (k0_pay19 (k0_pay10 x2 x0) (k0_pay11 i x2 x1) k0_pay12 x3 x9) x10) := by
  frame_out
  simp only [pay37, pay38]
theorem block16 : out0_16 i x0 x1 x2 x3 x4 x5 x6 x7 x8 x9 x10 x11 x12 = k0_pay32 (k0_pay23 (k0_pay17 (k0_pay10 x2 x0) (k0_pay11 i x2 x1) k0_pay12 x3) x6) := by
  frame_out
  simp only [pay34, pay35, pay36]
theorem block17 : out0_17 i x0 x1 x2 x3 x4 x5 x6 x7 x8 x9 x10 x11 x12 = k0_pay1 (k0_pay33 (k0_pay8 x2) (k0_pay22 (k0_pay16 (k0_pay10 x2 x0) (k0_pay11 i x2 x1) k0_pay12 x3) x5)) := by
  frame_out
  simp only [pay37]
theorem block18 : out0_18 i x0 x1 x2 x3 x4 x5 x6 x7 x8 x9 x10 x11 x12 = k0_pay2 (k0_pay25 (k0_pay7 x2) (k0_pay19 (k0_pay10 x2 x0) (k0_pay11 i x2 x1) k0_pay12 x3 x9) x10) := by
  frame_out
  simp only [pay38]
theorem block19 : out0_19 i x0 x1 x2 x3 x4 x5 x6 x7 x8 x9 x10 x11 x12 = k0_pay3 (k0_pay28 (k0_pay26 (k0_pay20 (k0_pay10 x2 x0) (k0_pay11 i x2 x1) k0_pay12 x3 x11)) (k0_pay27 x12)) := by
  frame_out
  simp only [pay34, pay35, pay36]
end blocks

end Cert.MixIdeal.Pre
end
-- ==== Proof.MixHost.lean ====
module
public import proofs.«01_k».proof.Proof.MixBody
public import Idealize.ShloMosaic.Lib.StableHlo.ReadAt
/-!
# The arrays that the time mix's projections are launched on

The vectors are stacked, and the low ranks of 64 are padded to 128 with zeros.
-/
@[expose] public section
set_option maxRecDepth 16384
noncomputable section
namespace Cert.MixIdeal.Pre
open Cert.MixIdeal Cert.MixIdeal.Gen Cert.ExpertMath Cert.MixMath
open Idealize.ShloMosaic
open Idealize.ShloMosaic.TcCoe Idealize.ShloMosaic.Tactic

variable (m : (ℓ : Loc nD τ sig) → Buf (Elt Ideal) ℓ) (c : Dev nD)

theorem vector0 (k : Fin 1024) : V m c main_v13 (ix2 0 k) = m ((c.tc : Thread nD τ).loc main_arg1) (ix1 k) := by
  after_reads_at
  refine (congrFun (StableHlo.unary_result' ..) _).trans ?_
  after_reads_at
theorem vector1 (k : Fin 1024) : V m c main_v13 (ix2 1 k) = m ((c.tc : Thread nD τ).loc main_arg6) (ix2 0 k) := by
  after_reads_at
  refine (congrFun (StableHlo.unary_result' ..) _).trans ?_
  after_reads_at
theorem vector2 (k : Fin 1024) : V m c main_v13 (ix2 2 k) = m ((c.tc : Thread nD τ).loc main_arg9) (ix2 0 k) := by
  after_reads_at
  refine (congrFun (StableHlo.unary_result' ..) _).trans ?_
  after_reads_at
theorem vector3 (k : Fin 1024) : V m c main_v13 (ix2 3 k) = m ((c.tc : Thread nD τ).loc main_arg14) (ix2 0 k) := by
  after_reads_at
  refine (congrFun (StableHlo.unary_result' ..) _).trans ?_
  after_reads_at
theorem vector4 (k : Fin 1024) : V m c main_v13 (ix2 4 k) = m ((c.tc : Thread nD τ).loc main_arg15) (ix2 0 k) := by
  after_reads_at
  refine (congrFun (StableHlo.unary_result' ..) _).trans ?_
  after_reads_at
theorem mix_rows (y : S6x1024.Idx) : V m c main_v14 y = m ((c.tc : Thread nD τ).loc main_arg2) (ix3 0 (y 0) (y 1)) := by
  after_reads_at
theorem weight_r (y : S1024x1024.Idx) : V m c main_v16 y = m ((c.tc : Thread nD τ).loc main_arg3) (ix3 0 (y 0) (y 1)) := by
  after_reads_at
theorem weight_k (y : S1024x1024.Idx) : V m c main_v18 y = m ((c.tc : Thread nD τ).loc main_arg4) (ix3 0 (y 0) (y 1)) := by
  after_reads_at
theorem weight_v (y : S1024x1024.Idx) : V m c main_v20 y = m ((c.tc : Thread nD τ).loc main_arg5) (ix3 0 (y 0) (y 1)) := by
  after_reads_at
theorem gate_in (y : S1024x128.Idx) : V m c main_v34 y = m ((c.tc : Thread nD τ).loc main_arg12) (ix3 0 (y 0) (y 1)) := by
  after_reads_at
theorem gate_out (y : S128x1024.Idx) : V m c main_v36 y = m ((c.tc : Thread nD τ).loc main_arg13) (ix3 0 (y 0) (y 1)) := by
  after_reads_at
theorem decay_in (k : Fin 1024) (u : Fin 64) : V m c main_v23 (ix2 k ⟨u.val, by omega⟩) = m ((c.tc : Thread nD τ).loc main_arg7) (ix3 0 k u) := by
  after_reads_at
theorem decay_out (u : Fin 64) (k : Fin 1024) : V m c main_v26 (ix2 ⟨u.val, by omega⟩ k) = m ((c.tc : Thread nD τ).loc main_arg8) (ix3 0 u k) := by
  after_reads_at
theorem decay_pad (u : Fin 128) (k : Fin 1024) (hu : 64 ≤ u.val) : V m c main_v26 (ix2 u k) = (0 : EReal) := by
  after_reads_at
  rw [dif_neg (by omega)]
  exact word_zero
theorem rate_in (k : Fin 1024) (u : Fin 64) : V m c main_v29 (ix2 k ⟨u.val, by omega⟩) = m ((c.tc : Thread nD τ).loc main_arg10) (ix3 0 k u) := by
  after_reads_at
theorem rate_out (u : Fin 64) (k : Fin 1024) : V m c main_v32 (ix2 ⟨u.val, by omega⟩ k) = m ((c.tc : Thread nD τ).loc main_arg11) (ix3 0 u k) := by
  after_reads_at
theorem rate_pad (u : Fin 128) (k : Fin 1024) (hu : 64 ≤ u.val) : V m c main_v32 (ix2 u k) = (0 : EReal) := by
  after_reads_at
  rw [dif_neg (by omega)]
  exact word_zero

end Cert.MixIdeal.Pre
end
-- ==== Proof.MixValue.lean ====
module
public import proofs.«01_k».proof.Proof.MixHost
/-!
# The seven arrays that the time mix's projections leave, in exact arithmetic

The point of a batch entry and a tile of 512 rows writes the tile's block of every array.
-/
@[expose] public section
set_option maxRecDepth 16384
noncomputable section
namespace Cert.MixIdeal.Pre
open Cert.MixIdeal Cert.MixIdeal.Gen Cert.ExpertMath Cert.MixMath
open Idealize.ShloMosaic
open Idealize.ShloMosaic.TcCoe Idealize.ShloMosaic.Tactic

variable (m : (ℓ : Loc nD τ sig) → Buf (Elt Ideal) ℓ) (c : Dev nD)

/-! ## The blocks a point reads -/

theorem coords_at : ∀ t : Fin grid0.N, (grid0.coords t 1).val = t.val % 4 := by decide +kernel
theorem index0 : ∀ t : Fin grid0.N, win0_0.index t = ![t.val / 4, t.val % 4, 0] := by decide +kernel
theorem index1 : ∀ t : Fin grid0.N, win0_1.index t = ![t.val / 4, 64 * (t.val % 4) - 1, 0] := by decide +kernel
theorem index2 : ∀ t : Fin grid0.N, win0_2.index t = ![0, 0] := by decide +kernel
theorem index3 : ∀ t : Fin grid0.N, win0_3.index t = ![0, 0] := by decide +kernel
theorem index4 : ∀ t : Fin grid0.N, win0_4.index t = ![0, 0] := by decide +kernel
theorem index5 : ∀ t : Fin grid0.N, win0_5.index t = ![0, 0] := by decide +kernel
theorem index6 : ∀ t : Fin grid0.N, win0_6.index t = ![0, 0] := by decide +kernel
theorem index7 : ∀ t : Fin grid0.N, win0_7.index t = ![0, 0] := by decide +kernel
theorem index8 : ∀ t : Fin grid0.N, win0_8.index t = ![0, 0] := by decide +kernel
theorem index9 : ∀ t : Fin grid0.N, win0_9.index t = ![0, 0] := by decide +kernel
theorem index10 : ∀ t : Fin grid0.N, win0_10.index t = ![0, 0] := by decide +kernel
theorem index11 : ∀ t : Fin grid0.N, win0_11.index t = ![0, 0] := by decide +kernel
theorem index12 : ∀ t : Fin grid0.N, win0_12.index t = ![0, 0] := by decide +kernel
theorem index13 : ∀ t : Fin grid0.N, win0_13.index t = ![t.val / 4, t.val % 4, 0] := by decide +kernel
theorem index14 : ∀ t : Fin grid0.N, win0_14.index t = ![t.val / 4, t.val % 4, 0] := by decide +kernel
theorem index15 : ∀ t : Fin grid0.N, win0_15.index t = ![t.val / 4, t.val % 4, 0] := by decide +kernel
theorem index16 : ∀ t : Fin grid0.N, win0_16.index t = ![t.val / 4, t.val % 4, 0] := by decide +kernel
theorem index17 : ∀ t : Fin grid0.N, win0_17.index t = ![t.val / 4, t.val % 4, 0] := by decide +kernel
theorem index18 : ∀ t : Fin grid0.N, win0_18.index t = ![t.val / 4, t.val % 4, 0] := by decide +kernel
theorem index19 : ∀ t : Fin grid0.N, win0_19.index t = ![t.val / 4, t.val % 4, 0] := by decide +kernel

variable (t : Fin cfg0.N)

theorem x_at (r : Fin 512) (k : Fin 1024) (b : Fin 8) (i : Fin 2048) (hb : b.val = t.val / 4) (hi : i.val = t.val % 4 * 512 + r.val) :
    iblk m c 0 t (ix3 0 r k) = m ((c.tc : Thread nD τ).loc main_arg0) (ix3 b i k) := by
  refine Eq.trans (congrArg (V m c main_arg0) (?_ : _ = ix3 b i k)) (congrFun (V_main_arg0 m c) _)
  refine funext fun d => Fin.ext ((Pipeline.Window.rect_emb_val win0_0 t (ix3 0 r k) d rfl).trans ?_)
  rw [index0]
  match d with
  | ⟨0, _⟩ => exact (Nat.mul_one _).trans hb.symm
  | ⟨1, _⟩ => exact hi.symm
  | ⟨2, _⟩ => exact Nat.zero_add _
/-- The last row of the eight before the tile. -/
theorem last_at (k : Fin 1024) (b : Fin 8) (i : Fin 2048) (hb : b.val = t.val / 4) (hi : i.val + 1 = t.val % 4 * 512) :
    iblk m c 1 t (ix3 0 7 k) = m ((c.tc : Thread nD τ).loc main_arg0) (ix3 b i k) := by
  refine Eq.trans (congrArg (V m c main_arg0) (?_ : _ = ix3 b i k)) (congrFun (V_main_arg0 m c) _)
  refine funext fun d => Fin.ext ((Pipeline.Window.rect_emb_val win0_1 t (ix3 0 7 k) d rfl).trans ?_)
  rw [index1]
  match d with
  | ⟨0, _⟩ => exact (Nat.mul_one _).trans hb.symm
  | ⟨1, _⟩ =>
    show (64 * (t.val % 4) - 1) * 8 + 7 = i.val
    omega
  | ⟨2, _⟩ => exact Nat.zero_add _
theorem block2_at (a : Fin 8) (b : Fin 1024) : iblk m c 2 t (ix2 a b) = V m c main_v13 (ix2 a b) := by
  refine congrArg (V m c main_v13) (?_ : _ = ix2 a b)
  refine funext fun d => Fin.ext ((Pipeline.Window.rect_emb_val win0_2 t (ix2 a b) d rfl).trans ?_)
  rw [index2]
  match d with
  | ⟨0, _⟩ => exact Nat.zero_add _
  | ⟨1, _⟩ => exact Nat.zero_add _
theorem block3_at (a : Fin 6) (b : Fin 1024) : iblk m c 3 t (ix2 a b) = V m c main_v14 (ix2 a b) := by
  refine congrArg (V m c main_v14) (?_ : _ = ix2 a b)
  refine funext fun d => Fin.ext ((Pipeline.Window.rect_emb_val win0_3 t (ix2 a b) d rfl).trans ?_)
  rw [index3]
  match d with
  | ⟨0, _⟩ => exact Nat.zero_add _
  | ⟨1, _⟩ => exact Nat.zero_add _
theorem block4_at (a : Fin 1024) (b : Fin 1024) : iblk m c 4 t (ix2 a b) = V m c main_v16 (ix2 a b) := by
  refine congrArg (V m c main_v16) (?_ : _ = ix2 a b)
  refine funext fun d => Fin.ext ((Pipeline.Window.rect_emb_val win0_4 t (ix2 a b) d rfl).trans ?_)
  rw [index4]
  match d with
  | ⟨0, _⟩ => exact Nat.zero_add _
  | ⟨1, _⟩ => exact Nat.zero_add _
theorem block5_at (a : Fin 1024) (b : Fin 1024) : iblk m c 5 t (ix2 a b) = V m c main_v18 (ix2 a b) := by
  refine congrArg (V m c main_v18) (?_ : _ = ix2 a b)
  refine funext fun d => Fin.ext ((Pipeline.Window.rect_emb_val win0_5 t (ix2 a b) d rfl).trans ?_)
  rw [index5]
  match d with
  | ⟨0, _⟩ => exact Nat.zero_add _
  | ⟨1, _⟩ => exact Nat.zero_add _
theorem block6_at (a : Fin 1024) (b : Fin 1024) : iblk m c 6 t (ix2 a b) = V m c main_v20 (ix2 a b) := by
  refine congrArg (V m c main_v20) (?_ : _ = ix2 a b)
  refine funext fun d => Fin.ext ((Pipeline.Window.rect_emb_val win0_6 t (ix2 a b) d rfl).trans ?_)
  rw [index6]
  match d with
  | ⟨0, _⟩ => exact Nat.zero_add _
  | ⟨1, _⟩ => exact Nat.zero_add _
theorem block7_at (a : Fin 1024) (b : Fin 128) : iblk m c 7 t (ix2 a b) = V m c main_v23 (ix2 a b) := by
  refine congrArg (V m c main_v23) (?_ : _ = ix2 a b)
  refine funext fun d => Fin.ext ((Pipeline.Window.rect_emb_val win0_7 t (ix2 a b) d rfl).trans ?_)
  rw [index7]
  match d with
  | ⟨0, _⟩ => exact Nat.zero_add _
  | ⟨1, _⟩ => exact Nat.zero_add _
theorem block8_at (a : Fin 128) (b : Fin 1024) : iblk m c 8 t (ix2 a b) = V m c main_v26 (ix2 a b) := by
  refine congrArg (V m c main_v26) (?_ : _ = ix2 a b)
  refine funext fun d => Fin.ext ((Pipeline.Window.rect_emb_val win0_8 t (ix2 a b) d rfl).trans ?_)
  rw [index8]
  match d with
  | ⟨0, _⟩ => exact Nat.zero_add _
  | ⟨1, _⟩ => exact Nat.zero_add _
theorem block9_at (a : Fin 1024) (b : Fin 128) : iblk m c 9 t (ix2 a b) = V m c main_v29 (ix2 a b) := by
  refine congrArg (V m c main_v29) (?_ : _ = ix2 a b)
  refine funext fun d => Fin.ext ((Pipeline.Window.rect_emb_val win0_9 t (ix2 a b) d rfl).trans ?_)
  rw [index9]
  match d with
  | ⟨0, _⟩ => exact Nat.zero_add _
  | ⟨1, _⟩ => exact Nat.zero_add _
theorem block10_at (a : Fin 128) (b : Fin 1024) : iblk m c 10 t (ix2 a b) = V m c main_v32 (ix2 a b) := by
  refine congrArg (V m c main_v32) (?_ : _ = ix2 a b)
  refine funext fun d => Fin.ext ((Pipeline.Window.rect_emb_val win0_10 t (ix2 a b) d rfl).trans ?_)
  rw [index10]
  match d with
  | ⟨0, _⟩ => exact Nat.zero_add _
  | ⟨1, _⟩ => exact Nat.zero_add _
theorem block11_at (a : Fin 1024) (b : Fin 128) : iblk m c 11 t (ix2 a b) = V m c main_v34 (ix2 a b) := by
  refine congrArg (V m c main_v34) (?_ : _ = ix2 a b)
  refine funext fun d => Fin.ext ((Pipeline.Window.rect_emb_val win0_11 t (ix2 a b) d rfl).trans ?_)
  rw [index11]
  match d with
  | ⟨0, _⟩ => exact Nat.zero_add _
  | ⟨1, _⟩ => exact Nat.zero_add _
theorem block12_at (a : Fin 128) (b : Fin 1024) : iblk m c 12 t (ix2 a b) = V m c main_v36 (ix2 a b) := by
  refine congrArg (V m c main_v36) (?_ : _ = ix2 a b)
  refine funext fun d => Fin.ext ((Pipeline.Window.rect_emb_val win0_12 t (ix2 a b) d rfl).trans ?_)
  rw [index12]
  match d with
  | ⟨0, _⟩ => exact Nat.zero_add _
  | ⟨1, _⟩ => exact Nat.zero_add _

/-! ## A tile's blends -/

/-- The tile's normalised rows. -/
def tile : FVec Ideal S512x1024 .f32 := k0_pay10 (iblk m c 2 t) (iblk m c 0 t)
/-- The normalised row before the tile. -/
def edge : FVec Ideal S1x1024 .f32 := k0_pay11 (grid0.coords t) (iblk m c 2 t) (iblk m c 1 t)

theorem scaled_key {p p' a a' v v' : EReal} (hp : p = p') (ha : a = a') (hv : v = v') : p * (1 + (a - 1) * v) = p' * (1 + (a' - 1) * v') := by
  rw [hp, ha, hv]

section rows
variable (b : Fin 8) (r : Fin 512) (i : Fin 2048) (hb : b.val = t.val / 4) (hi : i.val = t.val % 4 * 512 + r.val) (k j : Fin 1024)

theorem gain_eq : (fun k => iblk m c 2 t (ix2 0 k)) = fun k => m ((c.tc : Thread nD τ).loc main_arg1) (ix1 k) :=
  funext fun k => (block2_at m c t 0 k).trans (vector0 m c k)

include hb hi

theorem tile_at : tile m c t (ix2 r k) = rowAt (m ((c.tc : Thread nD τ).loc main_arg0)) (m ((c.tc : Thread nD τ).loc main_arg1)) b i k := by
  have e0 : (fun k => iblk m c 0 t (ix3 0 r k)) = _ := funext fun k => x_at m c t r k b i hb hi
  refine (row_at _ _ r k).trans ?_
  rw [e0, gain_eq m c t]
  rfl

omit hi in
theorem edge_eq (hi : i.val = t.val % 4 * 512) : edge m c t (ix2 0 k) = earlierAt (m ((c.tc : Thread nD τ).loc main_arg0)) (m ((c.tc : Thread nD τ).loc main_arg1)) b i k := by
  refine (edge_at _ _ _ k).trans ?_
  rw [coords_at]
  unfold earlierAt
  by_cases ht : t.val % 4 = 0
  · rw [if_pos ht, if_pos (by omega)]
  · rw [if_neg ht, if_neg (by omega)]
    have e0 : (fun k => iblk m c 1 t (ix3 0 7 k)) = _ := funext fun k => last_at m c t k b ⟨i.val - 1, by omega⟩ hb (by show i.val - 1 + 1 = _; omega)
    rw [e0, gain_eq m c t]
    rfl

theorem before_at : before (tile m c t) (edge m c t) r k = earlierAt (m ((c.tc : Thread nD τ).loc main_arg0)) (m ((c.tc : Thread nD τ).loc main_arg1)) b i k := by
  unfold before
  by_cases hr : r.val = 0
  · rw [if_pos hr]
    exact edge_eq m c t b i hb k (by omega)
  · rw [if_neg hr]
    unfold earlierAt
    rw [if_neg (by omega)]
    exact tile_at m c t b ⟨r.val - 1, by omega⟩ ⟨i.val - 1, by omega⟩ hb (by show i.val - 1 = _ + (r.val - 1); omega) k

theorem mix_at (q : Fin 6) : blend (tile m c t (ix2 r k)) (before (tile m c t) (edge m c t) r k) (iblk m c 3 t (ix2 q k))
    = mixAt (m ((c.tc : Thread nD τ).loc main_arg0)) (m ((c.tc : Thread nD τ).loc main_arg1)) (m ((c.tc : Thread nD τ).loc main_arg2)) b i q k := by
  rw [tile_at m c t b r i hb hi k, before_at m c t b r i hb hi k]
  exact congrArg (blend _ _) ((block3_at m c t q k).trans (mix_rows m c _))

/-! ## The products of a tile -/

theorem product_r : k0_pay30 (k0_pay21 (k0_pay15 (tile m c t) (edge m c t) k0_pay12 (iblk m c 3 t)) (iblk m c 4 t)) (ix3 0 r j) = projectAt (m ((c.tc : Thread nD τ).loc main_arg0)) (m ((c.tc : Thread nD τ).loc main_arg1)) (m ((c.tc : Thread nD τ).loc main_arg2)) b i j 0 (m ((c.tc : Thread nD τ).loc main_arg3)) := by
  refine (out_r _ _ r j).trans ?_
  unfold projectAt
  refine Finset.sum_congr rfl fun k _ => congrArg₂ (fun a b : EReal => a * b) ?_ ?_
  · exact (blend_r _ _ _ r k).trans (mix_at m c t b r i hb hi k 0)
  · exact (block4_at m c t k j).trans (weight_r m c _)
theorem product_v : k0_pay32 (k0_pay23 (k0_pay17 (tile m c t) (edge m c t) k0_pay12 (iblk m c 3 t)) (iblk m c 6 t)) (ix3 0 r j) = projectAt (m ((c.tc : Thread nD τ).loc main_arg0)) (m ((c.tc : Thread nD τ).loc main_arg1)) (m ((c.tc : Thread nD τ).loc main_arg2)) b i j 3 (m ((c.tc : Thread nD τ).loc main_arg5)) := by
  refine (out_v _ _ r j).trans ?_
  unfold projectAt
  refine Finset.sum_congr rfl fun k _ => congrArg₂ (fun a b : EReal => a * b) ?_ ?_
  · exact (blend_v _ _ _ r k).trans (mix_at m c t b r i hb hi k 3)
  · exact (block6_at m c t k j).trans (weight_v m c _)
theorem product_k : k0_pay22 (k0_pay16 (tile m c t) (edge m c t) k0_pay12 (iblk m c 3 t)) (iblk m c 5 t) (ix2 r j) = projectAt (m ((c.tc : Thread nD τ).loc main_arg0)) (m ((c.tc : Thread nD τ).loc main_arg1)) (m ((c.tc : Thread nD τ).loc main_arg2)) b i j 2 (m ((c.tc : Thread nD τ).loc main_arg4)) := by
  refine (key _ _ r j).trans ?_
  unfold projectAt
  refine Finset.sum_congr rfl fun k _ => congrArg₂ (fun a b : EReal => a * b) ?_ ?_
  · exact (blend_k _ _ _ r k).trans (mix_at m c t b r i hb hi k 2)
  · exact (block5_at m c t k j).trans (weight_k m c _)

theorem decay_at : k0_pay29 (k0_pay24 (k0_pay6 (iblk m c 2 t)) (k0_pay18 (tile m c t) (edge m c t) k0_pay12 (iblk m c 3 t) (iblk m c 7 t)) (iblk m c 8 t)) (ix3 0 r j)
    = decayAt (m ((c.tc : Thread nD τ).loc main_arg0)) (m ((c.tc : Thread nD τ).loc main_arg1)) (m ((c.tc : Thread nD τ).loc main_arg2)) b i (m ((c.tc : Thread nD τ).loc main_arg6)) (m ((c.tc : Thread nD τ).loc main_arg7)) (m ((c.tc : Thread nD τ).loc main_arg8)) j := by
  refine (out_decay _ _ _ r j).trans ?_
  refine congrArg (fun y => logistic y * Ideal.ofBits .f32 0xBF1B4598#32) (congrArg₂ (fun a b : EReal => a + b) ((block2_at m c t 1 j).trans (vector1 m c j)) ?_)
  refine Eq.trans (b := hidden Ideal.tanh (mixAt (m ((c.tc : Thread nD τ).loc main_arg0)) (m ((c.tc : Thread nD τ).loc main_arg1)) (m ((c.tc : Thread nD τ).loc main_arg2)) b i 1) (fun k u => iblk m c 7 t (ix2 k u)) fun u => iblk m c 8 t (ix2 u j)) ?_ ?_
  · refine Finset.sum_congr rfl fun u _ => congrArg (fun y : EReal => Ideal.tanh y * (iblk m c 8 t (ix2 u j) : EReal)) ?_
    refine (low_w _ _ _ r _ u).trans (Finset.sum_congr rfl fun k _ => ?_)
    exact congrArg (fun y : EReal => y * (iblk m c 7 t (ix2 k u) : EReal)) (mix_at m c t b r i hb hi k 1)
  · exact hidden_pad _ _ _ _ _ _ (fun k u => (block7_at m c t _ _).trans (decay_in m c k u)) (fun u => (block8_at m c t _ _).trans (decay_out m c u j))
      fun u hu => (block8_at m c t _ _).trans (decay_pad m c u j hu)
theorem rate_at : k0_pay25 (k0_pay7 (iblk m c 2 t)) (k0_pay19 (tile m c t) (edge m c t) k0_pay12 (iblk m c 3 t) (iblk m c 9 t)) (iblk m c 10 t) (ix2 r j)
    = rateAt (m ((c.tc : Thread nD τ).loc main_arg0)) (m ((c.tc : Thread nD τ).loc main_arg1)) (m ((c.tc : Thread nD τ).loc main_arg2)) b i (m ((c.tc : Thread nD τ).loc main_arg9)) (m ((c.tc : Thread nD τ).loc main_arg10)) (m ((c.tc : Thread nD τ).loc main_arg11)) j := by
  refine (rate _ _ _ r j).trans ?_
  refine congrArg logistic (congrArg₂ (fun a b : EReal => a + b) ((block2_at m c t 2 j).trans (vector2 m c j)) ?_)
  refine Eq.trans (b := hidden (fun z => z) (mixAt (m ((c.tc : Thread nD τ).loc main_arg0)) (m ((c.tc : Thread nD τ).loc main_arg1)) (m ((c.tc : Thread nD τ).loc main_arg2)) b i 4) (fun k u => iblk m c 9 t (ix2 k u)) fun u => iblk m c 10 t (ix2 u j)) ?_ ?_
  · refine Finset.sum_congr rfl fun u _ => congrArg (fun y : EReal => y * (iblk m c 10 t (ix2 u j) : EReal)) ?_
    refine (low_a _ _ _ r _ u).trans (Finset.sum_congr rfl fun k _ => ?_)
    exact congrArg (fun y : EReal => y * (iblk m c 9 t (ix2 k u) : EReal)) (mix_at m c t b r i hb hi k 4)
  · exact hidden_pad _ _ _ _ _ _ (fun k u => (block9_at m c t _ _).trans (rate_in m c k u)) (fun u => (block10_at m c t _ _).trans (rate_out m c u j))
      fun u hu => (block10_at m c t _ _).trans (rate_pad m c u j hu)
theorem gate_at : k0_pay3 (k0_pay28 (k0_pay26 (k0_pay20 (tile m c t) (edge m c t) k0_pay12 (iblk m c 3 t) (iblk m c 11 t))) (k0_pay27 (iblk m c 12 t))) (ix3 0 r j)
    = gateAt (m ((c.tc : Thread nD τ).loc main_arg0)) (m ((c.tc : Thread nD τ).loc main_arg1)) (m ((c.tc : Thread nD τ).loc main_arg2)) b i (m ((c.tc : Thread nD τ).loc main_arg12)) (m ((c.tc : Thread nD τ).loc main_arg13)) j := by
  refine (out_gate _ _ r j).trans ?_
  unfold gateAt MixMath.hidden
  refine Finset.sum_congr rfl fun u _ => congrArg₂ (fun a b : EReal => logistic a * b) ?_ ((block12_at m c t u j).trans (gate_out m c _))
  refine (low_g _ _ _ r _ u).trans (Finset.sum_congr rfl fun k _ => ?_)
  exact congrArg₂ (fun a b : EReal => a * b) (mix_at m c t b r i hb hi k 5) ((block11_at m c t k u).trans (gate_in m c _))
theorem key_at : k0_pay31 (k0_pay9 (iblk m c 2 t)) (k0_pay22 (k0_pay16 (tile m c t) (edge m c t) k0_pay12 (iblk m c 3 t)) (iblk m c 5 t)) (k0_pay25 (k0_pay7 (iblk m c 2 t)) (k0_pay19 (tile m c t) (edge m c t) k0_pay12 (iblk m c 3 t) (iblk m c 9 t)) (iblk m c 10 t)) (ix3 0 r j)
    = keyAt (m ((c.tc : Thread nD τ).loc main_arg0)) (m ((c.tc : Thread nD τ).loc main_arg1)) (m ((c.tc : Thread nD τ).loc main_arg2)) b i (m ((c.tc : Thread nD τ).loc main_arg4)) (m ((c.tc : Thread nD τ).loc main_arg9)) (m ((c.tc : Thread nD τ).loc main_arg15)) (m ((c.tc : Thread nD τ).loc main_arg10)) (m ((c.tc : Thread nD τ).loc main_arg11)) j := by
  refine (out_key _ _ _ r j).trans ?_
  exact scaled_key (product_k m c t b r i hb hi j) (rate_at m c t b r i hb hi j) ((block2_at m c t 4 j).trans (vector4 m c j))
theorem remove_at : k0_pay1 (k0_pay33 (k0_pay8 (iblk m c 2 t)) (k0_pay22 (k0_pay16 (tile m c t) (edge m c t) k0_pay12 (iblk m c 3 t)) (iblk m c 5 t))) (ix3 0 r j)
    = removeAt (m ((c.tc : Thread nD τ).loc main_arg0)) (m ((c.tc : Thread nD τ).loc main_arg1)) (m ((c.tc : Thread nD τ).loc main_arg2)) b i (m ((c.tc : Thread nD τ).loc main_arg4)) (m ((c.tc : Thread nD τ).loc main_arg14)) j := by
  refine (out_remove _ _ r j).trans ?_
  exact congrArg₂ (fun a b : EReal => a * b) (product_k m c t b r i hb hi j) ((block2_at m c t 3 j).trans (vector3 m c j))
end rows

/-! ## The arrays at the end -/

/-- A number of a block is the array's where the block lies. -/
theorem place (F : S1x512x1024.Idx → EReal) (f : Fin 8 → Fin 2048 → Fin 1024 → EReal) (a u : ℕ) (y : S1x512x1024.Idx) (z : S8x2048x1024.Idx)
    (e0 : (z 0).val = a * 1 + (y 0).val) (e1 : (z 1).val = u * 512 + (y 1).val) (e2 : (z 2).val = 0 * 1024 + (y 2).val)
    (hF : ∀ (b : Fin 8) (r : Fin 512) (i : Fin 2048) (j : Fin 1024), b.val = a → i.val = u * 512 + r.val → F (ix3 0 r j) = f b i j) :
    F y = f (z 0) (z 1) (z 2) := by
  have h0 : (y 0).val = 0 := Nat.lt_one_iff.mp (y 0).isLt
  have hy : y = ix3 0 (y 1) (y 2) := (ix3_eta y).symm.trans (congrArg (fun q : Fin 1 => ix3 q (y 1) (y 2)) (Fin.ext h0))
  rw [hy]
  refine (hF (z 0) (y 1) (z 1) (y 2) (by omega) e1).trans (congrArg (f _ _) (Fin.ext ?_))
  omega

theorem final13 : (dats m 0 c).arrAt 13 cfg0.N = fun z => projectAt (m ((c.tc : Thread nD τ).loc main_arg0)) (m ((c.tc : Thread nD τ).loc main_arg1)) (m ((c.tc : Thread nD τ).loc main_arg2)) (z 0) (z 1) (z 2) 0 (m ((c.tc : Thread nD τ).loc main_arg3)) := by
  refine (dats m 0 c).arrAt_eq_of_covers 13 _ (by decide +kernel) fun t _ y => ?_
  have e (a) := Pipeline.Window.rect_emb_val win0_13 t y a rfl
  simp only [index13 t] at e
  show (dats m 0 c).after 13 t y = _
  rw [after0_13, block13]
  exact place _ (fun b i j => projectAt (m ((c.tc : Thread nD τ).loc main_arg0)) (m ((c.tc : Thread nD τ).loc main_arg1)) (m ((c.tc : Thread nD τ).loc main_arg2)) b i j 0 (m ((c.tc : Thread nD τ).loc main_arg3))) _ _ y _ (e 0) (e 1) (e 2) fun b r i j hb hi => (product_r m c t b r i hb hi j)
theorem final14 : (dats m 0 c).arrAt 14 cfg0.N = fun z => decayAt (m ((c.tc : Thread nD τ).loc main_arg0)) (m ((c.tc : Thread nD τ).loc main_arg1)) (m ((c.tc : Thread nD τ).loc main_arg2)) (z 0) (z 1) (m ((c.tc : Thread nD τ).loc main_arg6)) (m ((c.tc : Thread nD τ).loc main_arg7)) (m ((c.tc : Thread nD τ).loc main_arg8)) (z 2) := by
  refine (dats m 0 c).arrAt_eq_of_covers 14 _ (by decide +kernel) fun t _ y => ?_
  have e (a) := Pipeline.Window.rect_emb_val win0_14 t y a rfl
  simp only [index14 t] at e
  show (dats m 0 c).after 14 t y = _
  rw [after0_14, block14]
  exact place _ (fun b i j => decayAt (m ((c.tc : Thread nD τ).loc main_arg0)) (m ((c.tc : Thread nD τ).loc main_arg1)) (m ((c.tc : Thread nD τ).loc main_arg2)) b i (m ((c.tc : Thread nD τ).loc main_arg6)) (m ((c.tc : Thread nD τ).loc main_arg7)) (m ((c.tc : Thread nD τ).loc main_arg8)) j) _ _ y _ (e 0) (e 1) (e 2) fun b r i j hb hi => (decay_at m c t b r i hb hi j)
theorem final15 : (dats m 0 c).arrAt 15 cfg0.N = fun z => keyAt (m ((c.tc : Thread nD τ).loc main_arg0)) (m ((c.tc : Thread nD τ).loc main_arg1)) (m ((c.tc : Thread nD τ).loc main_arg2)) (z 0) (z 1) (m ((c.tc : Thread nD τ).loc main_arg4)) (m ((c.tc : Thread nD τ).loc main_arg9)) (m ((c.tc : Thread nD τ).loc main_arg15)) (m ((c.tc : Thread nD τ).loc main_arg10)) (m ((c.tc : Thread nD τ).loc main_arg11)) (z 2) := by
  refine (dats m 0 c).arrAt_eq_of_covers 15 _ (by decide +kernel) fun t _ y => ?_
  have e (a) := Pipeline.Window.rect_emb_val win0_15 t y a rfl
  simp only [index15 t] at e
  show (dats m 0 c).after 15 t y = _
  rw [after0_15, block15]
  exact place _ (fun b i j => keyAt (m ((c.tc : Thread nD τ).loc main_arg0)) (m ((c.tc : Thread nD τ).loc main_arg1)) (m ((c.tc : Thread nD τ).loc main_arg2)) b i (m ((c.tc : Thread nD τ).loc main_arg4)) (m ((c.tc : Thread nD τ).loc main_arg9)) (m ((c.tc : Thread nD τ).loc main_arg15)) (m ((c.tc : Thread nD τ).loc main_arg10)) (m ((c.tc : Thread nD τ).loc main_arg11)) j) _ _ y _ (e 0) (e 1) (e 2) fun b r i j hb hi => (key_at m c t b r i hb hi j)
theorem final16 : (dats m 0 c).arrAt 16 cfg0.N = fun z => projectAt (m ((c.tc : Thread nD τ).loc main_arg0)) (m ((c.tc : Thread nD τ).loc main_arg1)) (m ((c.tc : Thread nD τ).loc main_arg2)) (z 0) (z 1) (z 2) 3 (m ((c.tc : Thread nD τ).loc main_arg5)) := by
  refine (dats m 0 c).arrAt_eq_of_covers 16 _ (by decide +kernel) fun t _ y => ?_
  have e (a) := Pipeline.Window.rect_emb_val win0_16 t y a rfl
  simp only [index16 t] at e
  show (dats m 0 c).after 16 t y = _
  rw [after0_16, block16]
  exact place _ (fun b i j => projectAt (m ((c.tc : Thread nD τ).loc main_arg0)) (m ((c.tc : Thread nD τ).loc main_arg1)) (m ((c.tc : Thread nD τ).loc main_arg2)) b i j 3 (m ((c.tc : Thread nD τ).loc main_arg5))) _ _ y _ (e 0) (e 1) (e 2) fun b r i j hb hi => (product_v m c t b r i hb hi j)
theorem final17 : (dats m 0 c).arrAt 17 cfg0.N = fun z => removeAt (m ((c.tc : Thread nD τ).loc main_arg0)) (m ((c.tc : Thread nD τ).loc main_arg1)) (m ((c.tc : Thread nD τ).loc main_arg2)) (z 0) (z 1) (m ((c.tc : Thread nD τ).loc main_arg4)) (m ((c.tc : Thread nD τ).loc main_arg14)) (z 2) := by
  refine (dats m 0 c).arrAt_eq_of_covers 17 _ (by decide +kernel) fun t _ y => ?_
  have e (a) := Pipeline.Window.rect_emb_val win0_17 t y a rfl
  simp only [index17 t] at e
  show (dats m 0 c).after 17 t y = _
  rw [after0_17, block17]
  exact place _ (fun b i j => removeAt (m ((c.tc : Thread nD τ).loc main_arg0)) (m ((c.tc : Thread nD τ).loc main_arg1)) (m ((c.tc : Thread nD τ).loc main_arg2)) b i (m ((c.tc : Thread nD τ).loc main_arg4)) (m ((c.tc : Thread nD τ).loc main_arg14)) j) _ _ y _ (e 0) (e 1) (e 2) fun b r i j hb hi => (remove_at m c t b r i hb hi j)
theorem final18 : (dats m 0 c).arrAt 18 cfg0.N = fun z => rateAt (m ((c.tc : Thread nD τ).loc main_arg0)) (m ((c.tc : Thread nD τ).loc main_arg1)) (m ((c.tc : Thread nD τ).loc main_arg2)) (z 0) (z 1) (m ((c.tc : Thread nD τ).loc main_arg9)) (m ((c.tc : Thread nD τ).loc main_arg10)) (m ((c.tc : Thread nD τ).loc main_arg11)) (z 2) := by
  refine (dats m 0 c).arrAt_eq_of_covers 18 _ (by decide +kernel) fun t _ y => ?_
  have e (a) := Pipeline.Window.rect_emb_val win0_18 t y a rfl
  simp only [index18 t] at e
  show (dats m 0 c).after 18 t y = _
  rw [after0_18, block18]
  exact place _ (fun b i j => rateAt (m ((c.tc : Thread nD τ).loc main_arg0)) (m ((c.tc : Thread nD τ).loc main_arg1)) (m ((c.tc : Thread nD τ).loc main_arg2)) b i (m ((c.tc : Thread nD τ).loc main_arg9)) (m ((c.tc : Thread nD τ).loc main_arg10)) (m ((c.tc : Thread nD τ).loc main_arg11)) j) _ _ y _ (e 0) (e 1) (e 2) fun b r i j hb hi => (out_rate _ r j).trans (rate_at m c t b r i hb hi j)
theorem final19 : (dats m 0 c).arrAt 19 cfg0.N = fun z => gateAt (m ((c.tc : Thread nD τ).loc main_arg0)) (m ((c.tc : Thread nD τ).loc main_arg1)) (m ((c.tc : Thread nD τ).loc main_arg2)) (z 0) (z 1) (m ((c.tc : Thread nD τ).loc main_arg12)) (m ((c.tc : Thread nD τ).loc main_arg13)) (z 2) := by
  refine (dats m 0 c).arrAt_eq_of_covers 19 _ (by decide +kernel) fun t _ y => ?_
  have e (a) := Pipeline.Window.rect_emb_val win0_19 t y a rfl
  simp only [index19 t] at e
  show (dats m 0 c).after 19 t y = _
  rw [after0_19, block19]
  exact place _ (fun b i j => gateAt (m ((c.tc : Thread nD τ).loc main_arg0)) (m ((c.tc : Thread nD τ).loc main_arg1)) (m ((c.tc : Thread nD τ).loc main_arg2)) b i (m ((c.tc : Thread nD τ).loc main_arg12)) (m ((c.tc : Thread nD τ).loc main_arg13)) j) _ _ y _ (e 0) (e 1) (e 2) fun b r i j hb hi => (gate_at m c t b r i hb hi j)

end Cert.MixIdeal.Pre
end
-- ==== Proof.MixRefValue.lean ====
module
public import proofs.«01_k».proof.Proof.Gen.MixRefIdeal.Run
public import proofs.«01_k».proof.Proof.MixMath
public import Idealize.ShloMosaic.Lib.StableHlo.ReadAt
/-!
# What the reference of the time mix's projections computes
-/
@[expose] public section
set_option maxRecDepth 16384
noncomputable section
namespace Cert.MixRefIdeal.Pre
open Cert.MixRefIdeal Cert.MixRefIdeal.Gen Cert.MixRefIdeal.Value Cert.ExpertMath Cert.MixMath
open Idealize.ShloMosaic
open Idealize.ShloMosaic.TcCoe Idealize.ShloMosaic.Tactic

variable (x : FVec Ideal S8x2048x1024 .f32) (g : FVec Ideal S1024 .f32) (mu : FVec Ideal S1x6x1024 .f32) (wr wk wv : FVec Ideal S1x1024x1024 .f32) (w0 a0 kk ka : FVec Ideal S1x1024 .f32)
  (w1 a1 : FVec Ideal S1x1024x64 .f32) (w2 a2 : FVec Ideal S1x64x1024 .f32) (g1 : FVec Ideal S1x1024x128 .f32) (g2 : FVec Ideal S1x128x1024 .f32)

/-- The normalised rows. -/
def rows : FVec Ideal S8x2048x1024 .f32 :=
  mulf (mulf x (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf x x) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x3727C5AC#32)))))) (broadcastInDim S8x2048x1024 ![0, 1, 2] bcast_S1x1x1024_S8x2048x1024_0_1_2 (broadcastInDim S1x1x1024 ![2] bcast_S1024_S1x1x1024_2 g))

theorem rows_at (b : Fin 8) (t : Fin 2048) (k : Fin 1024) : rows x g (ix3 b t k) = rowAt x g b t k := by
  pointwise [rows]
  rfl

/-- The rows moved towards the ones before them, by the numbers of `s`. -/
def mixed (s : FVec Ideal S1x1x1024 .f32) : FVec Ideal S8x2048x1024 .f32 :=
  addf (rows x g) (mulf (subf (pad S8x2048x1024 ![0, 1, 0] ![0, 0, 0] ![0, 0, 0] (extractStridedSlice S8x2047x1024 ![0, 0, 0] (rows x g) slices_S8x2048x1024_S8x2047x1024_0_0_0) (sitofp .f32 (constantI S_ 32 0#32)) pads_S8x2047x1024_S8x2048x1024_000_100_000 h_S_) (rows x g)) (broadcastInDim S8x2048x1024 ![0, 1, 2] bcast_S1x1x1024_S8x2048x1024_0_1_2 (broadcastInDim S1x1x1024 ![2] bcast_S1024_S1x1x1024_2 (shapeCast _ s shapeCasts_S1x1x1024_S1024))))

theorem mixed_at (s : FVec Ideal S1x1x1024 .f32) (b : Fin 8) (t : Fin 2048) (k : Fin 1024) :
    mixed x g s (ix3 b t k) = blend (rowAt x g b t k) (earlierAt x g b t k) (s (ix3 0 0 k)) := by
  pointwise [mixed]
  rw [rows_at, word_zero]
  refine congrArg (fun y : EReal => rowAt x g b t k + (y - rowAt x g b t k) * s (ix3 0 0 k)) ?_
  unfold earlierAt
  by_cases ht : t.val = 0
  · rw [if_pos ht, dif_neg fun h => by omega]
  · rw [if_neg ht, dif_pos ⟨by omega, by omega⟩, rows_at]

theorem mixed0 (b : Fin 8) (t : Fin 2048) (k : Fin 1024) :
    mixed x g (extractStridedSlice S1x1x1024 ![0, 0, 0] mu slices_S1x6x1024_S1x1x1024_0_0_0) (ix3 b t k) = mixAt x g mu b t 0 k := by
  refine (mixed_at x g _ b t k).trans (congrArg (blend _ _) ?_)
  pointwise []
theorem mixed1 (b : Fin 8) (t : Fin 2048) (k : Fin 1024) :
    mixed x g (extractStridedSlice S1x1x1024 ![0, 1, 0] mu slices_S1x6x1024_S1x1x1024_0_1_0) (ix3 b t k) = mixAt x g mu b t 1 k := by
  refine (mixed_at x g _ b t k).trans (congrArg (blend _ _) ?_)
  pointwise []
theorem mixed2 (b : Fin 8) (t : Fin 2048) (k : Fin 1024) :
    mixed x g (extractStridedSlice S1x1x1024 ![0, 2, 0] mu slices_S1x6x1024_S1x1x1024_0_2_0) (ix3 b t k) = mixAt x g mu b t 2 k := by
  refine (mixed_at x g _ b t k).trans (congrArg (blend _ _) ?_)
  pointwise []
theorem mixed3 (b : Fin 8) (t : Fin 2048) (k : Fin 1024) :
    mixed x g (extractStridedSlice S1x1x1024 ![0, 3, 0] mu slices_S1x6x1024_S1x1x1024_0_3_0) (ix3 b t k) = mixAt x g mu b t 3 k := by
  refine (mixed_at x g _ b t k).trans (congrArg (blend _ _) ?_)
  pointwise []
theorem mixed4 (b : Fin 8) (t : Fin 2048) (k : Fin 1024) :
    mixed x g (extractStridedSlice S1x1x1024 ![0, 4, 0] mu slices_S1x6x1024_S1x1x1024_0_4_0) (ix3 b t k) = mixAt x g mu b t 4 k := by
  refine (mixed_at x g _ b t k).trans (congrArg (blend _ _) ?_)
  pointwise []
theorem mixed5 (b : Fin 8) (t : Fin 2048) (k : Fin 1024) :
    mixed x g (extractStridedSlice S1x1x1024 ![0, 5, 0] mu slices_S1x6x1024_S1x1x1024_0_5_0) (ix3 b t k) = mixAt x g mu b t 5 k := by
  refine (mixed_at x g _ b t k).trans (congrArg (blend _ _) ?_)
  pointwise []

/-- The keys before their scaling. -/
def keys : FVec Ideal S8x2048x1024 .f32 :=
  Host.dotGeneral dot_S8x2048x1024_S1024x1024_S8x2048x1024_2_0_01_1_n_n none (mixed x g (extractStridedSlice S1x1x1024 ![0, 2, 0] mu slices_S1x6x1024_S1x1x1024_0_2_0)) (shapeCast _ wk shapeCasts_S1x1024x1024_S1024x1024)

theorem keys_at (b : Fin 8) (t : Fin 2048) (j : Fin 1024) : keys x g mu wk (ix3 b t j) = projectAt x g mu b t j 2 wk := by
  pointwise [keys]
  simp only [mixed2]
  rfl

/-- The learning rates. -/
def rates : FVec Ideal S8x2048x1024 .f32 :=
  Host.divf (broadcastInDim S8x2048x1024 ![] bcast_S_S8x2048x1024 (constant S_ .f32 0x3F800000#32)) (addf (broadcastInDim S8x2048x1024 ![] bcast_S_S8x2048x1024 (constant S_ .f32 0x3F800000#32)) (Host.exp (Host.negf (addf (broadcastInDim S8x2048x1024 ![0, 1, 2] bcast_S1x1x1024_S8x2048x1024_0_1_2 (broadcastInDim S1x1x1024 ![2] bcast_S1024_S1x1x1024_2 (shapeCast _ a0 shapeCasts_S1x1024_S1024))) (Host.dotGeneral dot_S8x2048x64_S64x1024_S8x2048x1024_2_0_01_1_n_n none (Host.dotGeneral dot_S8x2048x1024_S1024x64_S8x2048x64_2_0_01_1_n_n none (mixed x g (extractStridedSlice S1x1x1024 ![0, 4, 0] mu slices_S1x6x1024_S1x1x1024_0_4_0)) (shapeCast _ a1 shapeCasts_S1x1024x64_S1024x64)) (shapeCast _ a2 shapeCasts_S1x64x1024_S64x1024))))))

theorem rates_at (b : Fin 8) (t : Fin 2048) (j : Fin 1024) : rates x g mu a0 a1 a2 (ix3 b t j) = rateAt x g mu b t a0 a1 a2 j := by
  pointwise [rates]
  simp only [mixed4]
  rfl

/-! ## The seven results -/

theorem result_r :
    (truncf .bf16 (Host.dotGeneral dot_S8x2048x1024_S1024x1024_S8x2048x1024_2_0_01_1_n_n none (mixed x g (extractStridedSlice S1x1x1024 ![0, 0, 0] mu slices_S1x6x1024_S1x1x1024_0_0_0)) (shapeCast _ wr shapeCasts_S1x1024x1024_S1024x1024)) bitsLt_bf16_f32 : FVec Ideal S8x2048x1024 .bf16)
      = fun z => projectAt x g mu (z 0) (z 1) (z 2) 0 wr := by
  funext z
  obtain ⟨b, t, j, rfl⟩ : ∃ (b : Fin 8) (t : Fin 2048) (j : Fin 1024), z = ix3 b t j := ⟨z 0, z 1, z 2, (ix3_eta z).symm⟩
  pointwise []
  simp only [mixed0]
  rfl
theorem result_decay :
    (mulf (Host.divf (broadcastInDim S8x2048x1024 ![] bcast_S_S8x2048x1024 (constant S_ .f32 0x3F800000#32)) (addf (broadcastInDim S8x2048x1024 ![] bcast_S_S8x2048x1024 (constant S_ .f32 0x3F800000#32)) (Host.exp (Host.negf (addf (broadcastInDim S8x2048x1024 ![0, 1, 2] bcast_S1x1x1024_S8x2048x1024_0_1_2 (broadcastInDim S1x1x1024 ![2] bcast_S1024_S1x1x1024_2 (shapeCast _ w0 shapeCasts_S1x1024_S1024))) (Host.dotGeneral dot_S8x2048x64_S64x1024_S8x2048x1024_2_0_01_1_n_n none (Host.tanh (Host.dotGeneral dot_S8x2048x1024_S1024x64_S8x2048x64_2_0_01_1_n_n none (mixed x g (extractStridedSlice S1x1x1024 ![0, 1, 0] mu slices_S1x6x1024_S1x1x1024_0_1_0)) (shapeCast _ w1 shapeCasts_S1x1024x64_S1024x64))) (shapeCast _ w2 shapeCasts_S1x64x1024_S64x1024))))))) (broadcastInDim S8x2048x1024 ![] bcast_S_S8x2048x1024 (constant S_ .f32 0xBF1B4598#32)) : FVec Ideal S8x2048x1024 .f32)
      = fun z => decayAt x g mu (z 0) (z 1) w0 w1 w2 (z 2) := by
  funext z
  obtain ⟨b, t, j, rfl⟩ : ∃ (b : Fin 8) (t : Fin 2048) (j : Fin 1024), z = ix3 b t j := ⟨z 0, z 1, z 2, (ix3_eta z).symm⟩
  pointwise []
  simp only [mixed1]
  rfl
theorem result_key :
    (truncf .bf16 (mulf (keys x g mu wk) (addf (broadcastInDim S8x2048x1024 ![] bcast_S_S8x2048x1024 (constant S_ .f32 0x3F800000#32)) (mulf (subf (rates x g mu a0 a1 a2) (broadcastInDim S8x2048x1024 ![] bcast_S_S8x2048x1024 (constant S_ .f32 0x3F800000#32))) (broadcastInDim S8x2048x1024 ![0, 1, 2] bcast_S1x1x1024_S8x2048x1024_0_1_2 (broadcastInDim S1x1x1024 ![2] bcast_S1024_S1x1x1024_2 (shapeCast _ ka shapeCasts_S1x1024_S1024)))))) bitsLt_bf16_f32 : FVec Ideal S8x2048x1024 .bf16)
      = fun z => keyAt x g mu (z 0) (z 1) wk a0 ka a1 a2 (z 2) := by
  funext z
  obtain ⟨b, t, j, rfl⟩ : ∃ (b : Fin 8) (t : Fin 2048) (j : Fin 1024), z = ix3 b t j := ⟨z 0, z 1, z 2, (ix3_eta z).symm⟩
  pointwise []
  rw [keys_at, rates_at]
  rfl
theorem result_v :
    (truncf .bf16 (Host.dotGeneral dot_S8x2048x1024_S1024x1024_S8x2048x1024_2_0_01_1_n_n none (mixed x g (extractStridedSlice S1x1x1024 ![0, 3, 0] mu slices_S1x6x1024_S1x1x1024_0_3_0)) (shapeCast _ wv shapeCasts_S1x1024x1024_S1024x1024)) bitsLt_bf16_f32 : FVec Ideal S8x2048x1024 .bf16)
      = fun z => projectAt x g mu (z 0) (z 1) (z 2) 3 wv := by
  funext z
  obtain ⟨b, t, j, rfl⟩ : ∃ (b : Fin 8) (t : Fin 2048) (j : Fin 1024), z = ix3 b t j := ⟨z 0, z 1, z 2, (ix3_eta z).symm⟩
  pointwise []
  simp only [mixed3]
  rfl
theorem result_remove :
    (truncf .bf16 (mulf (keys x g mu wk) (broadcastInDim S8x2048x1024 ![0, 1, 2] bcast_S1x1x1024_S8x2048x1024_0_1_2 (broadcastInDim S1x1x1024 ![2] bcast_S1024_S1x1x1024_2 (shapeCast _ kk shapeCasts_S1x1024_S1024)))) bitsLt_bf16_f32 : FVec Ideal S8x2048x1024 .bf16)
      = fun z => removeAt x g mu (z 0) (z 1) wk kk (z 2) := by
  funext z
  obtain ⟨b, t, j, rfl⟩ : ∃ (b : Fin 8) (t : Fin 2048) (j : Fin 1024), z = ix3 b t j := ⟨z 0, z 1, z 2, (ix3_eta z).symm⟩
  pointwise []
  rw [keys_at]
  rfl
theorem result_rate :
    (truncf .bf16 (rates x g mu a0 a1 a2) bitsLt_bf16_f32 : FVec Ideal S8x2048x1024 .bf16)
      = fun z => rateAt x g mu (z 0) (z 1) a0 a1 a2 (z 2) := by
  funext z
  obtain ⟨b, t, j, rfl⟩ : ∃ (b : Fin 8) (t : Fin 2048) (j : Fin 1024), z = ix3 b t j := ⟨z 0, z 1, z 2, (ix3_eta z).symm⟩
  pointwise []
  rw [rates_at]
theorem result_gate :
    (truncf .bf16 (Host.dotGeneral dot_S8x2048x128_S128x1024_S8x2048x1024_2_0_01_1_n_n none (Host.divf (broadcastInDim S8x2048x128 ![] bcast_S_S8x2048x128 (constant S_ .f32 0x3F800000#32)) (addf (broadcastInDim S8x2048x128 ![] bcast_S_S8x2048x128 (constant S_ .f32 0x3F800000#32)) (Host.exp (Host.negf (Host.dotGeneral dot_S8x2048x1024_S1024x128_S8x2048x128_2_0_01_1_n_n none (mixed x g (extractStridedSlice S1x1x1024 ![0, 5, 0] mu slices_S1x6x1024_S1x1x1024_0_5_0)) (shapeCast _ g1 shapeCasts_S1x1024x128_S1024x128)))))) (shapeCast _ g2 shapeCasts_S1x128x1024_S128x1024)) bitsLt_bf16_f32 : FVec Ideal S8x2048x1024 .bf16)
      = fun z => gateAt x g mu (z 0) (z 1) g1 g2 (z 2) := by
  funext z
  obtain ⟨b, t, j, rfl⟩ : ∃ (b : Fin 8) (t : Fin 2048) (j : Fin 1024), z = ix3 b t j := ⟨z 0, z 1, z 2, (ix3_eta z).symm⟩
  pointwise []
  simp only [mixed5]
  rfl

end Cert.MixRefIdeal.Pre
end
-- ==== Proof.MixClaims.lean ====
module
public import proofs.«01_k».proof.Defs
public import proofs.«01_k».proof.Proof.MixValue
public import proofs.«01_k».proof.Proof.MixRefValue
public import proofs.«01_k».proof.Proof.Gen.Mix.Frame
public import proofs.«01_k».proof.Proof.Gen.MixIdeal.Frame
/-!
# The claims of the time mix's projections
-/
@[expose] public section
set_option maxRecDepth 16384
noncomputable section
namespace Cert.MixIdeal.Pre
open Cert.MixIdeal Cert.MixIdeal.Gen Cert.MixMath
open Idealize.ShloMosaic Idealize.SL.Sem
open Idealize.ShloMosaic.TcCoe

theorem frame_mix : Cert.quiescent_Mix := fun m ρ _ => Cert.Mix.Gen.frame m ρ

theorem frame_mix_ideal : Cert.quiescent_MixIdeal := fun m ρ _ => Cert.MixIdeal.Gen.frame m ρ

theorem frame_mix_ref : Cert.quiescent_MixRefIdeal := fun m ρ _ =>
  (θ_run Cert.MixRefIdeal.defs _ _).mono (fun r h => ⟨fun c => (h c).2.2.2.2.2.2.2, sem_eq_zero_of_no_sems (by decide) r.2⟩)
    (Cert.MixRefIdeal.Value.run (F := Ideal) m ρ)

variable (m : (ℓ : Loc nD τ sig) → Buf (Elt Ideal) ℓ) (c : Dev nD)
theorem same13 {x : FVec Ideal S8x2048x1024 .f32} {g : FVec Ideal S1024 .f32} {mu : FVec Ideal S1x6x1024 .f32} {wr : FVec Ideal S1x1024x1024 .f32} (e0 : x = m ((c.tc : Thread nD τ).loc main_arg0)) (e1 : g = m ((c.tc : Thread nD τ).loc main_arg1)) (e2 : mu = m ((c.tc : Thread nD τ).loc main_arg2)) (e3 : wr = m ((c.tc : Thread nD τ).loc main_arg3)) :
    (fun z => projectAt x g mu (z 0) (z 1) (z 2) 0 wr) = (dats m 0 c).arrAt 13 cfg0.N := by
  subst e0 e1 e2 e3
  exact (final13 m c).symm
theorem same14 {x : FVec Ideal S8x2048x1024 .f32} {g : FVec Ideal S1024 .f32} {mu : FVec Ideal S1x6x1024 .f32} {w0 : FVec Ideal S1x1024 .f32} {w1 : FVec Ideal S1x1024x64 .f32} {w2 : FVec Ideal S1x64x1024 .f32} (e0 : x = m ((c.tc : Thread nD τ).loc main_arg0)) (e1 : g = m ((c.tc : Thread nD τ).loc main_arg1)) (e2 : mu = m ((c.tc : Thread nD τ).loc main_arg2)) (e6 : w0 = m ((c.tc : Thread nD τ).loc main_arg6)) (e7 : w1 = m ((c.tc : Thread nD τ).loc main_arg7)) (e8 : w2 = m ((c.tc : Thread nD τ).loc main_arg8)) :
    (fun z => decayAt x g mu (z 0) (z 1) w0 w1 w2 (z 2)) = (dats m 0 c).arrAt 14 cfg0.N := by
  subst e0 e1 e2 e6 e7 e8
  exact (final14 m c).symm
theorem same15 {x : FVec Ideal S8x2048x1024 .f32} {g : FVec Ideal S1024 .f32} {mu : FVec Ideal S1x6x1024 .f32} {wk : FVec Ideal S1x1024x1024 .f32} {a0 : FVec Ideal S1x1024 .f32} {ka : FVec Ideal S1x1024 .f32} {a1 : FVec Ideal S1x1024x64 .f32} {a2 : FVec Ideal S1x64x1024 .f32} (e0 : x = m ((c.tc : Thread nD τ).loc main_arg0)) (e1 : g = m ((c.tc : Thread nD τ).loc main_arg1)) (e2 : mu = m ((c.tc : Thread nD τ).loc main_arg2)) (e4 : wk = m ((c.tc : Thread nD τ).loc main_arg4)) (e9 : a0 = m ((c.tc : Thread nD τ).loc main_arg9)) (e15 : ka = m ((c.tc : Thread nD τ).loc main_arg15)) (e10 : a1 = m ((c.tc : Thread nD τ).loc main_arg10)) (e11 : a2 = m ((c.tc : Thread nD τ).loc main_arg11)) :
    (fun z => keyAt x g mu (z 0) (z 1) wk a0 ka a1 a2 (z 2)) = (dats m 0 c).arrAt 15 cfg0.N := by
  subst e0 e1 e2 e4 e9 e15 e10 e11
  exact (final15 m c).symm
theorem same16 {x : FVec Ideal S8x2048x1024 .f32} {g : FVec Ideal S1024 .f32} {mu : FVec Ideal S1x6x1024 .f32} {wv : FVec Ideal S1x1024x1024 .f32} (e0 : x = m ((c.tc : Thread nD τ).loc main_arg0)) (e1 : g = m ((c.tc : Thread nD τ).loc main_arg1)) (e2 : mu = m ((c.tc : Thread nD τ).loc main_arg2)) (e5 : wv = m ((c.tc : Thread nD τ).loc main_arg5)) :
    (fun z => projectAt x g mu (z 0) (z 1) (z 2) 3 wv) = (dats m 0 c).arrAt 16 cfg0.N := by
  subst e0 e1 e2 e5
  exact (final16 m c).symm
theorem same17 {x : FVec Ideal S8x2048x1024 .f32} {g : FVec Ideal S1024 .f32} {mu : FVec Ideal S1x6x1024 .f32} {wk : FVec Ideal S1x1024x1024 .f32} {kk : FVec Ideal S1x1024 .f32} (e0 : x = m ((c.tc : Thread nD τ).loc main_arg0)) (e1 : g = m ((c.tc : Thread nD τ).loc main_arg1)) (e2 : mu = m ((c.tc : Thread nD τ).loc main_arg2)) (e4 : wk = m ((c.tc : Thread nD τ).loc main_arg4)) (e14 : kk = m ((c.tc : Thread nD τ).loc main_arg14)) :
    (fun z => removeAt x g mu (z 0) (z 1) wk kk (z 2)) = (dats m 0 c).arrAt 17 cfg0.N := by
  subst e0 e1 e2 e4 e14
  exact (final17 m c).symm
theorem same18 {x : FVec Ideal S8x2048x1024 .f32} {g : FVec Ideal S1024 .f32} {mu : FVec Ideal S1x6x1024 .f32} {a0 : FVec Ideal S1x1024 .f32} {a1 : FVec Ideal S1x1024x64 .f32} {a2 : FVec Ideal S1x64x1024 .f32} (e0 : x = m ((c.tc : Thread nD τ).loc main_arg0)) (e1 : g = m ((c.tc : Thread nD τ).loc main_arg1)) (e2 : mu = m ((c.tc : Thread nD τ).loc main_arg2)) (e9 : a0 = m ((c.tc : Thread nD τ).loc main_arg9)) (e10 : a1 = m ((c.tc : Thread nD τ).loc main_arg10)) (e11 : a2 = m ((c.tc : Thread nD τ).loc main_arg11)) :
    (fun z => rateAt x g mu (z 0) (z 1) a0 a1 a2 (z 2)) = (dats m 0 c).arrAt 18 cfg0.N := by
  subst e0 e1 e2 e9 e10 e11
  exact (final18 m c).symm
theorem same19 {x : FVec Ideal S8x2048x1024 .f32} {g : FVec Ideal S1024 .f32} {mu : FVec Ideal S1x6x1024 .f32} {g1 : FVec Ideal S1x1024x128 .f32} {g2 : FVec Ideal S1x128x1024 .f32} (e0 : x = m ((c.tc : Thread nD τ).loc main_arg0)) (e1 : g = m ((c.tc : Thread nD τ).loc main_arg1)) (e2 : mu = m ((c.tc : Thread nD τ).loc main_arg2)) (e12 : g1 = m ((c.tc : Thread nD τ).loc main_arg12)) (e13 : g2 = m ((c.tc : Thread nD τ).loc main_arg13)) :
    (fun z => gateAt x g mu (z 0) (z 1) g1 g2 (z 2)) = (dats m 0 c).arrAt 19 cfg0.N := by
  subst e0 e1 e2 e12 e13
  exact (final19 m c).symm

set_option maxHeartbeats 1600000 in
theorem algebraic_mix : Cert.algebraic_MixIdeal_MixRefIdeal := fun m ρ m' ρ' _ hagree => by
  refine ⟨fun c => (dats m 0 c).arrAt 13 cfg0.N,
    fun c => (dats m 0 c).arrAt 14 cfg0.N,
    fun c => (dats m 0 c).arrAt 15 cfg0.N,
    fun c => (dats m 0 c).arrAt 16 cfg0.N,
    fun c => (dats m 0 c).arrAt 17 cfg0.N,
    fun c => (dats m 0 c).arrAt 18 cfg0.N,
    fun c => (dats m 0 c).arrAt 19 cfg0.N,
    Cert.MixIdeal.Value.run_blocks m ρ, (θ_run Cert.MixRefIdeal.defs _ _).mono (fun r hr c => ?_) (Cert.MixRefIdeal.Value.run (F := Ideal) m' ρ')⟩
  obtain ⟨r13, r14, r15, r16, r17, r18, r19, rest⟩ := hr c
  obtain ⟨e0, e1, e2, e3, e4, e5, e6, e7, e8, e9, e10, e11, e12, e13, e14, e15⟩ := hagree c
  exact ⟨r13.trans ((Cert.MixRefIdeal.Pre.result_r _ _ _ _).trans (same13 m c e0 e1 e2 e3)),
    r14.trans ((Cert.MixRefIdeal.Pre.result_decay _ _ _ _ _ _).trans (same14 m c e0 e1 e2 e6 e7 e8)),
    r15.trans ((Cert.MixRefIdeal.Pre.result_key _ _ _ _ _ _ _ _).trans (same15 m c e0 e1 e2 e4 e9 e15 e10 e11)),
    r16.trans ((Cert.MixRefIdeal.Pre.result_v _ _ _ _).trans (same16 m c e0 e1 e2 e5)),
    r17.trans ((Cert.MixRefIdeal.Pre.result_remove _ _ _ _ _).trans (same17 m c e0 e1 e2 e4 e14)),
    r18.trans ((Cert.MixRefIdeal.Pre.result_rate _ _ _ _ _ _).trans (same18 m c e0 e1 e2 e9 e10 e11)),
    r19.trans ((Cert.MixRefIdeal.Pre.result_gate _ _ _ _ _).trans (same19 m c e0 e1 e2 e12 e13)), rest⟩

end Cert.MixIdeal.Pre
end
-- ==== Proof.lean ====
/-
  The proof of `Cert.Claim` (proofs.«01_k».proof.Defs): for the experts' kernel (Proof/MoeClaims.lean), the dense
  network's (Proof/FfnClaims.lean), the combination's (Proof/CombClaims.lean), that of the time mix's output
  (Proof/PostClaims.lean), that of the attention's projections (Proof/ProjClaims.lean) and that of the time mix's
  projections (Proof/MixClaims.lean), the frames of the kernel, of its reading in exact arithmetic and of its reference, and the equality of the two results in exact arithmetic.
-/
module

public import proofs.«01_k».proof.Defs
public import proofs.«01_k».proof.Proof.Gen.Moe
public import proofs.«01_k».proof.Proof.Gen.Moe.Skeleton
public import proofs.«01_k».proof.Proof.Gen.Moe.Launch
public import proofs.«01_k».proof.Proof.Gen.Moe.Flash
public import proofs.«01_k».proof.Proof.Gen.MoeIdeal
public import proofs.«01_k».proof.Proof.Gen.MoeIdeal.Skeleton
public import proofs.«01_k».proof.Proof.Gen.MoeIdeal.Launch
public import proofs.«01_k».proof.Proof.Gen.MoeIdeal.Flash
public import proofs.«01_k».proof.Proof.Gen.MoeRefIdeal
public import proofs.«01_k».proof.Proof.Gen.MoeRefIdeal.Run
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.Gen.Comb
public import proofs.«01_k».proof.Proof.Gen.Comb.Frame
public import proofs.«01_k».proof.Proof.Gen.CombIdeal
public import proofs.«01_k».proof.Proof.Gen.CombIdeal.Frame
public import proofs.«01_k».proof.Proof.Gen.CombIdeal.Skeleton
public import proofs.«01_k».proof.Proof.Gen.CombRefIdeal
public import proofs.«01_k».proof.Proof.Gen.CombRefIdeal.Run
public import proofs.«01_k».proof.Proof.Gen.Post
public import proofs.«01_k».proof.Proof.Gen.Post.Frame
public import proofs.«01_k».proof.Proof.Gen.PostIdeal
public import proofs.«01_k».proof.Proof.Gen.PostIdeal.Frame
public import proofs.«01_k».proof.Proof.Gen.PostIdeal.Value
public import proofs.«01_k».proof.Proof.Gen.PostRefIdeal
public import proofs.«01_k».proof.Proof.Gen.PostRefIdeal.Run
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Run
public import proofs.«01_k».proof.Proof.Gen.Mix
public import proofs.«01_k».proof.Proof.Gen.Mix.Frame
public import proofs.«01_k».proof.Proof.Gen.MixIdeal
public import proofs.«01_k».proof.Proof.Gen.MixIdeal.Frame
public import proofs.«01_k».proof.Proof.Gen.MixIdeal.Value
public import proofs.«01_k».proof.Proof.Gen.MixRefIdeal
public import proofs.«01_k».proof.Proof.Gen.MixRefIdeal.Run
public import proofs.«01_k».proof.Proof.Gen.Pre_group_ends
public import proofs.«01_k».proof.Proof.Gen.Pre_rows_exist
public import proofs.«01_k».proof.Proof.MoeClaims
public import proofs.«01_k».proof.Proof.FfnClaims
public import proofs.«01_k».proof.Proof.CombClaims
public import proofs.«01_k».proof.Proof.PostClaims
public import proofs.«01_k».proof.Proof.ProjClaims
public import proofs.«01_k».proof.Proof.MixClaims
public import Idealize.ShloMosaic.Adequacy
public import Idealize.ShloMosaic.Init

@[expose] public section

noncomputable section

namespace Cert.Proof

open Idealize.ShloMosaic Idealize.SL.Sem Cert.Moe

theorem claim : Cert.Claim :=
  ⟨Cert.Moe.Gen.facts, Cert.MoeIdeal.Gen.facts, Cert.MoeRefIdeal.Gen.facts, Cert.Ffn.Gen.facts, Cert.FfnIdeal.Gen.facts, Cert.FfnRefIdeal.Gen.facts,
  Cert.Comb.Gen.facts, Cert.CombIdeal.Gen.facts, Cert.CombRefIdeal.Gen.facts, Cert.Post.Gen.facts, Cert.PostIdeal.Gen.facts, Cert.PostRefIdeal.Gen.facts,
  Cert.Proj.Gen.facts, Cert.ProjIdeal.Gen.facts, Cert.ProjRefIdeal.Gen.facts,
  Cert.Mix.Gen.facts, Cert.MixIdeal.Gen.facts, Cert.MixRefIdeal.Gen.facts,
  Cert.Pre_group_ends.Gen.facts, Cert.Pre_rows_exist.Gen.facts,
  Cert.MoeIdeal.Experts.frame_moe, Cert.MoeIdeal.Experts.frame_moe_ideal, Cert.MoeIdeal.Experts.frame_moe_ref,
  Cert.FfnIdeal.Dense.frame_ffn, Cert.FfnIdeal.Dense.frame_ffn_ideal, Cert.FfnIdeal.Dense.frame_ffn_ref,
  Cert.CombIdeal.Combine.frame_comb, Cert.CombIdeal.Combine.frame_comb_ideal, Cert.CombIdeal.Combine.frame_comb_ref,
  Cert.PostIdeal.Mix.frame_post, Cert.PostIdeal.Mix.frame_post_ideal, Cert.PostIdeal.Mix.frame_post_ref,
  Cert.ProjIdeal.Attn.frame_proj, Cert.ProjIdeal.Attn.frame_proj_ideal, Cert.ProjIdeal.Attn.frame_proj_ref,
  Cert.MixIdeal.Pre.frame_mix, Cert.MixIdeal.Pre.frame_mix_ideal, Cert.MixIdeal.Pre.frame_mix_ref,
  trivial, Cert.MoeIdeal.Experts.algebraic_moe, trivial, Cert.FfnIdeal.Dense.algebraic_ffn, trivial, Cert.CombIdeal.Combine.algebraic_comb,
  trivial, Cert.PostIdeal.Mix.algebraic_post, trivial, Cert.ProjIdeal.Attn.algebraic_proj,
  trivial, Cert.MixIdeal.Pre.algebraic_mix⟩

end Cert.Proof

end
